-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_0)) (v2 : (c : Dev Cert.KernelIdeal.nD) → Buf (Elt Ideal) ((c.tc : Thread Cert.KernelIdeal.nD Cert.KernelIdeal.τ).loc Cert.KernelIdeal.main_v43_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_0) = v1 c
          ∧ r.2.mem ((c.tc : Thread Cert.KernelIdeal.nD Cert.KernelIdeal.τ).loc Cert.KernelIdeal.main_v43_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1323) = v0 c
          ∧ r.2.mem ((c.tc : Thread Cert.ReferenceIdeal.nD Cert.ReferenceIdeal.τ).loc Cert.ReferenceIdeal.main_v1323) = v1 c
          ∧ r.2.mem ((c.tc : Thread Cert.ReferenceIdeal.nD Cert.ReferenceIdeal.τ).loc Cert.ReferenceIdeal.main_v1331) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x22x64 : Shape := ⟨3, ![16384, 22, 64]⟩
abbrev S16384x22x16 : Shape := ⟨3, ![16384, 22, 16]⟩
abbrev S96x80 : Shape := ⟨2, ![96, 80]⟩
abbrev S96x32 : Shape := ⟨2, ![96, 32]⟩
abbrev S96 : Shape := ⟨1, ![96]⟩
abbrev S35 : Shape := ⟨1, ![35]⟩
abbrev S64x35 : Shape := ⟨2, ![64, 35]⟩
abbrev S64 : Shape := ⟨1, ![64]⟩
abbrev S32x64 : Shape := ⟨2, ![32, 64]⟩
abbrev S32 : Shape := ⟨1, ![32]⟩
abbrev S14x32 : Shape := ⟨2, ![14, 32]⟩
abbrev S14 : Shape := ⟨1, ![14]⟩
abbrev S192x80 : Shape := ⟨2, ![192, 80]⟩
abbrev S192x64 : Shape := ⟨2, ![192, 64]⟩
abbrev S192 : Shape := ⟨1, ![192]⟩
abbrev S64x128 : Shape := ⟨2, ![64, 128]⟩
abbrev S64x64 : Shape := ⟨2, ![64, 64]⟩
abbrev S_ : Shape := ⟨0, ![]⟩
abbrev S16384x1408 : Shape := ⟨2, ![16384, 1408]⟩
abbrev S16384x352 : Shape := ⟨2, ![16384, 352]⟩
abbrev S80x96 : Shape := ⟨2, ![80, 96]⟩
abbrev S32x96 : Shape := ⟨2, ![32, 96]⟩
abbrev S1x96 : Shape := ⟨2, ![1, 96]⟩
abbrev S1x35 : Shape := ⟨2, ![1, 35]⟩
abbrev S35x64 : Shape := ⟨2, ![35, 64]⟩
abbrev S1x64 : Shape := ⟨2, ![1, 64]⟩
abbrev S64x32 : Shape := ⟨2, ![64, 32]⟩
abbrev S1x32 : Shape := ⟨2, ![1, 32]⟩
abbrev S32x14 : Shape := ⟨2, ![32, 14]⟩
abbrev S1x14 : Shape := ⟨2, ![1, 14]⟩
abbrev S80x192 : Shape := ⟨2, ![80, 192]⟩
abbrev S64x192 : Shape := ⟨2, ![64, 192]⟩
abbrev S1x192 : Shape := ⟨2, ![1, 192]⟩
abbrev S128x64 : Shape := ⟨2, ![128, 64]⟩
abbrev S16384x64 : Shape := ⟨2, ![16384, 64]⟩
abbrev S1024x1408 : Shape := ⟨2, ![1024, 1408]⟩
abbrev S1024x352 : Shape := ⟨2, ![1024, 352]⟩
abbrev S1024x64 : Shape := ⟨2, ![1024, 64]⟩
abbrev S1024 : Shape := ⟨1, ![1024]⟩
abbrev S1024x1 : Shape := ⟨2, ![1024, 1]⟩
abbrev S1024x32 : Shape := ⟨2, ![1024, 32]⟩
abbrev S1024x16 : Shape := ⟨2, ![1024, 16]⟩
abbrev S1024x48 : Shape := ⟨2, ![1024, 48]⟩
abbrev S1024x80 : Shape := ⟨2, ![1024, 80]⟩
abbrev S22528x80 : Shape := ⟨2, ![22528, 80]⟩
abbrev S15360x80 : Shape := ⟨2, ![15360, 80]⟩
abbrev S15360x96 : Shape := ⟨2, ![15360, 96]⟩
abbrev S1024x96 : Shape := ⟨2, ![1024, 96]⟩
abbrev S1024x35 : Shape := ⟨2, ![1024, 35]⟩
abbrev S1024x14 : Shape := ⟨2, ![1024, 14]⟩
abbrev S8192x80 : Shape := ⟨2, ![8192, 80]⟩
abbrev S8192x192 : Shape := ⟨2, ![8192, 192]⟩
abbrev S1024x192 : Shape := ⟨2, ![1024, 192]⟩
abbrev S1024x128 : Shape := ⟨2, ![1024, 128]⟩

abbrev nBuf : Space → Nat
  | .hbm => 76
  | .vmem => 36
  | .smem => 0
  | _ => 0

abbrev bufTy : (tb : Table) → Fin (tcTables nBuf tb) → BufTy
  | .hbm, ⟨0, _⟩ => ⟨S16384x22x64, .f32⟩
  | .hbm, ⟨1, _⟩ => ⟨S16384x22x16, .f32⟩
  | .hbm, ⟨2, _⟩ => ⟨S96x80, .f32⟩
  | .hbm, ⟨3, _⟩ => ⟨S96x32, .f32⟩
  | .hbm, ⟨4, _⟩ => ⟨S96, .f32⟩
  | .hbm, ⟨5, _⟩ => ⟨S96, .f32⟩
  | .hbm, ⟨6, _⟩ => ⟨S35, .f32⟩
  | .hbm, ⟨7, _⟩ => ⟨S35, .f32⟩
  | .hbm, ⟨8, _⟩ => ⟨S64x35, .f32⟩
  | .hbm, ⟨9, _⟩ => ⟨S64, .f32⟩
  | .hbm, ⟨10, _⟩ => ⟨S32x64, .f32⟩
  | .hbm, ⟨11, _⟩ => ⟨S32, .f32⟩
  | .hbm, ⟨12, _⟩ => ⟨S14x32, .f32⟩
  | .hbm, ⟨13, _⟩ => ⟨S14, .f32⟩
  | .hbm, ⟨14, _⟩ => ⟨S192x80, .f32⟩
  | .hbm, ⟨15, _⟩ => ⟨S192x64, .f32⟩
  | .hbm, ⟨16, _⟩ => ⟨S192, .f32⟩
  | .hbm, ⟨17, _⟩ => ⟨S192, .f32⟩
  | .hbm, ⟨18, _⟩ => ⟨S192x80, .f32⟩
  | .hbm, ⟨19, _⟩ => ⟨S192x64, .f32⟩
  | .hbm, ⟨20, _⟩ => ⟨S192, .f32⟩
  | .hbm, ⟨21, _⟩ => ⟨S192, .f32⟩
  | .hbm, ⟨22, _⟩ => ⟨S64x128, .f32⟩
  | .hbm, ⟨23, _⟩ => ⟨S64, .f32⟩
  | .hbm, ⟨24, _⟩ => ⟨S64x64, .f32⟩
  | .hbm, ⟨25, _⟩ => ⟨S64, .f32⟩
  | .hbm, ⟨26, _⟩ => ⟨S64x64, .f32⟩
  | .hbm, ⟨27, _⟩ => ⟨S64, .f32⟩
  | .hbm, ⟨28, _⟩ => ⟨S64x64, .f32⟩
  | .hbm, ⟨29, _⟩ => ⟨S64, .f32⟩
  | .hbm, ⟨30, _⟩ => ⟨S_, .i32⟩
  | .hbm, ⟨31, _⟩ => ⟨S16384x1408, .f32⟩
  | .hbm, ⟨32, _⟩ => ⟨S16384x352, .f32⟩
  | .hbm, ⟨33, _⟩ => ⟨S80x96, .f32⟩
  | .hbm, ⟨34, _⟩ => ⟨S80x96, .bf16⟩
  | .hbm, ⟨35, _⟩ => ⟨S32x96, .f32⟩
  | .hbm, ⟨36, _⟩ => ⟨S32x96, .bf16⟩
  | .hbm, ⟨37, _⟩ => ⟨S1x96, .f32⟩
  | .hbm, ⟨38, _⟩ => ⟨S1x96, .f32⟩
  | .hbm, ⟨39, _⟩ => ⟨S1x35, .f32⟩
  | .hbm, ⟨40, _⟩ => ⟨S1x35, .f32⟩
  | .hbm, ⟨41, _⟩ => ⟨S35x64, .f32⟩
  | .hbm, ⟨42, _⟩ => ⟨S35x64, .bf16⟩
  | .hbm, ⟨43, _⟩ => ⟨S1x64, .f32⟩
  | .hbm, ⟨44, _⟩ => ⟨S64x32, .f32⟩
  | .hbm, ⟨45, _⟩ => ⟨S64x32, .bf16⟩
  | .hbm, ⟨46, _⟩ => ⟨S1x32, .f32⟩
  | .hbm, ⟨47, _⟩ => ⟨S32x14, .f32⟩
  | .hbm, ⟨48, _⟩ => ⟨S32x14, .bf16⟩
  | .hbm, ⟨49, _⟩ => ⟨S1x14, .f32⟩
  | .hbm, ⟨50, _⟩ => ⟨S80x192, .f32⟩
  | .hbm, ⟨51, _⟩ => ⟨S80x192, .bf16⟩
  | .hbm, ⟨52, _⟩ => ⟨S64x192, .f32⟩
  | .hbm, ⟨53, _⟩ => ⟨S64x192, .bf16⟩
  | .hbm, ⟨54, _⟩ => ⟨S1x192, .f32⟩
  | .hbm, ⟨55, _⟩ => ⟨S1x192, .f32⟩
  | .hbm, ⟨56, _⟩ => ⟨S80x192, .f32⟩
  | .hbm, ⟨57, _⟩ => ⟨S80x192, .bf16⟩
  | .hbm, ⟨58, _⟩ => ⟨S64x192, .f32⟩
  | .hbm, ⟨59, _⟩ => ⟨S64x192, .bf16⟩
  | .hbm, ⟨60, _⟩ => ⟨S1x192, .f32⟩
  | .hbm, ⟨61, _⟩ => ⟨S1x192, .f32⟩
  | .hbm, ⟨62, _⟩ => ⟨S128x64, .f32⟩
  | .hbm, ⟨63, _⟩ => ⟨S128x64, .bf16⟩
  | .hbm, ⟨64, _⟩ => ⟨S1x64, .f32⟩
  | .hbm, ⟨65, _⟩ => ⟨S64x64, .f32⟩
  | .hbm, ⟨66, _⟩ => ⟨S64x64, .bf16⟩
  | .hbm, ⟨67, _⟩ => ⟨S1x64, .f32⟩
  | .hbm, ⟨68, _⟩ => ⟨S64x64, .f32⟩
  | .hbm, ⟨69, _⟩ => ⟨S64x64, .bf16⟩
  | .hbm, ⟨70, _⟩ => ⟨S1x64, .f32⟩
  | .hbm, ⟨71, _⟩ => ⟨S64x64, .f32⟩
  | .hbm, ⟨72, _⟩ => ⟨S64x64, .bf16⟩
  | .hbm, ⟨73, _⟩ => ⟨S1x64, .f32⟩
  | .hbm, ⟨74, _⟩ => ⟨S16384x64, .f32⟩
  | .hbm, ⟨75, _⟩ => ⟨S16384x64, .f32⟩
  | .local _ .vmem, ⟨0, _⟩ => ⟨S1024x1408, .f32⟩
  | .local _ .vmem, ⟨1, _⟩ => ⟨S1024x1408, .f32⟩
  | .local _ .vmem, ⟨2, _⟩ => ⟨S1024x352, .f32⟩
  | .local _ .vmem, ⟨3, _⟩ => ⟨S1024x352, .f32⟩
  | .local _ .vmem, ⟨4, _⟩ => ⟨S80x96, .bf16⟩
  | .local _ .vmem, ⟨5, _⟩ => ⟨S32x96, .bf16⟩
  | .local _ .vmem, ⟨6, _⟩ => ⟨S1x96, .f32⟩
  | .local _ .vmem, ⟨7, _⟩ => ⟨S1x96, .f32⟩
  | .local _ .vmem, ⟨8, _⟩ => ⟨S1x35, .f32⟩
  | .local _ .vmem, ⟨9, _⟩ => ⟨S1x35, .f32⟩
  | .local _ .vmem, ⟨10, _⟩ => ⟨S35x64, .bf16⟩
  | .local _ .vmem, ⟨11, _⟩ => ⟨S1x64, .f32⟩
  | .local _ .vmem, ⟨12, _⟩ => ⟨S64x32, .bf16⟩
  | .local _ .vmem, ⟨13, _⟩ => ⟨S1x32, .f32⟩
  | .local _ .vmem, ⟨14, _⟩ => ⟨S32x14, .bf16⟩
  | .local _ .vmem, ⟨15, _⟩ => ⟨S1x14, .f32⟩
  | .local _ .vmem, ⟨16, _⟩ => ⟨S80x192, .bf16⟩
  | .local _ .vmem, ⟨17, _⟩ => ⟨S64x192, .bf16⟩
  | .local _ .vmem, ⟨18, _⟩ => ⟨S1x192, .f32⟩
  | .local _ .vmem, ⟨19, _⟩ => ⟨S1x192, .f32⟩
  | .local _ .vmem, ⟨20, _⟩ => ⟨S80x192, .bf16⟩
  | .local _ .vmem, ⟨21, _⟩ => ⟨S64x192, .bf16⟩
  | .local _ .vmem, ⟨22, _⟩ => ⟨S1x192, .f32⟩
  | .local _ .vmem, ⟨23, _⟩ => ⟨S1x192, .f32⟩
  | .local _ .vmem, ⟨24, _⟩ => ⟨S128x64, .bf16⟩
  | .local _ .vmem, ⟨25, _⟩ => ⟨S1x64, .f32⟩
  | .local _ .vmem, ⟨26, _⟩ => ⟨S64x64, .bf16⟩
  | .local _ .vmem, ⟨27, _⟩ => ⟨S1x64, .f32⟩
  | .local _ .vmem, ⟨28, _⟩ => ⟨S64x64, .bf16⟩
  | .local _ .vmem, ⟨29, _⟩ => ⟨S1x64, .f32⟩
  | .local _ .vmem, ⟨30, _⟩ => ⟨S64x64, .bf16⟩
  | .local _ .vmem, ⟨31, _⟩ => ⟨S1x64, .f32⟩
  | .local _ .vmem, ⟨32, _⟩ => ⟨S1024x64, .f32⟩
  | .local _ .vmem, ⟨33, _⟩ => ⟨S1024x64, .f32⟩
  | .local _ .vmem, ⟨34, _⟩ => ⟨S1024x64, .f32⟩
  | .local _ .vmem, ⟨35, _⟩ => ⟨S1024x64, .f32⟩
  | _, _ => ⟨S16384x22x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43_0 : Ref sig .tc := ⟨.hbm, 74, rfl⟩
abbrev main_v43_1 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg27_0 : Ref sig .tc := ⟨.vmem, 29, rfl⟩
abbrev cc0_stg28_0 : Ref sig .tc := ⟨.vmem, 30, rfl⟩
abbrev cc0_stg29_0 : Ref sig .tc := ⟨.vmem, 31, rfl⟩
abbrev cc0_stg30_0 : Ref sig .tc := ⟨.vmem, 32, rfl⟩
abbrev cc0_stg30_1 : Ref sig .tc := ⟨.vmem, 33, rfl⟩
abbrev cc0_stg31_0 : Ref sig .tc := ⟨.vmem, 34, rfl⟩
abbrev cc0_stg31_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem27_0 : DmaSem sig := 29
abbrev cc0_sem28_0 : DmaSem sig := 30
abbrev cc0_sem29_0 : DmaSem sig := 31
abbrev cc0_sem30_0 : DmaSem sig := 32
abbrev cc0_sem30_1 : DmaSem sig := 33
abbrev cc0_sem31_0 : DmaSem sig := 34
abbrev cc0_sem31_1 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S80x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x96 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x35 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x35 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S35x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x32 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x14 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x14 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S80x192 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x192 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x192 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x192 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S80x192 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S64x192 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x192 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x192 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128x64 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S64x64 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x64 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S64x64 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x64 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S64x64 .bf16 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1x64 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 2 → Memref sig .tc .vmem S1024x64 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1024x64 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]
-- ==== ReferenceIdeal.lean ====
abbrev S16384x22x64 : Shape := ⟨3, ![16384, 22, 64]⟩
abbrev S16384x22x16 : Shape := ⟨3, ![16384, 22, 16]⟩
abbrev S96x80 : Shape := ⟨2, ![96, 80]⟩
abbrev S96x32 : Shape := ⟨2, ![96, 32]⟩
abbrev S96 : Shape := ⟨1, ![96]⟩
abbrev S35 : Shape := ⟨1, ![35]⟩
abbrev S64x35 : Shape := ⟨2, ![64, 35]⟩
abbrev S64 : Shape := ⟨1, ![64]⟩
abbrev S32x64 : Shape := ⟨2, ![32, 64]⟩
abbrev S32 : Shape := ⟨1, ![32]⟩
abbrev S14x32 : Shape := ⟨2, ![14, 32]⟩
abbrev S14 : Shape := ⟨1, ![14]⟩
abbrev S192x80 : Shape := ⟨2, ![192, 80]⟩
abbrev S192x64 : Shape := ⟨2, ![192, 64]⟩
abbrev S192 : Shape := ⟨1, ![192]⟩
abbrev S64x128 : Shape := ⟨2, ![64, 128]⟩
abbrev S64x64 : Shape := ⟨2, ![64, 64]⟩
abbrev S_ : Shape := ⟨0, ![]⟩
abbrev S16384x15x64 : Shape := ⟨3, ![16384, 15, 64]⟩
abbrev S16384x15x16 : Shape := ⟨3, ![16384, 15, 16]⟩
abbrev S16384x1x64 : Shape := ⟨3, ![16384, 1, 64]⟩
abbrev S16384x64 : Shape := ⟨2, ![16384, 64]⟩
abbrev S16384 : Shape := ⟨1, ![16384]⟩
abbrev S16384x1 : Shape := ⟨2, ![16384, 1]⟩
abbrev S16384x3 : Shape := ⟨2, ![16384, 3]⟩
abbrev S16384x1x16 : Shape := ⟨3, ![16384, 1, 16]⟩
abbrev S16384x16 : Shape := ⟨2, ![16384, 16]⟩
abbrev S16384x15x80 : Shape := ⟨3, ![16384, 15, 80]⟩
abbrev S80x96 : Shape := ⟨2, ![80, 96]⟩
abbrev S32x96 : Shape := ⟨2, ![32, 96]⟩
abbrev S1x96 : Shape := ⟨2, ![1, 96]⟩
abbrev S16384x32 : Shape := ⟨2, ![16384, 32]⟩
abbrev S16384x1x80 : Shape := ⟨3, ![16384, 1, 80]⟩
abbrev S16384x80 : Shape := ⟨2, ![16384, 80]⟩
abbrev S16384x96 : Shape := ⟨2, ![16384, 96]⟩
abbrev S16384x35 : Shape := ⟨2, ![16384, 35]⟩
abbrev S1x35 : Shape := ⟨2, ![1, 35]⟩
abbrev S35x64 : Shape := ⟨2, ![35, 64]⟩
abbrev S1x64 : Shape := ⟨2, ![1, 64]⟩
abbrev S64x32 : Shape := ⟨2, ![64, 32]⟩
abbrev S1x32 : Shape := ⟨2, ![1, 32]⟩
abbrev S32x14 : Shape := ⟨2, ![32, 14]⟩
abbrev S16384x14 : Shape := ⟨2, ![16384, 14]⟩
abbrev S1x14 : Shape := ⟨2, ![1, 14]⟩
abbrev S15 : Shape := ⟨1, ![15]⟩
abbrev S1x15 : Shape := ⟨2, ![1, 15]⟩
abbrev S16384x15 : Shape := ⟨2, ![16384, 15]⟩
abbrev S16384x15x1 : Shape := ⟨3, ![16384, 15, 1]⟩
abbrev S8 : Shape := ⟨1, ![8]⟩
abbrev S1x8 : Shape := ⟨2, ![1, 8]⟩
abbrev S16384x8 : Shape := ⟨2, ![16384, 8]⟩
abbrev S16384x8x1 : Shape := ⟨3, ![16384, 8, 1]⟩
abbrev S1 : Shape := ⟨1, ![1]⟩
abbrev S1x1x1 : Shape := ⟨3, ![1, 1, 1]⟩
abbrev S16384x8x80 : Shape := ⟨3, ![16384, 8, 80]⟩
abbrev S80x192 : Shape := ⟨2, ![80, 192]⟩
abbrev S64x192 : Shape := ⟨2, ![64, 192]⟩
abbrev S1x192 : Shape := ⟨2, ![1, 192]⟩
abbrev S16384x192 : Shape := ⟨2, ![16384, 192]⟩
abbrev S16384x128 : Shape := ⟨2, ![16384, 128]⟩
abbrev S128x64 : Shape := ⟨2, ![128, 64]⟩

abbrev nBuf : Space → Nat
  | .hbm => 1585
  | .vmem => 0
  | .smem => 0
  | _ => 0

abbrev hbmTy0_0 (i : Nat) : BufTy := match i % 128 with
  | 0 => ⟨S16384x22x64, .f32⟩
  | 1 => ⟨S16384x22x16, .f32⟩
  | 2 => ⟨S96x80, .f32⟩
  | 3 => ⟨S96x32, .f32⟩
  | 4 => ⟨S96, .f32⟩
  | 5 => ⟨S96, .f32⟩
  | 6 => ⟨S35, .f32⟩
  | 7 => ⟨S35, .f32⟩
  | 8 => ⟨S64x35, .f32⟩
  | 9 => ⟨S64, .f32⟩
  | 10 => ⟨S32x64, .f32⟩
  | 11 => ⟨S32, .f32⟩
  | 12 => ⟨S14x32, .f32⟩
  | 13 => ⟨S14, .f32⟩
  | 14 => ⟨S192x80, .f32⟩
  | 15 => ⟨S192x64, .f32⟩
  | 16 => ⟨S192, .f32⟩
  | 17 => ⟨S192, .f32⟩
  | 18 => ⟨S192x80, .f32⟩
  | 19 => ⟨S192x64, .f32⟩
  | 20 => ⟨S192, .f32⟩
  | 21 => ⟨S192, .f32⟩
  | 22 => ⟨S64x128, .f32⟩
  | 23 => ⟨S64, .f32⟩
  | 24 => ⟨S64x64, .f32⟩
  | 25 => ⟨S64, .f32⟩
  | 26 => ⟨S64x64, .f32⟩
  | 27 => ⟨S64, .f32⟩
  | 28 => ⟨S64x64, .f32⟩
  | 29 => ⟨S64, .f32⟩
  | 30 => ⟨S_, .i32⟩
  | 31 => ⟨S16384x15x64, .f32⟩
  | 32 => ⟨S16384x15x16, .f32⟩
  | 33 => ⟨S16384x1x64, .f32⟩
  | 34 => ⟨S16384x64, .f32⟩
  | 35 => ⟨S_, .f32⟩
  | 36 => ⟨S16384, .f32⟩
  | 37 => ⟨S_, .f32⟩
  | 38 => ⟨S16384, .f32⟩
  | 39 => ⟨S16384, .f32⟩
  | 40 => ⟨S16384x1, .f32⟩
  | 41 => ⟨S16384x64, .f32⟩
  | 42 => ⟨S16384x64, .f32⟩
  | 43 => ⟨S16384x64, .f32⟩
  | 44 => ⟨S_, .f32⟩
  | 45 => ⟨S16384, .f32⟩
  | 46 => ⟨S16384x1, .f32⟩
  | 47 => ⟨S16384x64, .f32⟩
  | 48 => ⟨S16384x64, .f32⟩
  | 49 => ⟨S_, .f32⟩
  | 50 => ⟨S16384x64, .f32⟩
  | 51 => ⟨S16384x64, .f32⟩
  | 52 => ⟨S16384x64, .f32⟩
  | 53 => ⟨S16384x64, .f32⟩
  | 54 => ⟨S_, .f32⟩
  | 55 => ⟨S16384, .f32⟩
  | 56 => ⟨S16384x1, .f32⟩
  | 57 => ⟨S16384x1, .f32⟩
  | 58 => ⟨S16384x1x64, .f32⟩
  | 59 => ⟨S16384x64, .f32⟩
  | 60 => ⟨S16384x1x64, .f32⟩
  | 61 => ⟨S16384x64, .f32⟩
  | 62 => ⟨S16384x64, .f32⟩
  | 63 => ⟨S16384x64, .f32⟩
  | 64 => ⟨S_, .f32⟩
  | 65 => ⟨S16384, .f32⟩
  | 66 => ⟨S16384, .f32⟩
  | 67 => ⟨S16384x1x64, .f32⟩
  | 68 => ⟨S16384x64, .f32⟩
  | 69 => ⟨S16384x1x64, .f32⟩
  | 70 => ⟨S16384x64, .f32⟩
  | 71 => ⟨S16384x64, .f32⟩
  | 72 => ⟨S16384x64, .f32⟩
  | 73 => ⟨S_, .f32⟩
  | 74 => ⟨S16384, .f32⟩
  | 75 => ⟨S16384, .f32⟩
  | 76 => ⟨S16384x1x64, .f32⟩
  | 77 => ⟨S16384x64, .f32⟩
  | 78 => ⟨S16384x1x64, .f32⟩
  | 79 => ⟨S16384x64, .f32⟩
  | 80 => ⟨S16384x64, .f32⟩
  | 81 => ⟨S16384x64, .f32⟩
  | 82 => ⟨S_, .f32⟩
  | 83 => ⟨S16384, .f32⟩
  | 84 => ⟨S16384, .f32⟩
  | 85 => ⟨S16384x1, .f32⟩
  | 86 => ⟨S16384x1, .f32⟩
  | 87 => ⟨S16384x1, .f32⟩
  | 88 => ⟨S16384x3, .f32⟩
  | 89 => ⟨S_, .f32⟩
  | 90 => ⟨S16384, .f32⟩
  | 91 => ⟨S16384x1, .f32⟩
  | 92 => ⟨S_, .f32⟩
  | 93 => ⟨S16384x1, .f32⟩
  | 94 => ⟨S16384x1, .f32⟩
  | 95 => ⟨S16384x1x16, .f32⟩
  | 96 => ⟨S16384x16, .f32⟩
  | 97 => ⟨S_, .i32⟩
  | 98 => ⟨S_, .f32⟩
  | 99 => ⟨S16384x64, .f32⟩
  | 100 => ⟨S_, .i32⟩
  | 101 => ⟨S_, .f32⟩
  | 102 => ⟨S16384x64, .f32⟩
  | 103 => ⟨S_, .f32⟩
  | 104 => ⟨S16384, .f32⟩
  | 105 => ⟨S16384x1, .f32⟩
  | 106 => ⟨S_, .f32⟩
  | 107 => ⟨S16384x1, .f32⟩
  | 108 => ⟨S16384x1, .f32⟩
  | 109 => ⟨S16384x64, .f32⟩
  | 110 => ⟨S16384x64, .f32⟩
  | 111 => ⟨S_, .f32⟩
  | 112 => ⟨S16384, .f32⟩
  | 113 => ⟨S16384x1, .f32⟩
  | 114 => ⟨S_, .f32⟩
  | 115 => ⟨S16384x1, .f32⟩
  | 116 => ⟨S16384x1, .f32⟩
  | 117 => ⟨S16384x64, .f32⟩
  | 118 => ⟨S16384x64, .f32⟩
  | 119 => ⟨S16384x64, .f32⟩
  | 120 => ⟨S_, .f32⟩
  | 121 => ⟨S16384, .f32⟩
  | 122 => ⟨S16384x1, .f32⟩
  | 123 => ⟨S16384x1, .f32⟩
  | 124 => ⟨S16384x64, .f32⟩
  | 125 => ⟨S_, .f32⟩
  | 126 => ⟨S16384, .f32⟩
  | 127 => ⟨S16384x1, .f32⟩
  | _ => ⟨S16384x22x64, .f32⟩

abbrev hbmTy0_1 (i : Nat) : BufTy := match i % 128 with
  | 0 => ⟨S16384x1, .f32⟩
  | 1 => ⟨S16384x1, .f32⟩
  | 2 => ⟨S_, .f32⟩
  | 3 => ⟨S16384x1, .f32⟩
  | 4 => ⟨S16384x1, .f32⟩
  | 5 => ⟨S16384x64, .f32⟩
  | 6 => ⟨S_, .f32⟩
  | 7 => ⟨S16384, .f32⟩
  | 8 => ⟨S16384x1, .f32⟩
  | 9 => ⟨S16384x1, .f32⟩
  | 10 => ⟨S16384x15x80, .f32⟩
  | 11 => ⟨S80x96, .f32⟩
  | 12 => ⟨S32x96, .f32⟩
  | 13 => ⟨S1x96, .f32⟩
  | 14 => ⟨S1x96, .f32⟩
  | 15 => ⟨S_, .f32⟩
  | 16 => ⟨S16384x32, .f32⟩
  | 17 => ⟨S_, .f32⟩
  | 18 => ⟨S16384x32, .f32⟩
  | 19 => ⟨S16384x1x80, .f32⟩
  | 20 => ⟨S16384x80, .f32⟩
  | 21 => ⟨S16384x96, .f32⟩
  | 22 => ⟨S16384x96, .f32⟩
  | 23 => ⟨S16384x96, .f32⟩
  | 24 => ⟨S16384x96, .f32⟩
  | 25 => ⟨S16384x96, .f32⟩
  | 26 => ⟨S16384x96, .f32⟩
  | 27 => ⟨S16384x32, .f32⟩
  | 28 => ⟨S16384x32, .f32⟩
  | 29 => ⟨S16384x32, .f32⟩
  | 30 => ⟨S16384x32, .f32⟩
  | 31 => ⟨S16384x32, .f32⟩
  | 32 => ⟨S16384x32, .f32⟩
  | 33 => ⟨S16384x32, .f32⟩
  | 34 => ⟨S16384x32, .f32⟩
  | 35 => ⟨S16384x32, .f32⟩
  | 36 => ⟨S16384x32, .f32⟩
  | 37 => ⟨S16384x32, .f32⟩
  | 38 => ⟨S16384x32, .f32⟩
  | 39 => ⟨S16384x32, .f32⟩
  | 40 => ⟨S16384x32, .f32⟩
  | 41 => ⟨S16384x32, .f32⟩
  | 42 => ⟨S16384x32, .f32⟩
  | 43 => ⟨S16384x32, .f32⟩
  | 44 => ⟨S16384x32, .f32⟩
  | 45 => ⟨S16384x32, .f32⟩
  | 46 => ⟨S16384x32, .f32⟩
  | 47 => ⟨S16384x32, .f32⟩
  | 48 => ⟨S16384x32, .f32⟩
  | 49 => ⟨S16384x32, .f32⟩
  | 50 => ⟨S16384x1x80, .f32⟩
  | 51 => ⟨S16384x80, .f32⟩
  | 52 => ⟨S16384x96, .f32⟩
  | 53 => ⟨S16384x96, .f32⟩
  | 54 => ⟨S16384x96, .f32⟩
  | 55 => ⟨S16384x96, .f32⟩
  | 56 => ⟨S16384x96, .f32⟩
  | 57 => ⟨S16384x96, .f32⟩
  | 58 => ⟨S16384x32, .f32⟩
  | 59 => ⟨S16384x32, .f32⟩
  | 60 => ⟨S16384x32, .f32⟩
  | 61 => ⟨S16384x32, .f32⟩
  | 62 => ⟨S16384x32, .f32⟩
  | 63 => ⟨S16384x32, .f32⟩
  | 64 => ⟨S16384x32, .f32⟩
  | 65 => ⟨S16384x32, .f32⟩
  | 66 => ⟨S16384x32, .f32⟩
  | 67 => ⟨S16384x32, .f32⟩
  | 68 => ⟨S16384x32, .f32⟩
  | 69 => ⟨S16384x32, .f32⟩
  | 70 => ⟨S16384x32, .f32⟩
  | 71 => ⟨S16384x32, .f32⟩
  | 72 => ⟨S16384x32, .f32⟩
  | 73 => ⟨S16384x32, .f32⟩
  | 74 => ⟨S16384x32, .f32⟩
  | 75 => ⟨S16384x32, .f32⟩
  | 76 => ⟨S16384x32, .f32⟩
  | 77 => ⟨S16384x32, .f32⟩
  | 78 => ⟨S16384x32, .f32⟩
  | 79 => ⟨S16384x32, .f32⟩
  | 80 => ⟨S16384x32, .f32⟩
  | 81 => ⟨S16384x1x80, .f32⟩
  | 82 => ⟨S16384x80, .f32⟩
  | 83 => ⟨S16384x96, .f32⟩
  | 84 => ⟨S16384x96, .f32⟩
  | 85 => ⟨S16384x96, .f32⟩
  | 86 => ⟨S16384x96, .f32⟩
  | 87 => ⟨S16384x96, .f32⟩
  | 88 => ⟨S16384x96, .f32⟩
  | 89 => ⟨S16384x32, .f32⟩
  | 90 => ⟨S16384x32, .f32⟩
  | 91 => ⟨S16384x32, .f32⟩
  | 92 => ⟨S16384x32, .f32⟩
  | 93 => ⟨S16384x32, .f32⟩
  | 94 => ⟨S16384x32, .f32⟩
  | 95 => ⟨S16384x32, .f32⟩
  | 96 => ⟨S16384x32, .f32⟩
  | 97 => ⟨S16384x32, .f32⟩
  | 98 => ⟨S16384x32, .f32⟩
  | 99 => ⟨S16384x32, .f32⟩
  | 100 => ⟨S16384x32, .f32⟩
  | 101 => ⟨S16384x32, .f32⟩
  | 102 => ⟨S16384x32, .f32⟩
  | 103 => ⟨S16384x32, .f32⟩
  | 104 => ⟨S16384x32, .f32⟩
  | 105 => ⟨S16384x32, .f32⟩
  | 106 => ⟨S16384x32, .f32⟩
  | 107 => ⟨S16384x32, .f32⟩
  | 108 => ⟨S16384x32, .f32⟩
  | 109 => ⟨S16384x32, .f32⟩
  | 110 => ⟨S16384x32, .f32⟩
  | 111 => ⟨S16384x32, .f32⟩
  | 112 => ⟨S16384x1x80, .f32⟩
  | 113 => ⟨S16384x80, .f32⟩
  | 114 => ⟨S16384x96, .f32⟩
  | 115 => ⟨S16384x96, .f32⟩
  | 116 => ⟨S16384x96, .f32⟩
  | 117 => ⟨S16384x96, .f32⟩
  | 118 => ⟨S16384x96, .f32⟩
  | 119 => ⟨S16384x96, .f32⟩
  | 120 => ⟨S16384x32, .f32⟩
  | 121 => ⟨S16384x32, .f32⟩
  | 122 => ⟨S16384x32, .f32⟩
  | 123 => ⟨S16384x32, .f32⟩
  | 124 => ⟨S16384x32, .f32⟩
  | 125 => ⟨S16384x32, .f32⟩
  | 126 => ⟨S16384x32, .f32⟩
  | 127 => ⟨S16384x32, .f32⟩
  | _ => ⟨S16384x22x64, .f32⟩

abbrev hbmTy0_2 (i : Nat) : BufTy := match i % 128 with
  | 0 => ⟨S16384x32, .f32⟩
  | 1 => ⟨S16384x32, .f32⟩
  | 2 => ⟨S16384x32, .f32⟩
  | 3 => ⟨S16384x32, .f32⟩
  | 4 => ⟨S16384x32, .f32⟩
  | 5 => ⟨S16384x32, .f32⟩
  | 6 => ⟨S16384x32, .f32⟩
  | 7 => ⟨S16384x32, .f32⟩
  | 8 => ⟨S16384x32, .f32⟩
  | 9 => ⟨S16384x32, .f32⟩
  | 10 => ⟨S16384x32, .f32⟩
  | 11 => ⟨S16384x32, .f32⟩
  | 12 => ⟨S16384x32, .f32⟩
  | 13 => ⟨S16384x32, .f32⟩
  | 14 => ⟨S16384x32, .f32⟩
  | 15 => ⟨S16384x1x80, .f32⟩
  | 16 => ⟨S16384x80, .f32⟩
  | 17 => ⟨S16384x96, .f32⟩
  | 18 => ⟨S16384x96, .f32⟩
  | 19 => ⟨S16384x96, .f32⟩
  | 20 => ⟨S16384x96, .f32⟩
  | 21 => ⟨S16384x96, .f32⟩
  | 22 => ⟨S16384x96, .f32⟩
  | 23 => ⟨S16384x32, .f32⟩
  | 24 => ⟨S16384x32, .f32⟩
  | 25 => ⟨S16384x32, .f32⟩
  | 26 => ⟨S16384x32, .f32⟩
  | 27 => ⟨S16384x32, .f32⟩
  | 28 => ⟨S16384x32, .f32⟩
  | 29 => ⟨S16384x32, .f32⟩
  | 30 => ⟨S16384x32, .f32⟩
  | 31 => ⟨S16384x32, .f32⟩
  | 32 => ⟨S16384x32, .f32⟩
  | 33 => ⟨S16384x32, .f32⟩
  | 34 => ⟨S16384x32, .f32⟩
  | 35 => ⟨S16384x32, .f32⟩
  | 36 => ⟨S16384x32, .f32⟩
  | 37 => ⟨S16384x32, .f32⟩
  | 38 => ⟨S16384x32, .f32⟩
  | 39 => ⟨S16384x32, .f32⟩
  | 40 => ⟨S16384x32, .f32⟩
  | 41 => ⟨S16384x32, .f32⟩
  | 42 => ⟨S16384x32, .f32⟩
  | 43 => ⟨S16384x32, .f32⟩
  | 44 => ⟨S16384x32, .f32⟩
  | 45 => ⟨S16384x32, .f32⟩
  | 46 => ⟨S16384x1x80, .f32⟩
  | 47 => ⟨S16384x80, .f32⟩
  | 48 => ⟨S16384x96, .f32⟩
  | 49 => ⟨S16384x96, .f32⟩
  | 50 => ⟨S16384x96, .f32⟩
  | 51 => ⟨S16384x96, .f32⟩
  | 52 => ⟨S16384x96, .f32⟩
  | 53 => ⟨S16384x96, .f32⟩
  | 54 => ⟨S16384x32, .f32⟩
  | 55 => ⟨S16384x32, .f32⟩
  | 56 => ⟨S16384x32, .f32⟩
  | 57 => ⟨S16384x32, .f32⟩
  | 58 => ⟨S16384x32, .f32⟩
  | 59 => ⟨S16384x32, .f32⟩
  | 60 => ⟨S16384x32, .f32⟩
  | 61 => ⟨S16384x32, .f32⟩
  | 62 => ⟨S16384x32, .f32⟩
  | 63 => ⟨S16384x32, .f32⟩
  | 64 => ⟨S16384x32, .f32⟩
  | 65 => ⟨S16384x32, .f32⟩
  | 66 => ⟨S16384x32, .f32⟩
  | 67 => ⟨S16384x32, .f32⟩
  | 68 => ⟨S16384x32, .f32⟩
  | 69 => ⟨S16384x32, .f32⟩
  | 70 => ⟨S16384x32, .f32⟩
  | 71 => ⟨S16384x32, .f32⟩
  | 72 => ⟨S16384x32, .f32⟩
  | 73 => ⟨S16384x32, .f32⟩
  | 74 => ⟨S16384x32, .f32⟩
  | 75 => ⟨S16384x32, .f32⟩
  | 76 => ⟨S16384x32, .f32⟩
  | 77 => ⟨S16384x1x80, .f32⟩
  | 78 => ⟨S16384x80, .f32⟩
  | 79 => ⟨S16384x96, .f32⟩
  | 80 => ⟨S16384x96, .f32⟩
  | 81 => ⟨S16384x96, .f32⟩
  | 82 => ⟨S16384x96, .f32⟩
  | 83 => ⟨S16384x96, .f32⟩
  | 84 => ⟨S16384x96, .f32⟩
  | 85 => ⟨S16384x32, .f32⟩
  | 86 => ⟨S16384x32, .f32⟩
  | 87 => ⟨S16384x32, .f32⟩
  | 88 => ⟨S16384x32, .f32⟩
  | 89 => ⟨S16384x32, .f32⟩
  | 90 => ⟨S16384x32, .f32⟩
  | 91 => ⟨S16384x32, .f32⟩
  | 92 => ⟨S16384x32, .f32⟩
  | 93 => ⟨S16384x32, .f32⟩
  | 94 => ⟨S16384x32, .f32⟩
  | 95 => ⟨S16384x32, .f32⟩
  | 96 => ⟨S16384x32, .f32⟩
  | 97 => ⟨S16384x32, .f32⟩
  | 98 => ⟨S16384x32, .f32⟩
  | 99 => ⟨S16384x32, .f32⟩
  | 100 => ⟨S16384x32, .f32⟩
  | 101 => ⟨S16384x32, .f32⟩
  | 102 => ⟨S16384x32, .f32⟩
  | 103 => ⟨S16384x32, .f32⟩
  | 104 => ⟨S16384x32, .f32⟩
  | 105 => ⟨S16384x32, .f32⟩
  | 106 => ⟨S16384x32, .f32⟩
  | 107 => ⟨S16384x32, .f32⟩
  | 108 => ⟨S16384x1x80, .f32⟩
  | 109 => ⟨S16384x80, .f32⟩
  | 110 => ⟨S16384x96, .f32⟩
  | 111 => ⟨S16384x96, .f32⟩
  | 112 => ⟨S16384x96, .f32⟩
  | 113 => ⟨S16384x96, .f32⟩
  | 114 => ⟨S16384x96, .f32⟩
  | 115 => ⟨S16384x96, .f32⟩
  | 116 => ⟨S16384x32, .f32⟩
  | 117 => ⟨S16384x32, .f32⟩
  | 118 => ⟨S16384x32, .f32⟩
  | 119 => ⟨S16384x32, .f32⟩
  | 120 => ⟨S16384x32, .f32⟩
  | 121 => ⟨S16384x32, .f32⟩
  | 122 => ⟨S16384x32, .f32⟩
  | 123 => ⟨S16384x32, .f32⟩
  | 124 => ⟨S16384x32, .f32⟩
  | 125 => ⟨S16384x32, .f32⟩
  | 126 => ⟨S16384x32, .f32⟩
  | 127 => ⟨S16384x32, .f32⟩
  | _ => ⟨S16384x22x64, .f32⟩

abbrev hbmTy0_3 (i : Nat) : BufTy := match i % 128 with
  | 0 => ⟨S16384x32, .f32⟩
  | 1 => ⟨S16384x32, .f32⟩
  | 2 => ⟨S16384x32, .f32⟩
  | 3 => ⟨S16384x32, .f32⟩
  | 4 => ⟨S16384x32, .f32⟩
  | 5 => ⟨S16384x32, .f32⟩
  | 6 => ⟨S16384x32, .f32⟩
  | 7 => ⟨S16384x32, .f32⟩
  | 8 => ⟨S16384x32, .f32⟩
  | 9 => ⟨S16384x32, .f32⟩
  | 10 => ⟨S16384x32, .f32⟩
  | 11 => ⟨S16384x1x80, .f32⟩
  | 12 => ⟨S16384x80, .f32⟩
  | 13 => ⟨S16384x96, .f32⟩
  | 14 => ⟨S16384x96, .f32⟩
  | 15 => ⟨S16384x96, .f32⟩
  | 16 => ⟨S16384x96, .f32⟩
  | 17 => ⟨S16384x96, .f32⟩
  | 18 => ⟨S16384x96, .f32⟩
  | 19 => ⟨S16384x32, .f32⟩
  | 20 => ⟨S16384x32, .f32⟩
  | 21 => ⟨S16384x32, .f32⟩
  | 22 => ⟨S16384x32, .f32⟩
  | 23 => ⟨S16384x32, .f32⟩
  | 24 => ⟨S16384x32, .f32⟩
  | 25 => ⟨S16384x32, .f32⟩
  | 26 => ⟨S16384x32, .f32⟩
  | 27 => ⟨S16384x32, .f32⟩
  | 28 => ⟨S16384x32, .f32⟩
  | 29 => ⟨S16384x32, .f32⟩
  | 30 => ⟨S16384x32, .f32⟩
  | 31 => ⟨S16384x32, .f32⟩
  | 32 => ⟨S16384x32, .f32⟩
  | 33 => ⟨S16384x32, .f32⟩
  | 34 => ⟨S16384x32, .f32⟩
  | 35 => ⟨S16384x32, .f32⟩
  | 36 => ⟨S16384x32, .f32⟩
  | 37 => ⟨S16384x32, .f32⟩
  | 38 => ⟨S16384x32, .f32⟩
  | 39 => ⟨S16384x32, .f32⟩
  | 40 => ⟨S16384x32, .f32⟩
  | 41 => ⟨S16384x32, .f32⟩
  | 42 => ⟨S16384x1x80, .f32⟩
  | 43 => ⟨S16384x80, .f32⟩
  | 44 => ⟨S16384x96, .f32⟩
  | 45 => ⟨S16384x96, .f32⟩
  | 46 => ⟨S16384x96, .f32⟩
  | 47 => ⟨S16384x96, .f32⟩
  | 48 => ⟨S16384x96, .f32⟩
  | 49 => ⟨S16384x96, .f32⟩
  | 50 => ⟨S16384x32, .f32⟩
  | 51 => ⟨S16384x32, .f32⟩
  | 52 => ⟨S16384x32, .f32⟩
  | 53 => ⟨S16384x32, .f32⟩
  | 54 => ⟨S16384x32, .f32⟩
  | 55 => ⟨S16384x32, .f32⟩
  | 56 => ⟨S16384x32, .f32⟩
  | 57 => ⟨S16384x32, .f32⟩
  | 58 => ⟨S16384x32, .f32⟩
  | 59 => ⟨S16384x32, .f32⟩
  | 60 => ⟨S16384x32, .f32⟩
  | 61 => ⟨S16384x32, .f32⟩
  | 62 => ⟨S16384x32, .f32⟩
  | 63 => ⟨S16384x32, .f32⟩
  | 64 => ⟨S16384x32, .f32⟩
  | 65 => ⟨S16384x32, .f32⟩
  | 66 => ⟨S16384x32, .f32⟩
  | 67 => ⟨S16384x32, .f32⟩
  | 68 => ⟨S16384x32, .f32⟩
  | 69 => ⟨S16384x32, .f32⟩
  | 70 => ⟨S16384x32, .f32⟩
  | 71 => ⟨S16384x32, .f32⟩
  | 72 => ⟨S16384x32, .f32⟩
  | 73 => ⟨S16384x1x80, .f32⟩
  | 74 => ⟨S16384x80, .f32⟩
  | 75 => ⟨S16384x96, .f32⟩
  | 76 => ⟨S16384x96, .f32⟩
  | 77 => ⟨S16384x96, .f32⟩
  | 78 => ⟨S16384x96, .f32⟩
  | 79 => ⟨S16384x96, .f32⟩
  | 80 => ⟨S16384x96, .f32⟩
  | 81 => ⟨S16384x32, .f32⟩
  | 82 => ⟨S16384x32, .f32⟩
  | 83 => ⟨S16384x32, .f32⟩
  | 84 => ⟨S16384x32, .f32⟩
  | 85 => ⟨S16384x32, .f32⟩
  | 86 => ⟨S16384x32, .f32⟩
  | 87 => ⟨S16384x32, .f32⟩
  | 88 => ⟨S16384x32, .f32⟩
  | 89 => ⟨S16384x32, .f32⟩
  | 90 => ⟨S16384x32, .f32⟩
  | 91 => ⟨S16384x32, .f32⟩
  | 92 => ⟨S16384x32, .f32⟩
  | 93 => ⟨S16384x32, .f32⟩
  | 94 => ⟨S16384x32, .f32⟩
  | 95 => ⟨S16384x32, .f32⟩
  | 96 => ⟨S16384x32, .f32⟩
  | 97 => ⟨S16384x32, .f32⟩
  | 98 => ⟨S16384x32, .f32⟩
  | 99 => ⟨S16384x32, .f32⟩
  | 100 => ⟨S16384x32, .f32⟩
  | 101 => ⟨S16384x32, .f32⟩
  | 102 => ⟨S16384x32, .f32⟩
  | 103 => ⟨S16384x32, .f32⟩
  | 104 => ⟨S16384x1x80, .f32⟩
  | 105 => ⟨S16384x80, .f32⟩
  | 106 => ⟨S16384x96, .f32⟩
  | 107 => ⟨S16384x96, .f32⟩
  | 108 => ⟨S16384x96, .f32⟩
  | 109 => ⟨S16384x96, .f32⟩
  | 110 => ⟨S16384x96, .f32⟩
  | 111 => ⟨S16384x96, .f32⟩
  | 112 => ⟨S16384x32, .f32⟩
  | 113 => ⟨S16384x32, .f32⟩
  | 114 => ⟨S16384x32, .f32⟩
  | 115 => ⟨S16384x32, .f32⟩
  | 116 => ⟨S16384x32, .f32⟩
  | 117 => ⟨S16384x32, .f32⟩
  | 118 => ⟨S16384x32, .f32⟩
  | 119 => ⟨S16384x32, .f32⟩
  | 120 => ⟨S16384x32, .f32⟩
  | 121 => ⟨S16384x32, .f32⟩
  | 122 => ⟨S16384x32, .f32⟩
  | 123 => ⟨S16384x32, .f32⟩
  | 124 => ⟨S16384x32, .f32⟩
  | 125 => ⟨S16384x32, .f32⟩
  | 126 => ⟨S16384x32, .f32⟩
  | 127 => ⟨S16384x32, .f32⟩
  | _ => ⟨S16384x22x64, .f32⟩

abbrev hbmTy0_4 (i : Nat) : BufTy := match i % 128 with
  | 0 => ⟨S16384x32, .f32⟩
  | 1 => ⟨S16384x32, .f32⟩
  | 2 => ⟨S16384x32, .f32⟩
  | 3 => ⟨S16384x32, .f32⟩
  | 4 => ⟨S16384x32, .f32⟩
  | 5 => ⟨S16384x32, .f32⟩
  | 6 => ⟨S16384x32, .f32⟩
  | 7 => ⟨S16384x1x80, .f32⟩
  | 8 => ⟨S16384x80, .f32⟩
  | 9 => ⟨S16384x96, .f32⟩
  | 10 => ⟨S16384x96, .f32⟩
  | 11 => ⟨S16384x96, .f32⟩
  | 12 => ⟨S16384x96, .f32⟩
  | 13 => ⟨S16384x96, .f32⟩
  | 14 => ⟨S16384x96, .f32⟩
  | 15 => ⟨S16384x32, .f32⟩
  | 16 => ⟨S16384x32, .f32⟩
  | 17 => ⟨S16384x32, .f32⟩
  | 18 => ⟨S16384x32, .f32⟩
  | 19 => ⟨S16384x32, .f32⟩
  | 20 => ⟨S16384x32, .f32⟩
  | 21 => ⟨S16384x32, .f32⟩
  | 22 => ⟨S16384x32, .f32⟩
  | 23 => ⟨S16384x32, .f32⟩
  | 24 => ⟨S16384x32, .f32⟩
  | 25 => ⟨S16384x32, .f32⟩
  | 26 => ⟨S16384x32, .f32⟩
  | 27 => ⟨S16384x32, .f32⟩
  | 28 => ⟨S16384x32, .f32⟩
  | 29 => ⟨S16384x32, .f32⟩
  | 30 => ⟨S16384x32, .f32⟩
  | 31 => ⟨S16384x32, .f32⟩
  | 32 => ⟨S16384x32, .f32⟩
  | 33 => ⟨S16384x32, .f32⟩
  | 34 => ⟨S16384x32, .f32⟩
  | 35 => ⟨S16384x32, .f32⟩
  | 36 => ⟨S16384x32, .f32⟩
  | 37 => ⟨S16384x32, .f32⟩
  | 38 => ⟨S16384x1x80, .f32⟩
  | 39 => ⟨S16384x80, .f32⟩
  | 40 => ⟨S16384x96, .f32⟩
  | 41 => ⟨S16384x96, .f32⟩
  | 42 => ⟨S16384x96, .f32⟩
  | 43 => ⟨S16384x96, .f32⟩
  | 44 => ⟨S16384x96, .f32⟩
  | 45 => ⟨S16384x96, .f32⟩
  | 46 => ⟨S16384x32, .f32⟩
  | 47 => ⟨S16384x32, .f32⟩
  | 48 => ⟨S16384x32, .f32⟩
  | 49 => ⟨S16384x32, .f32⟩
  | 50 => ⟨S16384x32, .f32⟩
  | 51 => ⟨S16384x32, .f32⟩
  | 52 => ⟨S16384x32, .f32⟩
  | 53 => ⟨S16384x32, .f32⟩
  | 54 => ⟨S16384x32, .f32⟩
  | 55 => ⟨S16384x32, .f32⟩
  | 56 => ⟨S16384x32, .f32⟩
  | 57 => ⟨S16384x32, .f32⟩
  | 58 => ⟨S16384x32, .f32⟩
  | 59 => ⟨S16384x32, .f32⟩
  | 60 => ⟨S16384x32, .f32⟩
  | 61 => ⟨S16384x32, .f32⟩
  | 62 => ⟨S16384x32, .f32⟩
  | 63 => ⟨S16384x32, .f32⟩
  | 64 => ⟨S16384x32, .f32⟩
  | 65 => ⟨S16384x32, .f32⟩
  | 66 => ⟨S16384x32, .f32⟩
  | 67 => ⟨S16384x32, .f32⟩
  | 68 => ⟨S16384x32, .f32⟩
  | 69 => ⟨S16384x1x80, .f32⟩
  | 70 => ⟨S16384x80, .f32⟩
  | 71 => ⟨S16384x96, .f32⟩
  | 72 => ⟨S16384x96, .f32⟩
  | 73 => ⟨S16384x96, .f32⟩
  | 74 => ⟨S16384x96, .f32⟩
  | 75 => ⟨S16384x96, .f32⟩
  | 76 => ⟨S16384x96, .f32⟩
  | 77 => ⟨S16384x32, .f32⟩
  | 78 => ⟨S16384x32, .f32⟩
  | 79 => ⟨S16384x32, .f32⟩
  | 80 => ⟨S16384x32, .f32⟩
  | 81 => ⟨S16384x32, .f32⟩
  | 82 => ⟨S16384x32, .f32⟩
  | 83 => ⟨S16384x32, .f32⟩
  | 84 => ⟨S16384x32, .f32⟩
  | 85 => ⟨S16384x32, .f32⟩
  | 86 => ⟨S16384x32, .f32⟩
  | 87 => ⟨S16384x32, .f32⟩
  | 88 => ⟨S16384x32, .f32⟩
  | 89 => ⟨S16384x32, .f32⟩
  | 90 => ⟨S16384x32, .f32⟩
  | 91 => ⟨S16384x32, .f32⟩
  | 92 => ⟨S16384x32, .f32⟩
  | 93 => ⟨S16384x32, .f32⟩
  | 94 => ⟨S16384x32, .f32⟩
  | 95 => ⟨S16384x32, .f32⟩
  | 96 => ⟨S16384x32, .f32⟩
  | 97 => ⟨S16384x32, .f32⟩
  | 98 => ⟨S16384x32, .f32⟩
  | 99 => ⟨S16384x32, .f32⟩
  | 100 => ⟨S16384x35, .f32⟩
  | 101 => ⟨S_, .f32⟩
  | 102 => ⟨S16384, .f32⟩
  | 103 => ⟨S16384x1, .f32⟩
  | 104 => ⟨S_, .f32⟩
  | 105 => ⟨S16384x1, .f32⟩
  | 106 => ⟨S16384x1, .f32⟩
  | 107 => ⟨S16384x35, .f32⟩
  | 108 => ⟨S16384x35, .f32⟩
  | 109 => ⟨S16384x35, .f32⟩
  | 110 => ⟨S_, .f32⟩
  | 111 => ⟨S16384, .f32⟩
  | 112 => ⟨S16384x1, .f32⟩
  | 113 => ⟨S_, .f32⟩
  | 114 => ⟨S16384x1, .f32⟩
  | 115 => ⟨S16384x1, .f32⟩
  | 116 => ⟨S16384x35, .f32⟩
  | 117 => ⟨S16384x35, .f32⟩
  | 118 => ⟨S_, .f32⟩
  | 119 => ⟨S16384x1, .f32⟩
  | 120 => ⟨S16384x1, .f32⟩
  | 121 => ⟨S16384x1, .f32⟩
  | 122 => ⟨S16384x35, .f32⟩
  | 123 => ⟨S16384x35, .f32⟩
  | 124 => ⟨S1x35, .f32⟩
  | 125 => ⟨S16384x35, .f32⟩
  | 126 => ⟨S16384x35, .f32⟩
  | 127 => ⟨S1x35, .f32⟩
  | _ => ⟨S16384x22x64, .f32⟩

abbrev hbmTy0_5 (i : Nat) : BufTy := match i % 128 with
  | 0 => ⟨S16384x35, .f32⟩
  | 1 => ⟨S16384x35, .f32⟩
  | 2 => ⟨S35x64, .f32⟩
  | 3 => ⟨S16384x64, .f32⟩
  | 4 => ⟨S1x64, .f32⟩
  | 5 => ⟨S16384x64, .f32⟩
  | 6 => ⟨S16384x64, .f32⟩
  | 7 => ⟨S_, .f32⟩
  | 8 => ⟨S16384x64, .f32⟩
  | 9 => ⟨S16384x64, .f32⟩
  | 10 => ⟨S64x32, .f32⟩
  | 11 => ⟨S16384x32, .f32⟩
  | 12 => ⟨S1x32, .f32⟩
  | 13 => ⟨S16384x32, .f32⟩
  | 14 => ⟨S16384x32, .f32⟩
  | 15 => ⟨S_, .f32⟩
  | 16 => ⟨S16384x32, .f32⟩
  | 17 => ⟨S16384x32, .f32⟩
  | 18 => ⟨S32x14, .f32⟩
  | 19 => ⟨S16384x14, .f32⟩
  | 20 => ⟨S1x14, .f32⟩
  | 21 => ⟨S16384x14, .f32⟩
  | 22 => ⟨S16384x14, .f32⟩
  | 23 => ⟨S16384x1, .f32⟩
  | 24 => ⟨S16384, .f32⟩
  | 25 => ⟨S_, .i32⟩
  | 26 => ⟨S16384, .i32⟩
  | 27 => ⟨S16384x1, .f32⟩
  | 28 => ⟨S16384, .f32⟩
  | 29 => ⟨S16384, .i1⟩
  | 30 => ⟨S16384x1, .f32⟩
  | 31 => ⟨S16384, .f32⟩
  | 32 => ⟨S16384, .f32⟩
  | 33 => ⟨S_, .i32⟩
  | 34 => ⟨S_, .i32⟩
  | 35 => ⟨S16384, .i32⟩
  | 36 => ⟨S16384, .i32⟩
  | 37 => ⟨S16384x1, .f32⟩
  | 38 => ⟨S16384, .f32⟩
  | 39 => ⟨S16384, .i1⟩
  | 40 => ⟨S16384x1, .f32⟩
  | 41 => ⟨S16384, .f32⟩
  | 42 => ⟨S16384, .f32⟩
  | 43 => ⟨S_, .i32⟩
  | 44 => ⟨S_, .i32⟩
  | 45 => ⟨S16384, .i32⟩
  | 46 => ⟨S16384, .i32⟩
  | 47 => ⟨S16384x1, .f32⟩
  | 48 => ⟨S16384, .f32⟩
  | 49 => ⟨S16384, .i1⟩
  | 50 => ⟨S16384x1, .f32⟩
  | 51 => ⟨S16384, .f32⟩
  | 52 => ⟨S16384, .f32⟩
  | 53 => ⟨S_, .i32⟩
  | 54 => ⟨S_, .i32⟩
  | 55 => ⟨S16384, .i32⟩
  | 56 => ⟨S16384, .i32⟩
  | 57 => ⟨S16384x1, .f32⟩
  | 58 => ⟨S16384, .f32⟩
  | 59 => ⟨S16384, .i1⟩
  | 60 => ⟨S16384x1, .f32⟩
  | 61 => ⟨S16384, .f32⟩
  | 62 => ⟨S16384, .f32⟩
  | 63 => ⟨S_, .i32⟩
  | 64 => ⟨S_, .i32⟩
  | 65 => ⟨S16384, .i32⟩
  | 66 => ⟨S16384, .i32⟩
  | 67 => ⟨S16384x1, .f32⟩
  | 68 => ⟨S16384, .f32⟩
  | 69 => ⟨S16384, .i1⟩
  | 70 => ⟨S16384x1, .f32⟩
  | 71 => ⟨S16384, .f32⟩
  | 72 => ⟨S16384, .f32⟩
  | 73 => ⟨S_, .i32⟩
  | 74 => ⟨S_, .i32⟩
  | 75 => ⟨S16384, .i32⟩
  | 76 => ⟨S16384, .i32⟩
  | 77 => ⟨S16384x1, .f32⟩
  | 78 => ⟨S16384, .f32⟩
  | 79 => ⟨S16384, .i1⟩
  | 80 => ⟨S16384x1, .f32⟩
  | 81 => ⟨S16384, .f32⟩
  | 82 => ⟨S16384, .f32⟩
  | 83 => ⟨S_, .i32⟩
  | 84 => ⟨S_, .i32⟩
  | 85 => ⟨S16384, .i32⟩
  | 86 => ⟨S16384, .i32⟩
  | 87 => ⟨S16384x1, .f32⟩
  | 88 => ⟨S16384, .f32⟩
  | 89 => ⟨S16384, .i1⟩
  | 90 => ⟨S16384x1, .f32⟩
  | 91 => ⟨S16384, .f32⟩
  | 92 => ⟨S16384, .f32⟩
  | 93 => ⟨S_, .i32⟩
  | 94 => ⟨S_, .i32⟩
  | 95 => ⟨S16384, .i32⟩
  | 96 => ⟨S16384, .i32⟩
  | 97 => ⟨S16384x1, .f32⟩
  | 98 => ⟨S16384, .f32⟩
  | 99 => ⟨S16384, .i1⟩
  | 100 => ⟨S16384x1, .f32⟩
  | 101 => ⟨S16384, .f32⟩
  | 102 => ⟨S16384, .f32⟩
  | 103 => ⟨S_, .i32⟩
  | 104 => ⟨S_, .i32⟩
  | 105 => ⟨S16384, .i32⟩
  | 106 => ⟨S16384, .i32⟩
  | 107 => ⟨S16384x1, .f32⟩
  | 108 => ⟨S16384, .f32⟩
  | 109 => ⟨S16384, .i1⟩
  | 110 => ⟨S16384x1, .f32⟩
  | 111 => ⟨S16384, .f32⟩
  | 112 => ⟨S16384, .f32⟩
  | 113 => ⟨S_, .i32⟩
  | 114 => ⟨S_, .i32⟩
  | 115 => ⟨S16384, .i32⟩
  | 116 => ⟨S16384, .i32⟩
  | 117 => ⟨S16384x1, .f32⟩
  | 118 => ⟨S16384, .f32⟩
  | 119 => ⟨S16384, .i1⟩
  | 120 => ⟨S16384x1, .f32⟩
  | 121 => ⟨S16384, .f32⟩
  | 122 => ⟨S16384, .f32⟩
  | 123 => ⟨S_, .i32⟩
  | 124 => ⟨S_, .i32⟩
  | 125 => ⟨S16384, .i32⟩
  | 126 => ⟨S16384, .i32⟩
  | 127 => ⟨S16384x1, .f32⟩
  | _ => ⟨S16384x22x64, .f32⟩

abbrev hbmTy0_6 (i : Nat) : BufTy := match i % 128 with
  | 0 => ⟨S16384, .f32⟩
  | 1 => ⟨S16384, .i1⟩
  | 2 => ⟨S16384x1, .f32⟩
  | 3 => ⟨S16384, .f32⟩
  | 4 => ⟨S16384, .f32⟩
  | 5 => ⟨S_, .i32⟩
  | 6 => ⟨S_, .i32⟩
  | 7 => ⟨S16384, .i32⟩
  | 8 => ⟨S16384, .i32⟩
  | 9 => ⟨S16384x1, .f32⟩
  | 10 => ⟨S16384, .f32⟩
  | 11 => ⟨S16384, .i1⟩
  | 12 => ⟨S16384x1, .f32⟩
  | 13 => ⟨S16384, .f32⟩
  | 14 => ⟨S16384, .f32⟩
  | 15 => ⟨S_, .i32⟩
  | 16 => ⟨S_, .i32⟩
  | 17 => ⟨S16384, .i32⟩
  | 18 => ⟨S16384, .i32⟩
  | 19 => ⟨S16384x1, .f32⟩
  | 20 => ⟨S16384, .f32⟩
  | 21 => ⟨S16384, .i1⟩
  | 22 => ⟨S16384x1, .f32⟩
  | 23 => ⟨S16384, .f32⟩
  | 24 => ⟨S16384, .f32⟩
  | 25 => ⟨S_, .i32⟩
  | 26 => ⟨S_, .i32⟩
  | 27 => ⟨S16384, .i32⟩
  | 28 => ⟨S16384, .i32⟩
  | 29 => ⟨S_, .i32⟩
  | 30 => ⟨S16384, .i32⟩
  | 31 => ⟨S16384, .i32⟩
  | 32 => ⟨S_, .i32⟩
  | 33 => ⟨S16384, .i32⟩
  | 34 => ⟨S16384, .i32⟩
  | 35 => ⟨S_, .i32⟩
  | 36 => ⟨S_, .i32⟩
  | 37 => ⟨S16384, .i32⟩
  | 38 => ⟨S16384, .i32⟩
  | 39 => ⟨S16384, .i32⟩
  | 40 => ⟨S_, .i32⟩
  | 41 => ⟨S16384, .i32⟩
  | 42 => ⟨S16384, .i1⟩
  | 43 => ⟨S16384, .i32⟩
  | 44 => ⟨S16384, .i32⟩
  | 45 => ⟨S_, .i32⟩
  | 46 => ⟨S16384, .i32⟩
  | 47 => ⟨S16384, .i1⟩
  | 48 => ⟨S16384, .i1⟩
  | 49 => ⟨S_, .i32⟩
  | 50 => ⟨S16384, .i32⟩
  | 51 => ⟨S16384, .i32⟩
  | 52 => ⟨S16384, .i32⟩
  | 53 => ⟨S_, .i32⟩
  | 54 => ⟨S_, .i32⟩
  | 55 => ⟨S16384, .i32⟩
  | 56 => ⟨S16384, .i32⟩
  | 57 => ⟨S16384, .i32⟩
  | 58 => ⟨S_, .i32⟩
  | 59 => ⟨S16384, .i32⟩
  | 60 => ⟨S16384, .i1⟩
  | 61 => ⟨S16384, .i32⟩
  | 62 => ⟨S16384, .i32⟩
  | 63 => ⟨S_, .i32⟩
  | 64 => ⟨S16384, .i32⟩
  | 65 => ⟨S16384, .i1⟩
  | 66 => ⟨S16384, .i1⟩
  | 67 => ⟨S_, .i32⟩
  | 68 => ⟨S16384, .i32⟩
  | 69 => ⟨S16384, .i32⟩
  | 70 => ⟨S16384, .i32⟩
  | 71 => ⟨S15, .i32⟩
  | 72 => ⟨S1x15, .i32⟩
  | 73 => ⟨S_, .i32⟩
  | 74 => ⟨S16384, .i32⟩
  | 75 => ⟨S16384, .i32⟩
  | 76 => ⟨S16384x1, .i32⟩
  | 77 => ⟨S16384x15, .i32⟩
  | 78 => ⟨S16384x15, .i32⟩
  | 79 => ⟨S16384x15, .i1⟩
  | 80 => ⟨S1x15, .i32⟩
  | 81 => ⟨S_, .i32⟩
  | 82 => ⟨S16384, .i32⟩
  | 83 => ⟨S16384, .i32⟩
  | 84 => ⟨S16384x1, .i32⟩
  | 85 => ⟨S16384x15, .i32⟩
  | 86 => ⟨S16384x15, .i32⟩
  | 87 => ⟨S16384x15, .i1⟩
  | 88 => ⟨S16384x15, .i1⟩
  | 89 => ⟨S16384x15, .f32⟩
  | 90 => ⟨S16384x15x64, .f32⟩
  | 91 => ⟨S16384x15x16, .f32⟩
  | 92 => ⟨S16384x15x80, .f32⟩
  | 93 => ⟨S16384x15x1, .f32⟩
  | 94 => ⟨S16384x15x80, .f32⟩
  | 95 => ⟨S16384x15x80, .f32⟩
  | 96 => ⟨S_, .i32⟩
  | 97 => ⟨S16384, .i32⟩
  | 98 => ⟨S16384, .i32⟩
  | 99 => ⟨S_, .i32⟩
  | 100 => ⟨S16384, .i32⟩
  | 101 => ⟨S16384, .i32⟩
  | 102 => ⟨S8, .i32⟩
  | 103 => ⟨S_, .i32⟩
  | 104 => ⟨S16384, .i32⟩
  | 105 => ⟨S16384, .i32⟩
  | 106 => ⟨S16384x1, .i32⟩
  | 107 => ⟨S1x8, .i32⟩
  | 108 => ⟨S16384x8, .i32⟩
  | 109 => ⟨S16384x8, .i32⟩
  | 110 => ⟨S16384x8, .i32⟩
  | 111 => ⟨S_, .i32⟩
  | 112 => ⟨S_, .i32⟩
  | 113 => ⟨S_, .i32⟩
  | 114 => ⟨S16384x8, .i32⟩
  | 115 => ⟨S16384x8, .i32⟩
  | 116 => ⟨S_, .i32⟩
  | 117 => ⟨S16384x8, .i32⟩
  | 118 => ⟨S16384x8, .i32⟩
  | 119 => ⟨S16384x8x1, .i32⟩
  | 120 => ⟨S_, .i32⟩
  | 121 => ⟨S16384x8x1, .i32⟩
  | 122 => ⟨S16384x8x1, .i1⟩
  | 123 => ⟨S_, .i32⟩
  | 124 => ⟨S16384x8x1, .i32⟩
  | 125 => ⟨S16384x8x1, .i32⟩
  | 126 => ⟨S16384x8x1, .i32⟩
  | 127 => ⟨S1, .i32⟩
  | _ => ⟨S16384x22x64, .f32⟩

abbrev hbmTy0_7 (i : Nat) : BufTy := match i % 128 with
  | 0 => ⟨S_, .i32⟩
  | 1 => ⟨S16384x8x1, .i32⟩
  | 2 => ⟨S16384x8x1, .i1⟩
  | 3 => ⟨S1x1x1, .i32⟩
  | 4 => ⟨S16384x8x1, .i32⟩
  | 5 => ⟨S16384x8x1, .i1⟩
  | 6 => ⟨S16384x8x1, .i1⟩
  | 7 => ⟨S_, .i1⟩
  | 8 => ⟨S16384x8, .i1⟩
  | 9 => ⟨S16384x8x80, .f32⟩
  | 10 => ⟨S16384x8x80, .i1⟩
  | 11 => ⟨S_, .f32⟩
  | 12 => ⟨S16384x8x80, .f32⟩
  | 13 => ⟨S16384x8x80, .f32⟩
  | 14 => ⟨S_, .i32⟩
  | 15 => ⟨S16384, .i32⟩
  | 16 => ⟨S16384, .i32⟩
  | 17 => ⟨S16384x1, .i32⟩
  | 18 => ⟨S1x8, .i32⟩
  | 19 => ⟨S16384x8, .i32⟩
  | 20 => ⟨S16384x8, .i32⟩
  | 21 => ⟨S16384x8, .i32⟩
  | 22 => ⟨S_, .i32⟩
  | 23 => ⟨S_, .i32⟩
  | 24 => ⟨S_, .i32⟩
  | 25 => ⟨S16384x8, .i32⟩
  | 26 => ⟨S16384x8, .i32⟩
  | 27 => ⟨S_, .i32⟩
  | 28 => ⟨S16384x8, .i32⟩
  | 29 => ⟨S16384x8, .i32⟩
  | 30 => ⟨S16384x8x1, .i32⟩
  | 31 => ⟨S_, .i32⟩
  | 32 => ⟨S16384x8x1, .i32⟩
  | 33 => ⟨S16384x8x1, .i1⟩
  | 34 => ⟨S_, .i32⟩
  | 35 => ⟨S16384x8x1, .i32⟩
  | 36 => ⟨S16384x8x1, .i32⟩
  | 37 => ⟨S16384x8x1, .i32⟩
  | 38 => ⟨S1, .i32⟩
  | 39 => ⟨S_, .i32⟩
  | 40 => ⟨S16384x8x1, .i32⟩
  | 41 => ⟨S16384x8x1, .i1⟩
  | 42 => ⟨S1x1x1, .i32⟩
  | 43 => ⟨S16384x8x1, .i32⟩
  | 44 => ⟨S16384x8x1, .i1⟩
  | 45 => ⟨S16384x8x1, .i1⟩
  | 46 => ⟨S_, .i1⟩
  | 47 => ⟨S16384x8, .i1⟩
  | 48 => ⟨S16384x8x80, .f32⟩
  | 49 => ⟨S16384x8x80, .i1⟩
  | 50 => ⟨S_, .f32⟩
  | 51 => ⟨S16384x8x80, .f32⟩
  | 52 => ⟨S16384x8x80, .f32⟩
  | 53 => ⟨S80x192, .f32⟩
  | 54 => ⟨S64x192, .f32⟩
  | 55 => ⟨S1x192, .f32⟩
  | 56 => ⟨S1x192, .f32⟩
  | 57 => ⟨S_, .f32⟩
  | 58 => ⟨S16384x64, .f32⟩
  | 59 => ⟨S_, .f32⟩
  | 60 => ⟨S16384x64, .f32⟩
  | 61 => ⟨S16384x1x80, .f32⟩
  | 62 => ⟨S16384x80, .f32⟩
  | 63 => ⟨S16384x192, .f32⟩
  | 64 => ⟨S16384x192, .f32⟩
  | 65 => ⟨S16384x192, .f32⟩
  | 66 => ⟨S16384x192, .f32⟩
  | 67 => ⟨S16384x192, .f32⟩
  | 68 => ⟨S16384x192, .f32⟩
  | 69 => ⟨S16384x64, .f32⟩
  | 70 => ⟨S16384x64, .f32⟩
  | 71 => ⟨S16384x64, .f32⟩
  | 72 => ⟨S16384x64, .f32⟩
  | 73 => ⟨S16384x64, .f32⟩
  | 74 => ⟨S16384x64, .f32⟩
  | 75 => ⟨S16384x64, .f32⟩
  | 76 => ⟨S16384x64, .f32⟩
  | 77 => ⟨S16384x64, .f32⟩
  | 78 => ⟨S16384x64, .f32⟩
  | 79 => ⟨S16384x64, .f32⟩
  | 80 => ⟨S16384x64, .f32⟩
  | 81 => ⟨S16384x64, .f32⟩
  | 82 => ⟨S16384x64, .f32⟩
  | 83 => ⟨S16384x64, .f32⟩
  | 84 => ⟨S16384x64, .f32⟩
  | 85 => ⟨S16384x64, .f32⟩
  | 86 => ⟨S16384x64, .f32⟩
  | 87 => ⟨S16384x64, .f32⟩
  | 88 => ⟨S16384x64, .f32⟩
  | 89 => ⟨S16384x64, .f32⟩
  | 90 => ⟨S16384x64, .f32⟩
  | 91 => ⟨S16384x64, .f32⟩
  | 92 => ⟨S_, .i32⟩
  | 93 => ⟨S16384, .i32⟩
  | 94 => ⟨S16384, .i1⟩
  | 95 => ⟨S16384x1, .i1⟩
  | 96 => ⟨S16384x64, .i1⟩
  | 97 => ⟨S16384x64, .f32⟩
  | 98 => ⟨S16384x1x80, .f32⟩
  | 99 => ⟨S16384x80, .f32⟩
  | 100 => ⟨S16384x192, .f32⟩
  | 101 => ⟨S16384x192, .f32⟩
  | 102 => ⟨S16384x192, .f32⟩
  | 103 => ⟨S16384x192, .f32⟩
  | 104 => ⟨S16384x192, .f32⟩
  | 105 => ⟨S16384x192, .f32⟩
  | 106 => ⟨S16384x64, .f32⟩
  | 107 => ⟨S16384x64, .f32⟩
  | 108 => ⟨S16384x64, .f32⟩
  | 109 => ⟨S16384x64, .f32⟩
  | 110 => ⟨S16384x64, .f32⟩
  | 111 => ⟨S16384x64, .f32⟩
  | 112 => ⟨S16384x64, .f32⟩
  | 113 => ⟨S16384x64, .f32⟩
  | 114 => ⟨S16384x64, .f32⟩
  | 115 => ⟨S16384x64, .f32⟩
  | 116 => ⟨S16384x64, .f32⟩
  | 117 => ⟨S16384x64, .f32⟩
  | 118 => ⟨S16384x64, .f32⟩
  | 119 => ⟨S16384x64, .f32⟩
  | 120 => ⟨S16384x64, .f32⟩
  | 121 => ⟨S16384x64, .f32⟩
  | 122 => ⟨S16384x64, .f32⟩
  | 123 => ⟨S16384x64, .f32⟩
  | 124 => ⟨S16384x64, .f32⟩
  | 125 => ⟨S16384x64, .f32⟩
  | 126 => ⟨S16384x64, .f32⟩
  | 127 => ⟨S16384x64, .f32⟩
  | _ => ⟨S16384x22x64, .f32⟩

abbrev hbmTy0_8 (i : Nat) : BufTy := match i % 128 with
  | 0 => ⟨S16384x64, .f32⟩
  | 1 => ⟨S_, .i32⟩
  | 2 => ⟨S16384, .i32⟩
  | 3 => ⟨S16384, .i1⟩
  | 4 => ⟨S16384x1, .i1⟩
  | 5 => ⟨S16384x64, .i1⟩
  | 6 => ⟨S16384x64, .f32⟩
  | 7 => ⟨S16384x1x80, .f32⟩
  | 8 => ⟨S16384x80, .f32⟩
  | 9 => ⟨S16384x192, .f32⟩
  | 10 => ⟨S16384x192, .f32⟩
  | 11 => ⟨S16384x192, .f32⟩
  | 12 => ⟨S16384x192, .f32⟩
  | 13 => ⟨S16384x192, .f32⟩
  | 14 => ⟨S16384x192, .f32⟩
  | 15 => ⟨S16384x64, .f32⟩
  | 16 => ⟨S16384x64, .f32⟩
  | 17 => ⟨S16384x64, .f32⟩
  | 18 => ⟨S16384x64, .f32⟩
  | 19 => ⟨S16384x64, .f32⟩
  | 20 => ⟨S16384x64, .f32⟩
  | 21 => ⟨S16384x64, .f32⟩
  | 22 => ⟨S16384x64, .f32⟩
  | 23 => ⟨S16384x64, .f32⟩
  | 24 => ⟨S16384x64, .f32⟩
  | 25 => ⟨S16384x64, .f32⟩
  | 26 => ⟨S16384x64, .f32⟩
  | 27 => ⟨S16384x64, .f32⟩
  | 28 => ⟨S16384x64, .f32⟩
  | 29 => ⟨S16384x64, .f32⟩
  | 30 => ⟨S16384x64, .f32⟩
  | 31 => ⟨S16384x64, .f32⟩
  | 32 => ⟨S16384x64, .f32⟩
  | 33 => ⟨S16384x64, .f32⟩
  | 34 => ⟨S16384x64, .f32⟩
  | 35 => ⟨S16384x64, .f32⟩
  | 36 => ⟨S16384x64, .f32⟩
  | 37 => ⟨S16384x64, .f32⟩
  | 38 => ⟨S_, .i32⟩
  | 39 => ⟨S16384, .i32⟩
  | 40 => ⟨S16384, .i1⟩
  | 41 => ⟨S16384x1, .i1⟩
  | 42 => ⟨S16384x64, .i1⟩
  | 43 => ⟨S16384x64, .f32⟩
  | 44 => ⟨S16384x1x80, .f32⟩
  | 45 => ⟨S16384x80, .f32⟩
  | 46 => ⟨S16384x192, .f32⟩
  | 47 => ⟨S16384x192, .f32⟩
  | 48 => ⟨S16384x192, .f32⟩
  | 49 => ⟨S16384x192, .f32⟩
  | 50 => ⟨S16384x192, .f32⟩
  | 51 => ⟨S16384x192, .f32⟩
  | 52 => ⟨S16384x64, .f32⟩
  | 53 => ⟨S16384x64, .f32⟩
  | 54 => ⟨S16384x64, .f32⟩
  | 55 => ⟨S16384x64, .f32⟩
  | 56 => ⟨S16384x64, .f32⟩
  | 57 => ⟨S16384x64, .f32⟩
  | 58 => ⟨S16384x64, .f32⟩
  | 59 => ⟨S16384x64, .f32⟩
  | 60 => ⟨S16384x64, .f32⟩
  | 61 => ⟨S16384x64, .f32⟩
  | 62 => ⟨S16384x64, .f32⟩
  | 63 => ⟨S16384x64, .f32⟩
  | 64 => ⟨S16384x64, .f32⟩
  | 65 => ⟨S16384x64, .f32⟩
  | 66 => ⟨S16384x64, .f32⟩
  | 67 => ⟨S16384x64, .f32⟩
  | 68 => ⟨S16384x64, .f32⟩
  | 69 => ⟨S16384x64, .f32⟩
  | 70 => ⟨S16384x64, .f32⟩
  | 71 => ⟨S16384x64, .f32⟩
  | 72 => ⟨S16384x64, .f32⟩
  | 73 => ⟨S16384x64, .f32⟩
  | 74 => ⟨S16384x64, .f32⟩
  | 75 => ⟨S_, .i32⟩
  | 76 => ⟨S16384, .i32⟩
  | 77 => ⟨S16384, .i1⟩
  | 78 => ⟨S16384x1, .i1⟩
  | 79 => ⟨S16384x64, .i1⟩
  | 80 => ⟨S16384x64, .f32⟩
  | 81 => ⟨S16384x1x80, .f32⟩
  | 82 => ⟨S16384x80, .f32⟩
  | 83 => ⟨S16384x192, .f32⟩
  | 84 => ⟨S16384x192, .f32⟩
  | 85 => ⟨S16384x192, .f32⟩
  | 86 => ⟨S16384x192, .f32⟩
  | 87 => ⟨S16384x192, .f32⟩
  | 88 => ⟨S16384x192, .f32⟩
  | 89 => ⟨S16384x64, .f32⟩
  | 90 => ⟨S16384x64, .f32⟩
  | 91 => ⟨S16384x64, .f32⟩
  | 92 => ⟨S16384x64, .f32⟩
  | 93 => ⟨S16384x64, .f32⟩
  | 94 => ⟨S16384x64, .f32⟩
  | 95 => ⟨S16384x64, .f32⟩
  | 96 => ⟨S16384x64, .f32⟩
  | 97 => ⟨S16384x64, .f32⟩
  | 98 => ⟨S16384x64, .f32⟩
  | 99 => ⟨S16384x64, .f32⟩
  | 100 => ⟨S16384x64, .f32⟩
  | 101 => ⟨S16384x64, .f32⟩
  | 102 => ⟨S16384x64, .f32⟩
  | 103 => ⟨S16384x64, .f32⟩
  | 104 => ⟨S16384x64, .f32⟩
  | 105 => ⟨S16384x64, .f32⟩
  | 106 => ⟨S16384x64, .f32⟩
  | 107 => ⟨S16384x64, .f32⟩
  | 108 => ⟨S16384x64, .f32⟩
  | 109 => ⟨S16384x64, .f32⟩
  | 110 => ⟨S16384x64, .f32⟩
  | 111 => ⟨S16384x64, .f32⟩
  | 112 => ⟨S_, .i32⟩
  | 113 => ⟨S16384, .i32⟩
  | 114 => ⟨S16384, .i1⟩
  | 115 => ⟨S16384x1, .i1⟩
  | 116 => ⟨S16384x64, .i1⟩
  | 117 => ⟨S16384x64, .f32⟩
  | 118 => ⟨S16384x1x80, .f32⟩
  | 119 => ⟨S16384x80, .f32⟩
  | 120 => ⟨S16384x192, .f32⟩
  | 121 => ⟨S16384x192, .f32⟩
  | 122 => ⟨S16384x192, .f32⟩
  | 123 => ⟨S16384x192, .f32⟩
  | 124 => ⟨S16384x192, .f32⟩
  | 125 => ⟨S16384x192, .f32⟩
  | 126 => ⟨S16384x64, .f32⟩
  | 127 => ⟨S16384x64, .f32⟩
  | _ => ⟨S16384x22x64, .f32⟩

abbrev hbmTy0_9 (i : Nat) : BufTy := match i % 128 with
  | 0 => ⟨S16384x64, .f32⟩
  | 1 => ⟨S16384x64, .f32⟩
  | 2 => ⟨S16384x64, .f32⟩
  | 3 => ⟨S16384x64, .f32⟩
  | 4 => ⟨S16384x64, .f32⟩
  | 5 => ⟨S16384x64, .f32⟩
  | 6 => ⟨S16384x64, .f32⟩
  | 7 => ⟨S16384x64, .f32⟩
  | 8 => ⟨S16384x64, .f32⟩
  | 9 => ⟨S16384x64, .f32⟩
  | 10 => ⟨S16384x64, .f32⟩
  | 11 => ⟨S16384x64, .f32⟩
  | 12 => ⟨S16384x64, .f32⟩
  | 13 => ⟨S16384x64, .f32⟩
  | 14 => ⟨S16384x64, .f32⟩
  | 15 => ⟨S16384x64, .f32⟩
  | 16 => ⟨S16384x64, .f32⟩
  | 17 => ⟨S16384x64, .f32⟩
  | 18 => ⟨S16384x64, .f32⟩
  | 19 => ⟨S16384x64, .f32⟩
  | 20 => ⟨S16384x64, .f32⟩
  | 21 => ⟨S_, .i32⟩
  | 22 => ⟨S16384, .i32⟩
  | 23 => ⟨S16384, .i1⟩
  | 24 => ⟨S16384x1, .i1⟩
  | 25 => ⟨S16384x64, .i1⟩
  | 26 => ⟨S16384x64, .f32⟩
  | 27 => ⟨S16384x1x80, .f32⟩
  | 28 => ⟨S16384x80, .f32⟩
  | 29 => ⟨S16384x192, .f32⟩
  | 30 => ⟨S16384x192, .f32⟩
  | 31 => ⟨S16384x192, .f32⟩
  | 32 => ⟨S16384x192, .f32⟩
  | 33 => ⟨S16384x192, .f32⟩
  | 34 => ⟨S16384x192, .f32⟩
  | 35 => ⟨S16384x64, .f32⟩
  | 36 => ⟨S16384x64, .f32⟩
  | 37 => ⟨S16384x64, .f32⟩
  | 38 => ⟨S16384x64, .f32⟩
  | 39 => ⟨S16384x64, .f32⟩
  | 40 => ⟨S16384x64, .f32⟩
  | 41 => ⟨S16384x64, .f32⟩
  | 42 => ⟨S16384x64, .f32⟩
  | 43 => ⟨S16384x64, .f32⟩
  | 44 => ⟨S16384x64, .f32⟩
  | 45 => ⟨S16384x64, .f32⟩
  | 46 => ⟨S16384x64, .f32⟩
  | 47 => ⟨S16384x64, .f32⟩
  | 48 => ⟨S16384x64, .f32⟩
  | 49 => ⟨S16384x64, .f32⟩
  | 50 => ⟨S16384x64, .f32⟩
  | 51 => ⟨S16384x64, .f32⟩
  | 52 => ⟨S16384x64, .f32⟩
  | 53 => ⟨S16384x64, .f32⟩
  | 54 => ⟨S16384x64, .f32⟩
  | 55 => ⟨S16384x64, .f32⟩
  | 56 => ⟨S16384x64, .f32⟩
  | 57 => ⟨S16384x64, .f32⟩
  | 58 => ⟨S_, .i32⟩
  | 59 => ⟨S16384, .i32⟩
  | 60 => ⟨S16384, .i1⟩
  | 61 => ⟨S16384x1, .i1⟩
  | 62 => ⟨S16384x64, .i1⟩
  | 63 => ⟨S16384x64, .f32⟩
  | 64 => ⟨S16384x1x80, .f32⟩
  | 65 => ⟨S16384x80, .f32⟩
  | 66 => ⟨S16384x192, .f32⟩
  | 67 => ⟨S16384x192, .f32⟩
  | 68 => ⟨S16384x192, .f32⟩
  | 69 => ⟨S16384x192, .f32⟩
  | 70 => ⟨S16384x192, .f32⟩
  | 71 => ⟨S16384x192, .f32⟩
  | 72 => ⟨S16384x64, .f32⟩
  | 73 => ⟨S16384x64, .f32⟩
  | 74 => ⟨S16384x64, .f32⟩
  | 75 => ⟨S16384x64, .f32⟩
  | 76 => ⟨S16384x64, .f32⟩
  | 77 => ⟨S16384x64, .f32⟩
  | 78 => ⟨S16384x64, .f32⟩
  | 79 => ⟨S16384x64, .f32⟩
  | 80 => ⟨S16384x64, .f32⟩
  | 81 => ⟨S16384x64, .f32⟩
  | 82 => ⟨S16384x64, .f32⟩
  | 83 => ⟨S16384x64, .f32⟩
  | 84 => ⟨S16384x64, .f32⟩
  | 85 => ⟨S16384x64, .f32⟩
  | 86 => ⟨S16384x64, .f32⟩
  | 87 => ⟨S16384x64, .f32⟩
  | 88 => ⟨S16384x64, .f32⟩
  | 89 => ⟨S16384x64, .f32⟩
  | 90 => ⟨S16384x64, .f32⟩
  | 91 => ⟨S16384x64, .f32⟩
  | 92 => ⟨S16384x64, .f32⟩
  | 93 => ⟨S16384x64, .f32⟩
  | 94 => ⟨S16384x64, .f32⟩
  | 95 => ⟨S_, .i32⟩
  | 96 => ⟨S16384, .i32⟩
  | 97 => ⟨S16384, .i1⟩
  | 98 => ⟨S16384x1, .i1⟩
  | 99 => ⟨S16384x64, .i1⟩
  | 100 => ⟨S16384x64, .f32⟩
  | 101 => ⟨S80x192, .f32⟩
  | 102 => ⟨S64x192, .f32⟩
  | 103 => ⟨S1x192, .f32⟩
  | 104 => ⟨S1x192, .f32⟩
  | 105 => ⟨S_, .f32⟩
  | 106 => ⟨S16384x64, .f32⟩
  | 107 => ⟨S_, .f32⟩
  | 108 => ⟨S16384x64, .f32⟩
  | 109 => ⟨S16384x1x80, .f32⟩
  | 110 => ⟨S16384x80, .f32⟩
  | 111 => ⟨S16384x192, .f32⟩
  | 112 => ⟨S16384x192, .f32⟩
  | 113 => ⟨S16384x192, .f32⟩
  | 114 => ⟨S16384x192, .f32⟩
  | 115 => ⟨S16384x192, .f32⟩
  | 116 => ⟨S16384x192, .f32⟩
  | 117 => ⟨S16384x64, .f32⟩
  | 118 => ⟨S16384x64, .f32⟩
  | 119 => ⟨S16384x64, .f32⟩
  | 120 => ⟨S16384x64, .f32⟩
  | 121 => ⟨S16384x64, .f32⟩
  | 122 => ⟨S16384x64, .f32⟩
  | 123 => ⟨S16384x64, .f32⟩
  | 124 => ⟨S16384x64, .f32⟩
  | 125 => ⟨S16384x64, .f32⟩
  | 126 => ⟨S16384x64, .f32⟩
  | 127 => ⟨S16384x64, .f32⟩
  | _ => ⟨S16384x22x64, .f32⟩

abbrev hbmTy0_10 (i : Nat) : BufTy := match i % 128 with
  | 0 => ⟨S16384x64, .f32⟩
  | 1 => ⟨S16384x64, .f32⟩
  | 2 => ⟨S16384x64, .f32⟩
  | 3 => ⟨S16384x64, .f32⟩
  | 4 => ⟨S16384x64, .f32⟩
  | 5 => ⟨S16384x64, .f32⟩
  | 6 => ⟨S16384x64, .f32⟩
  | 7 => ⟨S16384x64, .f32⟩
  | 8 => ⟨S16384x64, .f32⟩
  | 9 => ⟨S16384x64, .f32⟩
  | 10 => ⟨S16384x64, .f32⟩
  | 11 => ⟨S16384x64, .f32⟩
  | 12 => ⟨S_, .i32⟩
  | 13 => ⟨S16384, .i32⟩
  | 14 => ⟨S16384, .i1⟩
  | 15 => ⟨S16384x1, .i1⟩
  | 16 => ⟨S16384x64, .i1⟩
  | 17 => ⟨S16384x64, .f32⟩
  | 18 => ⟨S16384x1x80, .f32⟩
  | 19 => ⟨S16384x80, .f32⟩
  | 20 => ⟨S16384x192, .f32⟩
  | 21 => ⟨S16384x192, .f32⟩
  | 22 => ⟨S16384x192, .f32⟩
  | 23 => ⟨S16384x192, .f32⟩
  | 24 => ⟨S16384x192, .f32⟩
  | 25 => ⟨S16384x192, .f32⟩
  | 26 => ⟨S16384x64, .f32⟩
  | 27 => ⟨S16384x64, .f32⟩
  | 28 => ⟨S16384x64, .f32⟩
  | 29 => ⟨S16384x64, .f32⟩
  | 30 => ⟨S16384x64, .f32⟩
  | 31 => ⟨S16384x64, .f32⟩
  | 32 => ⟨S16384x64, .f32⟩
  | 33 => ⟨S16384x64, .f32⟩
  | 34 => ⟨S16384x64, .f32⟩
  | 35 => ⟨S16384x64, .f32⟩
  | 36 => ⟨S16384x64, .f32⟩
  | 37 => ⟨S16384x64, .f32⟩
  | 38 => ⟨S16384x64, .f32⟩
  | 39 => ⟨S16384x64, .f32⟩
  | 40 => ⟨S16384x64, .f32⟩
  | 41 => ⟨S16384x64, .f32⟩
  | 42 => ⟨S16384x64, .f32⟩
  | 43 => ⟨S16384x64, .f32⟩
  | 44 => ⟨S16384x64, .f32⟩
  | 45 => ⟨S16384x64, .f32⟩
  | 46 => ⟨S16384x64, .f32⟩
  | 47 => ⟨S16384x64, .f32⟩
  | 48 => ⟨S16384x64, .f32⟩
  | 49 => ⟨S_, .i32⟩
  | 50 => ⟨S16384, .i32⟩
  | 51 => ⟨S16384, .i1⟩
  | 52 => ⟨S16384x1, .i1⟩
  | 53 => ⟨S16384x64, .i1⟩
  | 54 => ⟨S16384x64, .f32⟩
  | 55 => ⟨S16384x1x80, .f32⟩
  | 56 => ⟨S16384x80, .f32⟩
  | 57 => ⟨S16384x192, .f32⟩
  | 58 => ⟨S16384x192, .f32⟩
  | 59 => ⟨S16384x192, .f32⟩
  | 60 => ⟨S16384x192, .f32⟩
  | 61 => ⟨S16384x192, .f32⟩
  | 62 => ⟨S16384x192, .f32⟩
  | 63 => ⟨S16384x64, .f32⟩
  | 64 => ⟨S16384x64, .f32⟩
  | 65 => ⟨S16384x64, .f32⟩
  | 66 => ⟨S16384x64, .f32⟩
  | 67 => ⟨S16384x64, .f32⟩
  | 68 => ⟨S16384x64, .f32⟩
  | 69 => ⟨S16384x64, .f32⟩
  | 70 => ⟨S16384x64, .f32⟩
  | 71 => ⟨S16384x64, .f32⟩
  | 72 => ⟨S16384x64, .f32⟩
  | 73 => ⟨S16384x64, .f32⟩
  | 74 => ⟨S16384x64, .f32⟩
  | 75 => ⟨S16384x64, .f32⟩
  | 76 => ⟨S16384x64, .f32⟩
  | 77 => ⟨S16384x64, .f32⟩
  | 78 => ⟨S16384x64, .f32⟩
  | 79 => ⟨S16384x64, .f32⟩
  | 80 => ⟨S16384x64, .f32⟩
  | 81 => ⟨S16384x64, .f32⟩
  | 82 => ⟨S16384x64, .f32⟩
  | 83 => ⟨S16384x64, .f32⟩
  | 84 => ⟨S16384x64, .f32⟩
  | 85 => ⟨S16384x64, .f32⟩
  | 86 => ⟨S_, .i32⟩
  | 87 => ⟨S16384, .i32⟩
  | 88 => ⟨S16384, .i1⟩
  | 89 => ⟨S16384x1, .i1⟩
  | 90 => ⟨S16384x64, .i1⟩
  | 91 => ⟨S16384x64, .f32⟩
  | 92 => ⟨S16384x1x80, .f32⟩
  | 93 => ⟨S16384x80, .f32⟩
  | 94 => ⟨S16384x192, .f32⟩
  | 95 => ⟨S16384x192, .f32⟩
  | 96 => ⟨S16384x192, .f32⟩
  | 97 => ⟨S16384x192, .f32⟩
  | 98 => ⟨S16384x192, .f32⟩
  | 99 => ⟨S16384x192, .f32⟩
  | 100 => ⟨S16384x64, .f32⟩
  | 101 => ⟨S16384x64, .f32⟩
  | 102 => ⟨S16384x64, .f32⟩
  | 103 => ⟨S16384x64, .f32⟩
  | 104 => ⟨S16384x64, .f32⟩
  | 105 => ⟨S16384x64, .f32⟩
  | 106 => ⟨S16384x64, .f32⟩
  | 107 => ⟨S16384x64, .f32⟩
  | 108 => ⟨S16384x64, .f32⟩
  | 109 => ⟨S16384x64, .f32⟩
  | 110 => ⟨S16384x64, .f32⟩
  | 111 => ⟨S16384x64, .f32⟩
  | 112 => ⟨S16384x64, .f32⟩
  | 113 => ⟨S16384x64, .f32⟩
  | 114 => ⟨S16384x64, .f32⟩
  | 115 => ⟨S16384x64, .f32⟩
  | 116 => ⟨S16384x64, .f32⟩
  | 117 => ⟨S16384x64, .f32⟩
  | 118 => ⟨S16384x64, .f32⟩
  | 119 => ⟨S16384x64, .f32⟩
  | 120 => ⟨S16384x64, .f32⟩
  | 121 => ⟨S16384x64, .f32⟩
  | 122 => ⟨S16384x64, .f32⟩
  | 123 => ⟨S_, .i32⟩
  | 124 => ⟨S16384, .i32⟩
  | 125 => ⟨S16384, .i1⟩
  | 126 => ⟨S16384x1, .i1⟩
  | 127 => ⟨S16384x64, .i1⟩
  | _ => ⟨S16384x22x64, .f32⟩

abbrev hbmTy0_11 (i : Nat) : BufTy := match i % 128 with
  | 0 => ⟨S16384x64, .f32⟩
  | 1 => ⟨S16384x1x80, .f32⟩
  | 2 => ⟨S16384x80, .f32⟩
  | 3 => ⟨S16384x192, .f32⟩
  | 4 => ⟨S16384x192, .f32⟩
  | 5 => ⟨S16384x192, .f32⟩
  | 6 => ⟨S16384x192, .f32⟩
  | 7 => ⟨S16384x192, .f32⟩
  | 8 => ⟨S16384x192, .f32⟩
  | 9 => ⟨S16384x64, .f32⟩
  | 10 => ⟨S16384x64, .f32⟩
  | 11 => ⟨S16384x64, .f32⟩
  | 12 => ⟨S16384x64, .f32⟩
  | 13 => ⟨S16384x64, .f32⟩
  | 14 => ⟨S16384x64, .f32⟩
  | 15 => ⟨S16384x64, .f32⟩
  | 16 => ⟨S16384x64, .f32⟩
  | 17 => ⟨S16384x64, .f32⟩
  | 18 => ⟨S16384x64, .f32⟩
  | 19 => ⟨S16384x64, .f32⟩
  | 20 => ⟨S16384x64, .f32⟩
  | 21 => ⟨S16384x64, .f32⟩
  | 22 => ⟨S16384x64, .f32⟩
  | 23 => ⟨S16384x64, .f32⟩
  | 24 => ⟨S16384x64, .f32⟩
  | 25 => ⟨S16384x64, .f32⟩
  | 26 => ⟨S16384x64, .f32⟩
  | 27 => ⟨S16384x64, .f32⟩
  | 28 => ⟨S16384x64, .f32⟩
  | 29 => ⟨S16384x64, .f32⟩
  | 30 => ⟨S16384x64, .f32⟩
  | 31 => ⟨S16384x64, .f32⟩
  | 32 => ⟨S_, .i32⟩
  | 33 => ⟨S16384, .i32⟩
  | 34 => ⟨S16384, .i1⟩
  | 35 => ⟨S16384x1, .i1⟩
  | 36 => ⟨S16384x64, .i1⟩
  | 37 => ⟨S16384x64, .f32⟩
  | 38 => ⟨S16384x1x80, .f32⟩
  | 39 => ⟨S16384x80, .f32⟩
  | 40 => ⟨S16384x192, .f32⟩
  | 41 => ⟨S16384x192, .f32⟩
  | 42 => ⟨S16384x192, .f32⟩
  | 43 => ⟨S16384x192, .f32⟩
  | 44 => ⟨S16384x192, .f32⟩
  | 45 => ⟨S16384x192, .f32⟩
  | 46 => ⟨S16384x64, .f32⟩
  | 47 => ⟨S16384x64, .f32⟩
  | 48 => ⟨S16384x64, .f32⟩
  | 49 => ⟨S16384x64, .f32⟩
  | 50 => ⟨S16384x64, .f32⟩
  | 51 => ⟨S16384x64, .f32⟩
  | 52 => ⟨S16384x64, .f32⟩
  | 53 => ⟨S16384x64, .f32⟩
  | 54 => ⟨S16384x64, .f32⟩
  | 55 => ⟨S16384x64, .f32⟩
  | 56 => ⟨S16384x64, .f32⟩
  | 57 => ⟨S16384x64, .f32⟩
  | 58 => ⟨S16384x64, .f32⟩
  | 59 => ⟨S16384x64, .f32⟩
  | 60 => ⟨S16384x64, .f32⟩
  | 61 => ⟨S16384x64, .f32⟩
  | 62 => ⟨S16384x64, .f32⟩
  | 63 => ⟨S16384x64, .f32⟩
  | 64 => ⟨S16384x64, .f32⟩
  | 65 => ⟨S16384x64, .f32⟩
  | 66 => ⟨S16384x64, .f32⟩
  | 67 => ⟨S16384x64, .f32⟩
  | 68 => ⟨S16384x64, .f32⟩
  | 69 => ⟨S_, .i32⟩
  | 70 => ⟨S16384, .i32⟩
  | 71 => ⟨S16384, .i1⟩
  | 72 => ⟨S16384x1, .i1⟩
  | 73 => ⟨S16384x64, .i1⟩
  | 74 => ⟨S16384x64, .f32⟩
  | 75 => ⟨S16384x1x80, .f32⟩
  | 76 => ⟨S16384x80, .f32⟩
  | 77 => ⟨S16384x192, .f32⟩
  | 78 => ⟨S16384x192, .f32⟩
  | 79 => ⟨S16384x192, .f32⟩
  | 80 => ⟨S16384x192, .f32⟩
  | 81 => ⟨S16384x192, .f32⟩
  | 82 => ⟨S16384x192, .f32⟩
  | 83 => ⟨S16384x64, .f32⟩
  | 84 => ⟨S16384x64, .f32⟩
  | 85 => ⟨S16384x64, .f32⟩
  | 86 => ⟨S16384x64, .f32⟩
  | 87 => ⟨S16384x64, .f32⟩
  | 88 => ⟨S16384x64, .f32⟩
  | 89 => ⟨S16384x64, .f32⟩
  | 90 => ⟨S16384x64, .f32⟩
  | 91 => ⟨S16384x64, .f32⟩
  | 92 => ⟨S16384x64, .f32⟩
  | 93 => ⟨S16384x64, .f32⟩
  | 94 => ⟨S16384x64, .f32⟩
  | 95 => ⟨S16384x64, .f32⟩
  | 96 => ⟨S16384x64, .f32⟩
  | 97 => ⟨S16384x64, .f32⟩
  | 98 => ⟨S16384x64, .f32⟩
  | 99 => ⟨S16384x64, .f32⟩
  | 100 => ⟨S16384x64, .f32⟩
  | 101 => ⟨S16384x64, .f32⟩
  | 102 => ⟨S16384x64, .f32⟩
  | 103 => ⟨S16384x64, .f32⟩
  | 104 => ⟨S16384x64, .f32⟩
  | 105 => ⟨S16384x64, .f32⟩
  | 106 => ⟨S_, .i32⟩
  | 107 => ⟨S16384, .i32⟩
  | 108 => ⟨S16384, .i1⟩
  | 109 => ⟨S16384x1, .i1⟩
  | 110 => ⟨S16384x64, .i1⟩
  | 111 => ⟨S16384x64, .f32⟩
  | 112 => ⟨S16384x1x80, .f32⟩
  | 113 => ⟨S16384x80, .f32⟩
  | 114 => ⟨S16384x192, .f32⟩
  | 115 => ⟨S16384x192, .f32⟩
  | 116 => ⟨S16384x192, .f32⟩
  | 117 => ⟨S16384x192, .f32⟩
  | 118 => ⟨S16384x192, .f32⟩
  | 119 => ⟨S16384x192, .f32⟩
  | 120 => ⟨S16384x64, .f32⟩
  | 121 => ⟨S16384x64, .f32⟩
  | 122 => ⟨S16384x64, .f32⟩
  | 123 => ⟨S16384x64, .f32⟩
  | 124 => ⟨S16384x64, .f32⟩
  | 125 => ⟨S16384x64, .f32⟩
  | 126 => ⟨S16384x64, .f32⟩
  | 127 => ⟨S16384x64, .f32⟩
  | _ => ⟨S16384x22x64, .f32⟩

abbrev hbmTy0_12 (i : Nat) : BufTy := match i % 128 with
  | 0 => ⟨S16384x64, .f32⟩
  | 1 => ⟨S16384x64, .f32⟩
  | 2 => ⟨S16384x64, .f32⟩
  | 3 => ⟨S16384x64, .f32⟩
  | 4 => ⟨S16384x64, .f32⟩
  | 5 => ⟨S16384x64, .f32⟩
  | 6 => ⟨S16384x64, .f32⟩
  | 7 => ⟨S16384x64, .f32⟩
  | 8 => ⟨S16384x64, .f32⟩
  | 9 => ⟨S16384x64, .f32⟩
  | 10 => ⟨S16384x64, .f32⟩
  | 11 => ⟨S16384x64, .f32⟩
  | 12 => ⟨S16384x64, .f32⟩
  | 13 => ⟨S16384x64, .f32⟩
  | 14 => ⟨S16384x64, .f32⟩
  | 15 => ⟨S_, .i32⟩
  | 16 => ⟨S16384, .i32⟩
  | 17 => ⟨S16384, .i1⟩
  | 18 => ⟨S16384x1, .i1⟩
  | 19 => ⟨S16384x64, .i1⟩
  | 20 => ⟨S16384x64, .f32⟩
  | 21 => ⟨S16384x128, .f32⟩
  | 22 => ⟨S128x64, .f32⟩
  | 23 => ⟨S16384x64, .f32⟩
  | 24 => ⟨S1x64, .f32⟩
  | 25 => ⟨S16384x64, .f32⟩
  | 26 => ⟨S16384x64, .f32⟩
  | 27 => ⟨S_, .f32⟩
  | 28 => ⟨S16384x64, .f32⟩
  | 29 => ⟨S16384x64, .f32⟩
  | 30 => ⟨S64x64, .f32⟩
  | 31 => ⟨S16384x64, .f32⟩
  | 32 => ⟨S1x64, .f32⟩
  | 33 => ⟨S16384x64, .f32⟩
  | 34 => ⟨S16384x64, .f32⟩
  | 35 => ⟨S64x64, .f32⟩
  | 36 => ⟨S16384x64, .f32⟩
  | 37 => ⟨S1x64, .f32⟩
  | 38 => ⟨S16384x64, .f32⟩
  | 39 => ⟨S16384x64, .f32⟩
  | 40 => ⟨S64x64, .f32⟩
  | 41 => ⟨S16384x64, .f32⟩
  | 42 => ⟨S1x64, .f32⟩
  | 43 => ⟨S16384x64, .f32⟩
  | 44 => ⟨S16384x64, .f32⟩
  | 45 => ⟨S_, .f32⟩
  | 46 => ⟨S16384x64, .f32⟩
  | 47 => ⟨S16384x64, .f32⟩
  | 48 => ⟨S16384x64, .f32⟩
  | _ => ⟨S16384x22x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | _ => ⟨S16384x22x64, .f32⟩

abbrev bufTy : (tb : Table) → Fin (tcTables nBuf tb) → BufTy
  | .hbm, ⟨i, _⟩ => hbmTy i
  | _, _ => ⟨S16384x22x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_cst : Ref sig .tc := ⟨.hbm, 35, rfl⟩
abbrev main_v4 : Ref sig .tc := ⟨.hbm, 36, rfl⟩
abbrev main_cst_0 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst_1 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_cst_2 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_3 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_call0_v0 : Ref sig .tc := ⟨.hbm, 63, rfl⟩
abbrev main_call0_cst : Ref sig .tc := ⟨.hbm, 64, rfl⟩
abbrev main_call0_v1 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_call1_v0 : Ref sig .tc := ⟨.hbm, 72, rfl⟩
abbrev main_call1_cst : Ref sig .tc := ⟨.hbm, 73, rfl⟩
abbrev main_call1_v1 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_call2_v0 : Ref sig .tc := ⟨.hbm, 81, rfl⟩
abbrev main_call2_cst : Ref sig .tc := ⟨.hbm, 82, rfl⟩
abbrev main_call2_v1 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_cst_4 : Ref sig .tc := ⟨.hbm, 89, rfl⟩
abbrev main_v44 : Ref sig .tc := ⟨.hbm, 90, rfl⟩
abbrev main_v45 : Ref sig .tc := ⟨.hbm, 91, rfl⟩
abbrev main_cst_5 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_c : Ref sig .tc := ⟨.hbm, 97, rfl⟩
abbrev main_call3_v0 : Ref sig .tc := ⟨.hbm, 98, rfl⟩
abbrev main_v50 : Ref sig .tc := ⟨.hbm, 99, rfl⟩
abbrev main_c_6 : Ref sig .tc := ⟨.hbm, 100, rfl⟩
abbrev main_call4_v0 : Ref sig .tc := ⟨.hbm, 101, rfl⟩
abbrev main_v51 : Ref sig .tc := ⟨.hbm, 102, rfl⟩
abbrev main_cst_7 : Ref sig .tc := ⟨.hbm, 103, rfl⟩
abbrev main_v52 : Ref sig .tc := ⟨.hbm, 104, rfl⟩
abbrev main_v53 : Ref sig .tc := ⟨.hbm, 105, rfl⟩
abbrev main_cst_8 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_cst_9 : Ref sig .tc := ⟨.hbm, 111, rfl⟩
abbrev main_v58 : Ref sig .tc := ⟨.hbm, 112, rfl⟩
abbrev main_v59 : Ref sig .tc := ⟨.hbm, 113, rfl⟩
abbrev main_cst_10 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_call5_v0 : Ref sig .tc := ⟨.hbm, 119, rfl⟩
abbrev main_call5_cst : Ref sig .tc := ⟨.hbm, 120, rfl⟩
abbrev main_call5_v1 : Ref sig .tc := ⟨.hbm, 121, rfl⟩
abbrev main_call5_v2 : Ref sig .tc := ⟨.hbm, 122, rfl⟩
abbrev main_v64 : Ref sig .tc := ⟨.hbm, 123, rfl⟩
abbrev main_call6_v0 : Ref sig .tc := ⟨.hbm, 124, rfl⟩
abbrev main_call6_cst : Ref sig .tc := ⟨.hbm, 125, rfl⟩
abbrev main_call6_v1 : Ref sig .tc := ⟨.hbm, 126, rfl⟩
abbrev main_call6_v2 : Ref sig .tc := ⟨.hbm, 127, rfl⟩
abbrev main_v65 : Ref sig .tc := ⟨.hbm, 128, rfl⟩
abbrev main_v66 : Ref sig .tc := ⟨.hbm, 129, rfl⟩
abbrev main_cst_11 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_cst_12 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_cst_13 : Ref sig .tc := ⟨.hbm, 143, rfl⟩
abbrev main_v78 : Ref sig .tc := ⟨.hbm, 144, rfl⟩
abbrev main_cst_14 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_v228 : Ref sig .tc := ⟨.hbm, 295, rfl⟩
abbrev main_v229 : Ref sig .tc := ⟨.hbm, 296, rfl⟩
abbrev main_v230 : Ref sig .tc := ⟨.hbm, 297, rfl⟩
abbrev main_v231 : Ref sig .tc := ⟨.hbm, 298, rfl⟩
abbrev main_v232 : Ref sig .tc := ⟨.hbm, 299, rfl⟩
abbrev main_v233 : Ref sig .tc := ⟨.hbm, 300, rfl⟩
abbrev main_v234 : Ref sig .tc := ⟨.hbm, 301, rfl⟩
abbrev main_v235 : Ref sig .tc := ⟨.hbm, 302, rfl⟩
abbrev main_v236 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩
abbrev main_v243 : Ref sig .tc := ⟨.hbm, 310, rfl⟩
abbrev main_v244 : Ref sig .tc := ⟨.hbm, 311, rfl⟩
abbrev main_v245 : Ref sig .tc := ⟨.hbm, 312, rfl⟩
abbrev main_v246 : Ref sig .tc := ⟨.hbm, 313, rfl⟩
abbrev main_v247 : Ref sig .tc := ⟨.hbm, 314, rfl⟩
abbrev main_v248 : Ref sig .tc := ⟨.hbm, 315, rfl⟩
abbrev main_v249 : Ref sig .tc := ⟨.hbm, 316, rfl⟩
abbrev main_v250 : Ref sig .tc := ⟨.hbm, 317, rfl⟩
abbrev main_v251 : Ref sig .tc := ⟨.hbm, 318, rfl⟩
abbrev main_v252 : Ref sig .tc := ⟨.hbm, 319, rfl⟩
abbrev main_v253 : Ref sig .tc := ⟨.hbm, 320, rfl⟩
abbrev main_v254 : Ref sig .tc := ⟨.hbm, 321, rfl⟩
abbrev main_v255 : Ref sig .tc := ⟨.hbm, 322, rfl⟩
abbrev main_v256 : Ref sig .tc := ⟨.hbm, 323, rfl⟩
abbrev main_v257 : Ref sig .tc := ⟨.hbm, 324, rfl⟩
abbrev main_v258 : Ref sig .tc := ⟨.hbm, 325, rfl⟩
abbrev main_v259 : Ref sig .tc := ⟨.hbm, 326, rfl⟩
abbrev main_v260 : Ref sig .tc := ⟨.hbm, 327, rfl⟩
abbrev main_v261 : Ref sig .tc := ⟨.hbm, 328, rfl⟩
abbrev main_v262 : Ref sig .tc := ⟨.hbm, 329, rfl⟩
abbrev main_v263 : Ref sig .tc := ⟨.hbm, 330, rfl⟩
abbrev main_v264 : Ref sig .tc := ⟨.hbm, 331, rfl⟩
abbrev main_v265 : Ref sig .tc := ⟨.hbm, 332, rfl⟩
abbrev main_v266 : Ref sig .tc := ⟨.hbm, 333, rfl⟩
abbrev main_v267 : Ref sig .tc := ⟨.hbm, 334, rfl⟩
abbrev main_v268 : Ref sig .tc := ⟨.hbm, 335, rfl⟩
abbrev main_v269 : Ref sig .tc := ⟨.hbm, 336, rfl⟩
abbrev main_v270 : Ref sig .tc := ⟨.hbm, 337, rfl⟩
abbrev main_v271 : Ref sig .tc := ⟨.hbm, 338, rfl⟩
abbrev main_v272 : Ref sig .tc := ⟨.hbm, 339, rfl⟩
abbrev main_v273 : Ref sig .tc := ⟨.hbm, 340, rfl⟩
abbrev main_v274 : Ref sig .tc := ⟨.hbm, 341, rfl⟩
abbrev main_v275 : Ref sig .tc := ⟨.hbm, 342, rfl⟩
abbrev main_v276 : Ref sig .tc := ⟨.hbm, 343, rfl⟩
abbrev main_v277 : Ref sig .tc := ⟨.hbm, 344, rfl⟩
abbrev main_v278 : Ref sig .tc := ⟨.hbm, 345, rfl⟩
abbrev main_v279 : Ref sig .tc := ⟨.hbm, 346, rfl⟩
abbrev main_v280 : Ref sig .tc := ⟨.hbm, 347, rfl⟩
abbrev main_v281 : Ref sig .tc := ⟨.hbm, 348, rfl⟩
abbrev main_v282 : Ref sig .tc := ⟨.hbm, 349, rfl⟩
abbrev main_v283 : Ref sig .tc := ⟨.hbm, 350, rfl⟩
abbrev main_v284 : Ref sig .tc := ⟨.hbm, 351, rfl⟩
abbrev main_v285 : Ref sig .tc := ⟨.hbm, 352, rfl⟩
abbrev main_v286 : Ref sig .tc := ⟨.hbm, 353, rfl⟩
abbrev main_v287 : Ref sig .tc := ⟨.hbm, 354, rfl⟩
abbrev main_v288 : Ref sig .tc := ⟨.hbm, 355, rfl⟩
abbrev main_v289 : Ref sig .tc := ⟨.hbm, 356, rfl⟩
abbrev main_v290 : Ref sig .tc := ⟨.hbm, 357, rfl⟩
abbrev main_v291 : Ref sig .tc := ⟨.hbm, 358, rfl⟩
abbrev main_v292 : Ref sig .tc := ⟨.hbm, 359, rfl⟩
abbrev main_v293 : Ref sig .tc := ⟨.hbm, 360, rfl⟩
abbrev main_v294 : Ref sig .tc := ⟨.hbm, 361, rfl⟩
abbrev main_v295 : Ref sig .tc := ⟨.hbm, 362, rfl⟩
abbrev main_v296 : Ref sig .tc := ⟨.hbm, 363, rfl⟩
abbrev main_v297 : Ref sig .tc := ⟨.hbm, 364, rfl⟩
abbrev main_v298 : Ref sig .tc := ⟨.hbm, 365, rfl⟩
abbrev main_v299 : Ref sig .tc := ⟨.hbm, 366, rfl⟩
abbrev main_v300 : Ref sig .tc := ⟨.hbm, 367, rfl⟩
abbrev main_v301 : Ref sig .tc := ⟨.hbm, 368, rfl⟩
abbrev main_v302 : Ref sig .tc := ⟨.hbm, 369, rfl⟩
abbrev main_v303 : Ref sig .tc := ⟨.hbm, 370, rfl⟩
abbrev main_v304 : Ref sig .tc := ⟨.hbm, 371, rfl⟩
abbrev main_v305 : Ref sig .tc := ⟨.hbm, 372, rfl⟩
abbrev main_v306 : Ref sig .tc := ⟨.hbm, 373, rfl⟩
abbrev main_v307 : Ref sig .tc := ⟨.hbm, 374, rfl⟩
abbrev main_v308 : Ref sig .tc := ⟨.hbm, 375, rfl⟩
abbrev main_v309 : Ref sig .tc := ⟨.hbm, 376, rfl⟩
abbrev main_v310 : Ref sig .tc := ⟨.hbm, 377, rfl⟩
abbrev main_v311 : Ref sig .tc := ⟨.hbm, 378, rfl⟩
abbrev main_v312 : Ref sig .tc := ⟨.hbm, 379, rfl⟩
abbrev main_v313 : Ref sig .tc := ⟨.hbm, 380, rfl⟩
abbrev main_v314 : Ref sig .tc := ⟨.hbm, 381, rfl⟩
abbrev main_v315 : Ref sig .tc := ⟨.hbm, 382, rfl⟩
abbrev main_v316 : Ref sig .tc := ⟨.hbm, 383, rfl⟩
abbrev main_v317 : Ref sig .tc := ⟨.hbm, 384, rfl⟩
abbrev main_v318 : Ref sig .tc := ⟨.hbm, 385, rfl⟩
abbrev main_v319 : Ref sig .tc := ⟨.hbm, 386, rfl⟩
abbrev main_v320 : Ref sig .tc := ⟨.hbm, 387, rfl⟩
abbrev main_v321 : Ref sig .tc := ⟨.hbm, 388, rfl⟩
abbrev main_v322 : Ref sig .tc := ⟨.hbm, 389, rfl⟩
abbrev main_v323 : Ref sig .tc := ⟨.hbm, 390, rfl⟩
abbrev main_v324 : Ref sig .tc := ⟨.hbm, 391, rfl⟩
abbrev main_v325 : Ref sig .tc := ⟨.hbm, 392, rfl⟩
abbrev main_v326 : Ref sig .tc := ⟨.hbm, 393, rfl⟩
abbrev main_v327 : Ref sig .tc := ⟨.hbm, 394, rfl⟩
abbrev main_v328 : Ref sig .tc := ⟨.hbm, 395, rfl⟩
abbrev main_v329 : Ref sig .tc := ⟨.hbm, 396, rfl⟩
abbrev main_v330 : Ref sig .tc := ⟨.hbm, 397, rfl⟩
abbrev main_v331 : Ref sig .tc := ⟨.hbm, 398, rfl⟩
abbrev main_v332 : Ref sig .tc := ⟨.hbm, 399, rfl⟩
abbrev main_v333 : Ref sig .tc := ⟨.hbm, 400, rfl⟩
abbrev main_v334 : Ref sig .tc := ⟨.hbm, 401, rfl⟩
abbrev main_v335 : Ref sig .tc := ⟨.hbm, 402, rfl⟩
abbrev main_v336 : Ref sig .tc := ⟨.hbm, 403, rfl⟩
abbrev main_v337 : Ref sig .tc := ⟨.hbm, 404, rfl⟩
abbrev main_v338 : Ref sig .tc := ⟨.hbm, 405, rfl⟩
abbrev main_v339 : Ref sig .tc := ⟨.hbm, 406, rfl⟩
abbrev main_v340 : Ref sig .tc := ⟨.hbm, 407, rfl⟩
abbrev main_v341 : Ref sig .tc := ⟨.hbm, 408, rfl⟩
abbrev main_v342 : Ref sig .tc := ⟨.hbm, 409, rfl⟩
abbrev main_v343 : Ref sig .tc := ⟨.hbm, 410, rfl⟩
abbrev main_v344 : Ref sig .tc := ⟨.hbm, 411, rfl⟩
abbrev main_v345 : Ref sig .tc := ⟨.hbm, 412, rfl⟩
abbrev main_v346 : Ref sig .tc := ⟨.hbm, 413, rfl⟩
abbrev main_v347 : Ref sig .tc := ⟨.hbm, 414, rfl⟩
abbrev main_v348 : Ref sig .tc := ⟨.hbm, 415, rfl⟩
abbrev main_v349 : Ref sig .tc := ⟨.hbm, 416, rfl⟩
abbrev main_v350 : Ref sig .tc := ⟨.hbm, 417, rfl⟩
abbrev main_v351 : Ref sig .tc := ⟨.hbm, 418, rfl⟩
abbrev main_v352 : Ref sig .tc := ⟨.hbm, 419, rfl⟩
abbrev main_v353 : Ref sig .tc := ⟨.hbm, 420, rfl⟩
abbrev main_v354 : Ref sig .tc := ⟨.hbm, 421, rfl⟩
abbrev main_v355 : Ref sig .tc := ⟨.hbm, 422, rfl⟩
abbrev main_v356 : Ref sig .tc := ⟨.hbm, 423, rfl⟩
abbrev main_v357 : Ref sig .tc := ⟨.hbm, 424, rfl⟩
abbrev main_v358 : Ref sig .tc := ⟨.hbm, 425, rfl⟩
abbrev main_v359 : Ref sig .tc := ⟨.hbm, 426, rfl⟩
abbrev main_v360 : Ref sig .tc := ⟨.hbm, 427, rfl⟩
abbrev main_v361 : Ref sig .tc := ⟨.hbm, 428, rfl⟩
abbrev main_v362 : Ref sig .tc := ⟨.hbm, 429, rfl⟩
abbrev main_v363 : Ref sig .tc := ⟨.hbm, 430, rfl⟩
abbrev main_v364 : Ref sig .tc := ⟨.hbm, 431, rfl⟩
abbrev main_v365 : Ref sig .tc := ⟨.hbm, 432, rfl⟩
abbrev main_v366 : Ref sig .tc := ⟨.hbm, 433, rfl⟩
abbrev main_v367 : Ref sig .tc := ⟨.hbm, 434, rfl⟩
abbrev main_v368 : Ref sig .tc := ⟨.hbm, 435, rfl⟩
abbrev main_v369 : Ref sig .tc := ⟨.hbm, 436, rfl⟩
abbrev main_v370 : Ref sig .tc := ⟨.hbm, 437, rfl⟩
abbrev main_v371 : Ref sig .tc := ⟨.hbm, 438, rfl⟩
abbrev main_v372 : Ref sig .tc := ⟨.hbm, 439, rfl⟩
abbrev main_v373 : Ref sig .tc := ⟨.hbm, 440, rfl⟩
abbrev main_v374 : Ref sig .tc := ⟨.hbm, 441, rfl⟩
abbrev main_v375 : Ref sig .tc := ⟨.hbm, 442, rfl⟩
abbrev main_v376 : Ref sig .tc := ⟨.hbm, 443, rfl⟩
abbrev main_v377 : Ref sig .tc := ⟨.hbm, 444, rfl⟩
abbrev main_v378 : Ref sig .tc := ⟨.hbm, 445, rfl⟩
abbrev main_v379 : Ref sig .tc := ⟨.hbm, 446, rfl⟩
abbrev main_v380 : Ref sig .tc := ⟨.hbm, 447, rfl⟩
abbrev main_v381 : Ref sig .tc := ⟨.hbm, 448, rfl⟩
abbrev main_v382 : Ref sig .tc := ⟨.hbm, 449, rfl⟩
abbrev main_v383 : Ref sig .tc := ⟨.hbm, 450, rfl⟩
abbrev main_v384 : Ref sig .tc := ⟨.hbm, 451, rfl⟩
abbrev main_v385 : Ref sig .tc := ⟨.hbm, 452, rfl⟩
abbrev main_v386 : Ref sig .tc := ⟨.hbm, 453, rfl⟩
abbrev main_v387 : Ref sig .tc := ⟨.hbm, 454, rfl⟩
abbrev main_v388 : Ref sig .tc := ⟨.hbm, 455, rfl⟩
abbrev main_v389 : Ref sig .tc := ⟨.hbm, 456, rfl⟩
abbrev main_v390 : Ref sig .tc := ⟨.hbm, 457, rfl⟩
abbrev main_v391 : Ref sig .tc := ⟨.hbm, 458, rfl⟩
abbrev main_v392 : Ref sig .tc := ⟨.hbm, 459, rfl⟩
abbrev main_v393 : Ref sig .tc := ⟨.hbm, 460, rfl⟩
abbrev main_v394 : Ref sig .tc := ⟨.hbm, 461, rfl⟩
abbrev main_v395 : Ref sig .tc := ⟨.hbm, 462, rfl⟩
abbrev main_v396 : Ref sig .tc := ⟨.hbm, 463, rfl⟩
abbrev main_v397 : Ref sig .tc := ⟨.hbm, 464, rfl⟩
abbrev main_v398 : Ref sig .tc := ⟨.hbm, 465, rfl⟩
abbrev main_v399 : Ref sig .tc := ⟨.hbm, 466, rfl⟩
abbrev main_v400 : Ref sig .tc := ⟨.hbm, 467, rfl⟩
abbrev main_v401 : Ref sig .tc := ⟨.hbm, 468, rfl⟩
abbrev main_v402 : Ref sig .tc := ⟨.hbm, 469, rfl⟩
abbrev main_v403 : Ref sig .tc := ⟨.hbm, 470, rfl⟩
abbrev main_v404 : Ref sig .tc := ⟨.hbm, 471, rfl⟩
abbrev main_v405 : Ref sig .tc := ⟨.hbm, 472, rfl⟩
abbrev main_v406 : Ref sig .tc := ⟨.hbm, 473, rfl⟩
abbrev main_v407 : Ref sig .tc := ⟨.hbm, 474, rfl⟩
abbrev main_v408 : Ref sig .tc := ⟨.hbm, 475, rfl⟩
abbrev main_v409 : Ref sig .tc := ⟨.hbm, 476, rfl⟩
abbrev main_v410 : Ref sig .tc := ⟨.hbm, 477, rfl⟩
abbrev main_v411 : Ref sig .tc := ⟨.hbm, 478, rfl⟩
abbrev main_v412 : Ref sig .tc := ⟨.hbm, 479, rfl⟩
abbrev main_v413 : Ref sig .tc := ⟨.hbm, 480, rfl⟩
abbrev main_v414 : Ref sig .tc := ⟨.hbm, 481, rfl⟩
abbrev main_v415 : Ref sig .tc := ⟨.hbm, 482, rfl⟩
abbrev main_v416 : Ref sig .tc := ⟨.hbm, 483, rfl⟩
abbrev main_v417 : Ref sig .tc := ⟨.hbm, 484, rfl⟩
abbrev main_v418 : Ref sig .tc := ⟨.hbm, 485, rfl⟩
abbrev main_v419 : Ref sig .tc := ⟨.hbm, 486, rfl⟩
abbrev main_v420 : Ref sig .tc := ⟨.hbm, 487, rfl⟩
abbrev main_v421 : Ref sig .tc := ⟨.hbm, 488, rfl⟩
abbrev main_v422 : Ref sig .tc := ⟨.hbm, 489, rfl⟩
abbrev main_v423 : Ref sig .tc := ⟨.hbm, 490, rfl⟩
abbrev main_v424 : Ref sig .tc := ⟨.hbm, 491, rfl⟩
abbrev main_v425 : Ref sig .tc := ⟨.hbm, 492, rfl⟩
abbrev main_v426 : Ref sig .tc := ⟨.hbm, 493, rfl⟩
abbrev main_v427 : Ref sig .tc := ⟨.hbm, 494, rfl⟩
abbrev main_v428 : Ref sig .tc := ⟨.hbm, 495, rfl⟩
abbrev main_v429 : Ref sig .tc := ⟨.hbm, 496, rfl⟩
abbrev main_v430 : Ref sig .tc := ⟨.hbm, 497, rfl⟩
abbrev main_v431 : Ref sig .tc := ⟨.hbm, 498, rfl⟩
abbrev main_v432 : Ref sig .tc := ⟨.hbm, 499, rfl⟩
abbrev main_v433 : Ref sig .tc := ⟨.hbm, 500, rfl⟩
abbrev main_v434 : Ref sig .tc := ⟨.hbm, 501, rfl⟩
abbrev main_v435 : Ref sig .tc := ⟨.hbm, 502, rfl⟩
abbrev main_v436 : Ref sig .tc := ⟨.hbm, 503, rfl⟩
abbrev main_v437 : Ref sig .tc := ⟨.hbm, 504, rfl⟩
abbrev main_v438 : Ref sig .tc := ⟨.hbm, 505, rfl⟩
abbrev main_v439 : Ref sig .tc := ⟨.hbm, 506, rfl⟩
abbrev main_v440 : Ref sig .tc := ⟨.hbm, 507, rfl⟩
abbrev main_v441 : Ref sig .tc := ⟨.hbm, 508, rfl⟩
abbrev main_v442 : Ref sig .tc := ⟨.hbm, 509, rfl⟩
abbrev main_v443 : Ref sig .tc := ⟨.hbm, 510, rfl⟩
abbrev main_v444 : Ref sig .tc := ⟨.hbm, 511, rfl⟩
abbrev main_v445 : Ref sig .tc := ⟨.hbm, 512, rfl⟩
abbrev main_v446 : Ref sig .tc := ⟨.hbm, 513, rfl⟩
abbrev main_v447 : Ref sig .tc := ⟨.hbm, 514, rfl⟩
abbrev main_v448 : Ref sig .tc := ⟨.hbm, 515, rfl⟩
abbrev main_v449 : Ref sig .tc := ⟨.hbm, 516, rfl⟩
abbrev main_v450 : Ref sig .tc := ⟨.hbm, 517, rfl⟩
abbrev main_v451 : Ref sig .tc := ⟨.hbm, 518, rfl⟩
abbrev main_v452 : Ref sig .tc := ⟨.hbm, 519, rfl⟩
abbrev main_v453 : Ref sig .tc := ⟨.hbm, 520, rfl⟩
abbrev main_v454 : Ref sig .tc := ⟨.hbm, 521, rfl⟩
abbrev main_v455 : Ref sig .tc := ⟨.hbm, 522, rfl⟩
abbrev main_v456 : Ref sig .tc := ⟨.hbm, 523, rfl⟩
abbrev main_v457 : Ref sig .tc := ⟨.hbm, 524, rfl⟩
abbrev main_v458 : Ref sig .tc := ⟨.hbm, 525, rfl⟩
abbrev main_v459 : Ref sig .tc := ⟨.hbm, 526, rfl⟩
abbrev main_v460 : Ref sig .tc := ⟨.hbm, 527, rfl⟩
abbrev main_v461 : Ref sig .tc := ⟨.hbm, 528, rfl⟩
abbrev main_v462 : Ref sig .tc := ⟨.hbm, 529, rfl⟩
abbrev main_v463 : Ref sig .tc := ⟨.hbm, 530, rfl⟩
abbrev main_v464 : Ref sig .tc := ⟨.hbm, 531, rfl⟩
abbrev main_v465 : Ref sig .tc := ⟨.hbm, 532, rfl⟩
abbrev main_v466 : Ref sig .tc := ⟨.hbm, 533, rfl⟩
abbrev main_v467 : Ref sig .tc := ⟨.hbm, 534, rfl⟩
abbrev main_v468 : Ref sig .tc := ⟨.hbm, 535, rfl⟩
abbrev main_v469 : Ref sig .tc := ⟨.hbm, 536, rfl⟩
abbrev main_v470 : Ref sig .tc := ⟨.hbm, 537, rfl⟩
abbrev main_v471 : Ref sig .tc := ⟨.hbm, 538, rfl⟩
abbrev main_v472 : Ref sig .tc := ⟨.hbm, 539, rfl⟩
abbrev main_v473 : Ref sig .tc := ⟨.hbm, 540, rfl⟩
abbrev main_v474 : Ref sig .tc := ⟨.hbm, 541, rfl⟩
abbrev main_v475 : Ref sig .tc := ⟨.hbm, 542, rfl⟩
abbrev main_v476 : Ref sig .tc := ⟨.hbm, 543, rfl⟩
abbrev main_v477 : Ref sig .tc := ⟨.hbm, 544, rfl⟩
abbrev main_v478 : Ref sig .tc := ⟨.hbm, 545, rfl⟩
abbrev main_v479 : Ref sig .tc := ⟨.hbm, 546, rfl⟩
abbrev main_v480 : Ref sig .tc := ⟨.hbm, 547, rfl⟩
abbrev main_v481 : Ref sig .tc := ⟨.hbm, 548, rfl⟩
abbrev main_v482 : Ref sig .tc := ⟨.hbm, 549, rfl⟩
abbrev main_v483 : Ref sig .tc := ⟨.hbm, 550, rfl⟩
abbrev main_v484 : Ref sig .tc := ⟨.hbm, 551, rfl⟩
abbrev main_v485 : Ref sig .tc := ⟨.hbm, 552, rfl⟩
abbrev main_v486 : Ref sig .tc := ⟨.hbm, 553, rfl⟩
abbrev main_v487 : Ref sig .tc := ⟨.hbm, 554, rfl⟩
abbrev main_v488 : Ref sig .tc := ⟨.hbm, 555, rfl⟩
abbrev main_v489 : Ref sig .tc := ⟨.hbm, 556, rfl⟩
abbrev main_v490 : Ref sig .tc := ⟨.hbm, 557, rfl⟩
abbrev main_v491 : Ref sig .tc := ⟨.hbm, 558, rfl⟩
abbrev main_v492 : Ref sig .tc := ⟨.hbm, 559, rfl⟩
abbrev main_v493 : Ref sig .tc := ⟨.hbm, 560, rfl⟩
abbrev main_v494 : Ref sig .tc := ⟨.hbm, 561, rfl⟩
abbrev main_v495 : Ref sig .tc := ⟨.hbm, 562, rfl⟩
abbrev main_v496 : Ref sig .tc := ⟨.hbm, 563, rfl⟩
abbrev main_v497 : Ref sig .tc := ⟨.hbm, 564, rfl⟩
abbrev main_v498 : Ref sig .tc := ⟨.hbm, 565, rfl⟩
abbrev main_v499 : Ref sig .tc := ⟨.hbm, 566, rfl⟩
abbrev main_v500 : Ref sig .tc := ⟨.hbm, 567, rfl⟩
abbrev main_v501 : Ref sig .tc := ⟨.hbm, 568, rfl⟩
abbrev main_v502 : Ref sig .tc := ⟨.hbm, 569, rfl⟩
abbrev main_v503 : Ref sig .tc := ⟨.hbm, 570, rfl⟩
abbrev main_v504 : Ref sig .tc := ⟨.hbm, 571, rfl⟩
abbrev main_v505 : Ref sig .tc := ⟨.hbm, 572, rfl⟩
abbrev main_v506 : Ref sig .tc := ⟨.hbm, 573, rfl⟩
abbrev main_v507 : Ref sig .tc := ⟨.hbm, 574, rfl⟩
abbrev main_v508 : Ref sig .tc := ⟨.hbm, 575, rfl⟩
abbrev main_v509 : Ref sig .tc := ⟨.hbm, 576, rfl⟩
abbrev main_v510 : Ref sig .tc := ⟨.hbm, 577, rfl⟩
abbrev main_v511 : Ref sig .tc := ⟨.hbm, 578, rfl⟩
abbrev main_v512 : Ref sig .tc := ⟨.hbm, 579, rfl⟩
abbrev main_v513 : Ref sig .tc := ⟨.hbm, 580, rfl⟩
abbrev main_v514 : Ref sig .tc := ⟨.hbm, 581, rfl⟩
abbrev main_v515 : Ref sig .tc := ⟨.hbm, 582, rfl⟩
abbrev main_v516 : Ref sig .tc := ⟨.hbm, 583, rfl⟩
abbrev main_v517 : Ref sig .tc := ⟨.hbm, 584, rfl⟩
abbrev main_v518 : Ref sig .tc := ⟨.hbm, 585, rfl⟩
abbrev main_v519 : Ref sig .tc := ⟨.hbm, 586, rfl⟩
abbrev main_v520 : Ref sig .tc := ⟨.hbm, 587, rfl⟩
abbrev main_v521 : Ref sig .tc := ⟨.hbm, 588, rfl⟩
abbrev main_v522 : Ref sig .tc := ⟨.hbm, 589, rfl⟩
abbrev main_v523 : Ref sig .tc := ⟨.hbm, 590, rfl⟩
abbrev main_v524 : Ref sig .tc := ⟨.hbm, 591, rfl⟩
abbrev main_v525 : Ref sig .tc := ⟨.hbm, 592, rfl⟩
abbrev main_v526 : Ref sig .tc := ⟨.hbm, 593, rfl⟩
abbrev main_v527 : Ref sig .tc := ⟨.hbm, 594, rfl⟩
abbrev main_v528 : Ref sig .tc := ⟨.hbm, 595, rfl⟩
abbrev main_v529 : Ref sig .tc := ⟨.hbm, 596, rfl⟩
abbrev main_v530 : Ref sig .tc := ⟨.hbm, 597, rfl⟩
abbrev main_v531 : Ref sig .tc := ⟨.hbm, 598, rfl⟩
abbrev main_v532 : Ref sig .tc := ⟨.hbm, 599, rfl⟩
abbrev main_v533 : Ref sig .tc := ⟨.hbm, 600, rfl⟩
abbrev main_v534 : Ref sig .tc := ⟨.hbm, 601, rfl⟩
abbrev main_v535 : Ref sig .tc := ⟨.hbm, 602, rfl⟩
abbrev main_v536 : Ref sig .tc := ⟨.hbm, 603, rfl⟩
abbrev main_v537 : Ref sig .tc := ⟨.hbm, 604, rfl⟩
abbrev main_v538 : Ref sig .tc := ⟨.hbm, 605, rfl⟩
abbrev main_v539 : Ref sig .tc := ⟨.hbm, 606, rfl⟩
abbrev main_v540 : Ref sig .tc := ⟨.hbm, 607, rfl⟩
abbrev main_v541 : Ref sig .tc := ⟨.hbm, 608, rfl⟩
abbrev main_v542 : Ref sig .tc := ⟨.hbm, 609, rfl⟩
abbrev main_v543 : Ref sig .tc := ⟨.hbm, 610, rfl⟩
abbrev main_v544 : Ref sig .tc := ⟨.hbm, 611, rfl⟩
abbrev main_v545 : Ref sig .tc := ⟨.hbm, 612, rfl⟩
abbrev main_cst_15 : Ref sig .tc := ⟨.hbm, 613, rfl⟩
abbrev main_v546 : Ref sig .tc := ⟨.hbm, 614, rfl⟩
abbrev main_v547 : Ref sig .tc := ⟨.hbm, 615, rfl⟩
abbrev main_cst_16 : Ref sig .tc := ⟨.hbm, 616, rfl⟩
abbrev main_v548 : Ref sig .tc := ⟨.hbm, 617, rfl⟩
abbrev main_v549 : Ref sig .tc := ⟨.hbm, 618, rfl⟩
abbrev main_v550 : Ref sig .tc := ⟨.hbm, 619, rfl⟩
abbrev main_v551 : Ref sig .tc := ⟨.hbm, 620, rfl⟩
abbrev main_v552 : Ref sig .tc := ⟨.hbm, 621, rfl⟩
abbrev main_cst_17 : Ref sig .tc := ⟨.hbm, 622, rfl⟩
abbrev main_v553 : Ref sig .tc := ⟨.hbm, 623, rfl⟩
abbrev main_v554 : Ref sig .tc := ⟨.hbm, 624, rfl⟩
abbrev main_cst_18 : Ref sig .tc := ⟨.hbm, 625, rfl⟩
abbrev main_v555 : Ref sig .tc := ⟨.hbm, 626, rfl⟩
abbrev main_v556 : Ref sig .tc := ⟨.hbm, 627, rfl⟩
abbrev main_v557 : Ref sig .tc := ⟨.hbm, 628, rfl⟩
abbrev main_v558 : Ref sig .tc := ⟨.hbm, 629, rfl⟩
abbrev main_cst_19 : Ref sig .tc := ⟨.hbm, 630, rfl⟩
abbrev main_v559 : Ref sig .tc := ⟨.hbm, 631, rfl⟩
abbrev main_v560 : Ref sig .tc := ⟨.hbm, 632, rfl⟩
abbrev main_v561 : Ref sig .tc := ⟨.hbm, 633, rfl⟩
abbrev main_v562 : Ref sig .tc := ⟨.hbm, 634, rfl⟩
abbrev main_v563 : Ref sig .tc := ⟨.hbm, 635, rfl⟩
abbrev main_v564 : Ref sig .tc := ⟨.hbm, 636, rfl⟩
abbrev main_v565 : Ref sig .tc := ⟨.hbm, 637, rfl⟩
abbrev main_v566 : Ref sig .tc := ⟨.hbm, 638, rfl⟩
abbrev main_v567 : Ref sig .tc := ⟨.hbm, 639, rfl⟩
abbrev main_v568 : Ref sig .tc := ⟨.hbm, 640, rfl⟩
abbrev main_v569 : Ref sig .tc := ⟨.hbm, 641, rfl⟩
abbrev main_v570 : Ref sig .tc := ⟨.hbm, 642, rfl⟩
abbrev main_v571 : Ref sig .tc := ⟨.hbm, 643, rfl⟩
abbrev main_v572 : Ref sig .tc := ⟨.hbm, 644, rfl⟩
abbrev main_v573 : Ref sig .tc := ⟨.hbm, 645, rfl⟩
abbrev main_v574 : Ref sig .tc := ⟨.hbm, 646, rfl⟩
abbrev main_call7_cst : Ref sig .tc := ⟨.hbm, 647, rfl⟩
abbrev main_call7_v0 : Ref sig .tc := ⟨.hbm, 648, rfl⟩
abbrev main_v575 : Ref sig .tc := ⟨.hbm, 649, rfl⟩
abbrev main_v576 : Ref sig .tc := ⟨.hbm, 650, rfl⟩
abbrev main_v577 : Ref sig .tc := ⟨.hbm, 651, rfl⟩
abbrev main_v578 : Ref sig .tc := ⟨.hbm, 652, rfl⟩
abbrev main_v579 : Ref sig .tc := ⟨.hbm, 653, rfl⟩
abbrev main_v580 : Ref sig .tc := ⟨.hbm, 654, rfl⟩
abbrev main_call8_cst : Ref sig .tc := ⟨.hbm, 655, rfl⟩
abbrev main_call8_v0 : Ref sig .tc := ⟨.hbm, 656, rfl⟩
abbrev main_v581 : Ref sig .tc := ⟨.hbm, 657, rfl⟩
abbrev main_v582 : Ref sig .tc := ⟨.hbm, 658, rfl⟩
abbrev main_v583 : Ref sig .tc := ⟨.hbm, 659, rfl⟩
abbrev main_v584 : Ref sig .tc := ⟨.hbm, 660, rfl⟩
abbrev main_v585 : Ref sig .tc := ⟨.hbm, 661, rfl⟩
abbrev main_v586 : Ref sig .tc := ⟨.hbm, 662, rfl⟩
abbrev main_v587 : Ref sig .tc := ⟨.hbm, 663, rfl⟩
abbrev main_v588 : Ref sig .tc := ⟨.hbm, 664, rfl⟩
abbrev main_c_20 : Ref sig .tc := ⟨.hbm, 665, rfl⟩
abbrev main_v589 : Ref sig .tc := ⟨.hbm, 666, rfl⟩
abbrev main_v590 : Ref sig .tc := ⟨.hbm, 667, rfl⟩
abbrev main_v591 : Ref sig .tc := ⟨.hbm, 668, rfl⟩
abbrev main_v592 : Ref sig .tc := ⟨.hbm, 669, rfl⟩
abbrev main_v593 : Ref sig .tc := ⟨.hbm, 670, rfl⟩
abbrev main_v594 : Ref sig .tc := ⟨.hbm, 671, rfl⟩
abbrev main_v595 : Ref sig .tc := ⟨.hbm, 672, rfl⟩
abbrev main_c_21 : Ref sig .tc := ⟨.hbm, 673, rfl⟩
abbrev main_call10_v0 : Ref sig .tc := ⟨.hbm, 674, rfl⟩
abbrev main_call10_v1 : Ref sig .tc := ⟨.hbm, 675, rfl⟩
abbrev main_v596 : Ref sig .tc := ⟨.hbm, 676, rfl⟩
abbrev main_v597 : Ref sig .tc := ⟨.hbm, 677, rfl⟩
abbrev main_v598 : Ref sig .tc := ⟨.hbm, 678, rfl⟩
abbrev main_v599 : Ref sig .tc := ⟨.hbm, 679, rfl⟩
abbrev main_v600 : Ref sig .tc := ⟨.hbm, 680, rfl⟩
abbrev main_v601 : Ref sig .tc := ⟨.hbm, 681, rfl⟩
abbrev main_v602 : Ref sig .tc := ⟨.hbm, 682, rfl⟩
abbrev main_c_22 : Ref sig .tc := ⟨.hbm, 683, rfl⟩
abbrev main_call12_v0 : Ref sig .tc := ⟨.hbm, 684, rfl⟩
abbrev main_call12_v1 : Ref sig .tc := ⟨.hbm, 685, rfl⟩
abbrev main_v603 : Ref sig .tc := ⟨.hbm, 686, rfl⟩
abbrev main_v604 : Ref sig .tc := ⟨.hbm, 687, rfl⟩
abbrev main_v605 : Ref sig .tc := ⟨.hbm, 688, rfl⟩
abbrev main_v606 : Ref sig .tc := ⟨.hbm, 689, rfl⟩
abbrev main_v607 : Ref sig .tc := ⟨.hbm, 690, rfl⟩
abbrev main_v608 : Ref sig .tc := ⟨.hbm, 691, rfl⟩
abbrev main_v609 : Ref sig .tc := ⟨.hbm, 692, rfl⟩
abbrev main_c_23 : Ref sig .tc := ⟨.hbm, 693, rfl⟩
abbrev main_call14_v0 : Ref sig .tc := ⟨.hbm, 694, rfl⟩
abbrev main_call14_v1 : Ref sig .tc := ⟨.hbm, 695, rfl⟩
abbrev main_v610 : Ref sig .tc := ⟨.hbm, 696, rfl⟩
abbrev main_v611 : Ref sig .tc := ⟨.hbm, 697, rfl⟩
abbrev main_v612 : Ref sig .tc := ⟨.hbm, 698, rfl⟩
abbrev main_v613 : Ref sig .tc := ⟨.hbm, 699, rfl⟩
abbrev main_v614 : Ref sig .tc := ⟨.hbm, 700, rfl⟩
abbrev main_v615 : Ref sig .tc := ⟨.hbm, 701, rfl⟩
abbrev main_v616 : Ref sig .tc := ⟨.hbm, 702, rfl⟩
abbrev main_c_24 : Ref sig .tc := ⟨.hbm, 703, rfl⟩
abbrev main_call16_v0 : Ref sig .tc := ⟨.hbm, 704, rfl⟩
abbrev main_call16_v1 : Ref sig .tc := ⟨.hbm, 705, rfl⟩
abbrev main_v617 : Ref sig .tc := ⟨.hbm, 706, rfl⟩
abbrev main_v618 : Ref sig .tc := ⟨.hbm, 707, rfl⟩
abbrev main_v619 : Ref sig .tc := ⟨.hbm, 708, rfl⟩
abbrev main_v620 : Ref sig .tc := ⟨.hbm, 709, rfl⟩
abbrev main_v621 : Ref sig .tc := ⟨.hbm, 710, rfl⟩
abbrev main_v622 : Ref sig .tc := ⟨.hbm, 711, rfl⟩
abbrev main_v623 : Ref sig .tc := ⟨.hbm, 712, rfl⟩
abbrev main_c_25 : Ref sig .tc := ⟨.hbm, 713, rfl⟩
abbrev main_call18_v0 : Ref sig .tc := ⟨.hbm, 714, rfl⟩
abbrev main_call18_v1 : Ref sig .tc := ⟨.hbm, 715, rfl⟩
abbrev main_v624 : Ref sig .tc := ⟨.hbm, 716, rfl⟩
abbrev main_v625 : Ref sig .tc := ⟨.hbm, 717, rfl⟩
abbrev main_v626 : Ref sig .tc := ⟨.hbm, 718, rfl⟩
abbrev main_v627 : Ref sig .tc := ⟨.hbm, 719, rfl⟩
abbrev main_v628 : Ref sig .tc := ⟨.hbm, 720, rfl⟩
abbrev main_v629 : Ref sig .tc := ⟨.hbm, 721, rfl⟩
abbrev main_v630 : Ref sig .tc := ⟨.hbm, 722, rfl⟩
abbrev main_c_26 : Ref sig .tc := ⟨.hbm, 723, rfl⟩
abbrev main_call20_v0 : Ref sig .tc := ⟨.hbm, 724, rfl⟩
abbrev main_call20_v1 : Ref sig .tc := ⟨.hbm, 725, rfl⟩
abbrev main_v631 : Ref sig .tc := ⟨.hbm, 726, rfl⟩
abbrev main_v632 : Ref sig .tc := ⟨.hbm, 727, rfl⟩
abbrev main_v633 : Ref sig .tc := ⟨.hbm, 728, rfl⟩
abbrev main_v634 : Ref sig .tc := ⟨.hbm, 729, rfl⟩
abbrev main_v635 : Ref sig .tc := ⟨.hbm, 730, rfl⟩
abbrev main_v636 : Ref sig .tc := ⟨.hbm, 731, rfl⟩
abbrev main_v637 : Ref sig .tc := ⟨.hbm, 732, rfl⟩
abbrev main_c_27 : Ref sig .tc := ⟨.hbm, 733, rfl⟩
abbrev main_call22_v0 : Ref sig .tc := ⟨.hbm, 734, rfl⟩
abbrev main_call22_v1 : Ref sig .tc := ⟨.hbm, 735, rfl⟩
abbrev main_v638 : Ref sig .tc := ⟨.hbm, 736, rfl⟩
abbrev main_v639 : Ref sig .tc := ⟨.hbm, 737, rfl⟩
abbrev main_v640 : Ref sig .tc := ⟨.hbm, 738, rfl⟩
abbrev main_v641 : Ref sig .tc := ⟨.hbm, 739, rfl⟩
abbrev main_v642 : Ref sig .tc := ⟨.hbm, 740, rfl⟩
abbrev main_v643 : Ref sig .tc := ⟨.hbm, 741, rfl⟩
abbrev main_v644 : Ref sig .tc := ⟨.hbm, 742, rfl⟩
abbrev main_c_28 : Ref sig .tc := ⟨.hbm, 743, rfl⟩
abbrev main_call24_v0 : Ref sig .tc := ⟨.hbm, 744, rfl⟩
abbrev main_call24_v1 : Ref sig .tc := ⟨.hbm, 745, rfl⟩
abbrev main_v645 : Ref sig .tc := ⟨.hbm, 746, rfl⟩
abbrev main_v646 : Ref sig .tc := ⟨.hbm, 747, rfl⟩
abbrev main_v647 : Ref sig .tc := ⟨.hbm, 748, rfl⟩
abbrev main_v648 : Ref sig .tc := ⟨.hbm, 749, rfl⟩
abbrev main_v649 : Ref sig .tc := ⟨.hbm, 750, rfl⟩
abbrev main_v650 : Ref sig .tc := ⟨.hbm, 751, rfl⟩
abbrev main_v651 : Ref sig .tc := ⟨.hbm, 752, rfl⟩
abbrev main_c_29 : Ref sig .tc := ⟨.hbm, 753, rfl⟩
abbrev main_call26_v0 : Ref sig .tc := ⟨.hbm, 754, rfl⟩
abbrev main_call26_v1 : Ref sig .tc := ⟨.hbm, 755, rfl⟩
abbrev main_v652 : Ref sig .tc := ⟨.hbm, 756, rfl⟩
abbrev main_v653 : Ref sig .tc := ⟨.hbm, 757, rfl⟩
abbrev main_v654 : Ref sig .tc := ⟨.hbm, 758, rfl⟩
abbrev main_v655 : Ref sig .tc := ⟨.hbm, 759, rfl⟩
abbrev main_v656 : Ref sig .tc := ⟨.hbm, 760, rfl⟩
abbrev main_v657 : Ref sig .tc := ⟨.hbm, 761, rfl⟩
abbrev main_v658 : Ref sig .tc := ⟨.hbm, 762, rfl⟩
abbrev main_c_30 : Ref sig .tc := ⟨.hbm, 763, rfl⟩
abbrev main_call28_v0 : Ref sig .tc := ⟨.hbm, 764, rfl⟩
abbrev main_call28_v1 : Ref sig .tc := ⟨.hbm, 765, rfl⟩
abbrev main_v659 : Ref sig .tc := ⟨.hbm, 766, rfl⟩
abbrev main_v660 : Ref sig .tc := ⟨.hbm, 767, rfl⟩
abbrev main_v661 : Ref sig .tc := ⟨.hbm, 768, rfl⟩
abbrev main_v662 : Ref sig .tc := ⟨.hbm, 769, rfl⟩
abbrev main_v663 : Ref sig .tc := ⟨.hbm, 770, rfl⟩
abbrev main_v664 : Ref sig .tc := ⟨.hbm, 771, rfl⟩
abbrev main_v665 : Ref sig .tc := ⟨.hbm, 772, rfl⟩
abbrev main_c_31 : Ref sig .tc := ⟨.hbm, 773, rfl⟩
abbrev main_call30_v0 : Ref sig .tc := ⟨.hbm, 774, rfl⟩
abbrev main_call30_v1 : Ref sig .tc := ⟨.hbm, 775, rfl⟩
abbrev main_v666 : Ref sig .tc := ⟨.hbm, 776, rfl⟩
abbrev main_v667 : Ref sig .tc := ⟨.hbm, 777, rfl⟩
abbrev main_v668 : Ref sig .tc := ⟨.hbm, 778, rfl⟩
abbrev main_v669 : Ref sig .tc := ⟨.hbm, 779, rfl⟩
abbrev main_v670 : Ref sig .tc := ⟨.hbm, 780, rfl⟩
abbrev main_v671 : Ref sig .tc := ⟨.hbm, 781, rfl⟩
abbrev main_v672 : Ref sig .tc := ⟨.hbm, 782, rfl⟩
abbrev main_c_32 : Ref sig .tc := ⟨.hbm, 783, rfl⟩
abbrev main_call32_v0 : Ref sig .tc := ⟨.hbm, 784, rfl⟩
abbrev main_call32_v1 : Ref sig .tc := ⟨.hbm, 785, rfl⟩
abbrev main_v673 : Ref sig .tc := ⟨.hbm, 786, rfl⟩
abbrev main_v674 : Ref sig .tc := ⟨.hbm, 787, rfl⟩
abbrev main_v675 : Ref sig .tc := ⟨.hbm, 788, rfl⟩
abbrev main_v676 : Ref sig .tc := ⟨.hbm, 789, rfl⟩
abbrev main_v677 : Ref sig .tc := ⟨.hbm, 790, rfl⟩
abbrev main_v678 : Ref sig .tc := ⟨.hbm, 791, rfl⟩
abbrev main_v679 : Ref sig .tc := ⟨.hbm, 792, rfl⟩
abbrev main_c_33 : Ref sig .tc := ⟨.hbm, 793, rfl⟩
abbrev main_call34_v0 : Ref sig .tc := ⟨.hbm, 794, rfl⟩
abbrev main_call34_v1 : Ref sig .tc := ⟨.hbm, 795, rfl⟩
abbrev main_v680 : Ref sig .tc := ⟨.hbm, 796, rfl⟩
abbrev main_c_34 : Ref sig .tc := ⟨.hbm, 797, rfl⟩
abbrev main_v681 : Ref sig .tc := ⟨.hbm, 798, rfl⟩
abbrev main_v682 : Ref sig .tc := ⟨.hbm, 799, rfl⟩
abbrev main_c_35 : Ref sig .tc := ⟨.hbm, 800, rfl⟩
abbrev main_v683 : Ref sig .tc := ⟨.hbm, 801, rfl⟩
abbrev main_v684 : Ref sig .tc := ⟨.hbm, 802, rfl⟩
abbrev main_c_36 : Ref sig .tc := ⟨.hbm, 803, rfl⟩
abbrev main_call35_v0 : Ref sig .tc := ⟨.hbm, 804, rfl⟩
abbrev main_call35_v1 : Ref sig .tc := ⟨.hbm, 805, rfl⟩
abbrev main_call35_v2 : Ref sig .tc := ⟨.hbm, 806, rfl⟩
abbrev main_call35_v3 : Ref sig .tc := ⟨.hbm, 807, rfl⟩
abbrev main_call35_v4 : Ref sig .tc := ⟨.hbm, 808, rfl⟩
abbrev main_call35_v5 : Ref sig .tc := ⟨.hbm, 809, rfl⟩
abbrev main_call35_v6 : Ref sig .tc := ⟨.hbm, 810, rfl⟩
abbrev main_call35_v7 : Ref sig .tc := ⟨.hbm, 811, rfl⟩
abbrev main_call35_v8 : Ref sig .tc := ⟨.hbm, 812, rfl⟩
abbrev main_call35_c : Ref sig .tc := ⟨.hbm, 813, rfl⟩
abbrev main_call35_v9 : Ref sig .tc := ⟨.hbm, 814, rfl⟩
abbrev main_call35_v10 : Ref sig .tc := ⟨.hbm, 815, rfl⟩
abbrev main_call35_v11 : Ref sig .tc := ⟨.hbm, 816, rfl⟩
abbrev main_call35_c_0 : Ref sig .tc := ⟨.hbm, 817, rfl⟩
abbrev main_call35_v12 : Ref sig .tc := ⟨.hbm, 818, rfl⟩
abbrev main_call35_v13 : Ref sig .tc := ⟨.hbm, 819, rfl⟩
abbrev main_v685 : Ref sig .tc := ⟨.hbm, 820, rfl⟩
abbrev main_c_37 : Ref sig .tc := ⟨.hbm, 821, rfl⟩
abbrev main_call36_v0 : Ref sig .tc := ⟨.hbm, 822, rfl⟩
abbrev main_call36_v1 : Ref sig .tc := ⟨.hbm, 823, rfl⟩
abbrev main_call36_v2 : Ref sig .tc := ⟨.hbm, 824, rfl⟩
abbrev main_call36_v3 : Ref sig .tc := ⟨.hbm, 825, rfl⟩
abbrev main_call36_v4 : Ref sig .tc := ⟨.hbm, 826, rfl⟩
abbrev main_call36_v5 : Ref sig .tc := ⟨.hbm, 827, rfl⟩
abbrev main_call36_v6 : Ref sig .tc := ⟨.hbm, 828, rfl⟩
abbrev main_call36_v7 : Ref sig .tc := ⟨.hbm, 829, rfl⟩
abbrev main_call36_v8 : Ref sig .tc := ⟨.hbm, 830, rfl⟩
abbrev main_call36_c : Ref sig .tc := ⟨.hbm, 831, rfl⟩
abbrev main_call36_v9 : Ref sig .tc := ⟨.hbm, 832, rfl⟩
abbrev main_call36_v10 : Ref sig .tc := ⟨.hbm, 833, rfl⟩
abbrev main_call36_v11 : Ref sig .tc := ⟨.hbm, 834, rfl⟩
abbrev main_call36_c_0 : Ref sig .tc := ⟨.hbm, 835, rfl⟩
abbrev main_call36_v12 : Ref sig .tc := ⟨.hbm, 836, rfl⟩
abbrev main_call36_v13 : Ref sig .tc := ⟨.hbm, 837, rfl⟩
abbrev main_v686 : Ref sig .tc := ⟨.hbm, 838, rfl⟩
abbrev main_v687 : Ref sig .tc := ⟨.hbm, 839, rfl⟩
abbrev main_v688 : Ref sig .tc := ⟨.hbm, 840, rfl⟩
abbrev main_c_38 : Ref sig .tc := ⟨.hbm, 841, rfl⟩
abbrev main_v689 : Ref sig .tc := ⟨.hbm, 842, rfl⟩
abbrev main_v690 : Ref sig .tc := ⟨.hbm, 843, rfl⟩
abbrev main_v691 : Ref sig .tc := ⟨.hbm, 844, rfl⟩
abbrev main_v692 : Ref sig .tc := ⟨.hbm, 845, rfl⟩
abbrev main_v693 : Ref sig .tc := ⟨.hbm, 846, rfl⟩
abbrev main_v694 : Ref sig .tc := ⟨.hbm, 847, rfl⟩
abbrev main_v695 : Ref sig .tc := ⟨.hbm, 848, rfl⟩
abbrev main_c_39 : Ref sig .tc := ⟨.hbm, 849, rfl⟩
abbrev main_v696 : Ref sig .tc := ⟨.hbm, 850, rfl⟩
abbrev main_v697 : Ref sig .tc := ⟨.hbm, 851, rfl⟩
abbrev main_v698 : Ref sig .tc := ⟨.hbm, 852, rfl⟩
abbrev main_v699 : Ref sig .tc := ⟨.hbm, 853, rfl⟩
abbrev main_v700 : Ref sig .tc := ⟨.hbm, 854, rfl⟩
abbrev main_v701 : Ref sig .tc := ⟨.hbm, 855, rfl⟩
abbrev main_v702 : Ref sig .tc := ⟨.hbm, 856, rfl⟩
abbrev main_v703 : Ref sig .tc := ⟨.hbm, 857, rfl⟩
abbrev main_v704 : Ref sig .tc := ⟨.hbm, 858, rfl⟩
abbrev main_v705 : Ref sig .tc := ⟨.hbm, 859, rfl⟩
abbrev main_v706 : Ref sig .tc := ⟨.hbm, 860, rfl⟩
abbrev main_v707 : Ref sig .tc := ⟨.hbm, 861, rfl⟩
abbrev main_v708 : Ref sig .tc := ⟨.hbm, 862, rfl⟩
abbrev main_v709 : Ref sig .tc := ⟨.hbm, 863, rfl⟩
abbrev main_c_40 : Ref sig .tc := ⟨.hbm, 864, rfl⟩
abbrev main_v710 : Ref sig .tc := ⟨.hbm, 865, rfl⟩
abbrev main_v711 : Ref sig .tc := ⟨.hbm, 866, rfl⟩
abbrev main_c_41 : Ref sig .tc := ⟨.hbm, 867, rfl⟩
abbrev main_v712 : Ref sig .tc := ⟨.hbm, 868, rfl⟩
abbrev main_v713 : Ref sig .tc := ⟨.hbm, 869, rfl⟩
abbrev main_v714 : Ref sig .tc := ⟨.hbm, 870, rfl⟩
abbrev main_c_42 : Ref sig .tc := ⟨.hbm, 871, rfl⟩
abbrev main_v715 : Ref sig .tc := ⟨.hbm, 872, rfl⟩
abbrev main_v716 : Ref sig .tc := ⟨.hbm, 873, rfl⟩
abbrev main_v717 : Ref sig .tc := ⟨.hbm, 874, rfl⟩
abbrev main_v718 : Ref sig .tc := ⟨.hbm, 875, rfl⟩
abbrev main_v719 : Ref sig .tc := ⟨.hbm, 876, rfl⟩
abbrev main_v720 : Ref sig .tc := ⟨.hbm, 877, rfl⟩
abbrev main_v721 : Ref sig .tc := ⟨.hbm, 878, rfl⟩
abbrev main_c_43 : Ref sig .tc := ⟨.hbm, 879, rfl⟩
abbrev main_c_44 : Ref sig .tc := ⟨.hbm, 880, rfl⟩
abbrev main_call37_v0 : Ref sig .tc := ⟨.hbm, 881, rfl⟩
abbrev main_call37_v1 : Ref sig .tc := ⟨.hbm, 882, rfl⟩
abbrev main_call37_v2 : Ref sig .tc := ⟨.hbm, 883, rfl⟩
abbrev main_call37_v3 : Ref sig .tc := ⟨.hbm, 884, rfl⟩
abbrev main_call37_v4 : Ref sig .tc := ⟨.hbm, 885, rfl⟩
abbrev main_v722 : Ref sig .tc := ⟨.hbm, 886, rfl⟩
abbrev main_v723 : Ref sig .tc := ⟨.hbm, 887, rfl⟩
abbrev main_call38_c : Ref sig .tc := ⟨.hbm, 888, rfl⟩
abbrev main_call38_v0 : Ref sig .tc := ⟨.hbm, 889, rfl⟩
abbrev main_call38_v1 : Ref sig .tc := ⟨.hbm, 890, rfl⟩
abbrev main_call38_c_0 : Ref sig .tc := ⟨.hbm, 891, rfl⟩
abbrev main_call38_v2 : Ref sig .tc := ⟨.hbm, 892, rfl⟩
abbrev main_call38_v3 : Ref sig .tc := ⟨.hbm, 893, rfl⟩
abbrev main_call38_v4 : Ref sig .tc := ⟨.hbm, 894, rfl⟩
abbrev main_call38_c_1 : Ref sig .tc := ⟨.hbm, 895, rfl⟩
abbrev main_call38_c_2 : Ref sig .tc := ⟨.hbm, 896, rfl⟩
abbrev main_call38_v5 : Ref sig .tc := ⟨.hbm, 897, rfl⟩
abbrev main_call38_v6 : Ref sig .tc := ⟨.hbm, 898, rfl⟩
abbrev main_call38_v7 : Ref sig .tc := ⟨.hbm, 899, rfl⟩
abbrev main_call38_v8 : Ref sig .tc := ⟨.hbm, 900, rfl⟩
abbrev main_call38_v9 : Ref sig .tc := ⟨.hbm, 901, rfl⟩
abbrev main_call38_v10 : Ref sig .tc := ⟨.hbm, 902, rfl⟩
abbrev main_call38_c_3 : Ref sig .tc := ⟨.hbm, 903, rfl⟩
abbrev main_call38_v11 : Ref sig .tc := ⟨.hbm, 904, rfl⟩
abbrev main_call38_v12 : Ref sig .tc := ⟨.hbm, 905, rfl⟩
abbrev main_call38_v13 : Ref sig .tc := ⟨.hbm, 906, rfl⟩
abbrev main_call38_cst : Ref sig .tc := ⟨.hbm, 907, rfl⟩
abbrev main_call38_v14 : Ref sig .tc := ⟨.hbm, 908, rfl⟩
abbrev main_v724 : Ref sig .tc := ⟨.hbm, 909, rfl⟩
abbrev main_c_45 : Ref sig .tc := ⟨.hbm, 910, rfl⟩
abbrev main_v725 : Ref sig .tc := ⟨.hbm, 911, rfl⟩
abbrev main_v726 : Ref sig .tc := ⟨.hbm, 912, rfl⟩
abbrev main_v727 : Ref sig .tc := ⟨.hbm, 913, rfl⟩
abbrev main_v728 : Ref sig .tc := ⟨.hbm, 914, rfl⟩
abbrev main_v729 : Ref sig .tc := ⟨.hbm, 915, rfl⟩
abbrev main_v730 : Ref sig .tc := ⟨.hbm, 916, rfl⟩
abbrev main_v731 : Ref sig .tc := ⟨.hbm, 917, rfl⟩
abbrev main_c_46 : Ref sig .tc := ⟨.hbm, 918, rfl⟩
abbrev main_c_47 : Ref sig .tc := ⟨.hbm, 919, rfl⟩
abbrev main_call39_v0 : Ref sig .tc := ⟨.hbm, 920, rfl⟩
abbrev main_call39_v1 : Ref sig .tc := ⟨.hbm, 921, rfl⟩
abbrev main_call39_v2 : Ref sig .tc := ⟨.hbm, 922, rfl⟩
abbrev main_call39_v3 : Ref sig .tc := ⟨.hbm, 923, rfl⟩
abbrev main_call39_v4 : Ref sig .tc := ⟨.hbm, 924, rfl⟩
abbrev main_v732 : Ref sig .tc := ⟨.hbm, 925, rfl⟩
abbrev main_v733 : Ref sig .tc := ⟨.hbm, 926, rfl⟩
abbrev main_call40_c : Ref sig .tc := ⟨.hbm, 927, rfl⟩
abbrev main_call40_v0 : Ref sig .tc := ⟨.hbm, 928, rfl⟩
abbrev main_call40_v1 : Ref sig .tc := ⟨.hbm, 929, rfl⟩
abbrev main_call40_c_0 : Ref sig .tc := ⟨.hbm, 930, rfl⟩
abbrev main_call40_v2 : Ref sig .tc := ⟨.hbm, 931, rfl⟩
abbrev main_call40_v3 : Ref sig .tc := ⟨.hbm, 932, rfl⟩
abbrev main_call40_v4 : Ref sig .tc := ⟨.hbm, 933, rfl⟩
abbrev main_call40_c_1 : Ref sig .tc := ⟨.hbm, 934, rfl⟩
abbrev main_call40_c_2 : Ref sig .tc := ⟨.hbm, 935, rfl⟩
abbrev main_call40_v5 : Ref sig .tc := ⟨.hbm, 936, rfl⟩
abbrev main_call40_v6 : Ref sig .tc := ⟨.hbm, 937, rfl⟩
abbrev main_call40_v7 : Ref sig .tc := ⟨.hbm, 938, rfl⟩
abbrev main_call40_v8 : Ref sig .tc := ⟨.hbm, 939, rfl⟩
abbrev main_call40_v9 : Ref sig .tc := ⟨.hbm, 940, rfl⟩
abbrev main_call40_v10 : Ref sig .tc := ⟨.hbm, 941, rfl⟩
abbrev main_call40_c_3 : Ref sig .tc := ⟨.hbm, 942, rfl⟩
abbrev main_call40_v11 : Ref sig .tc := ⟨.hbm, 943, rfl⟩
abbrev main_call40_v12 : Ref sig .tc := ⟨.hbm, 944, rfl⟩
abbrev main_call40_v13 : Ref sig .tc := ⟨.hbm, 945, rfl⟩
abbrev main_call40_cst : Ref sig .tc := ⟨.hbm, 946, rfl⟩
abbrev main_call40_v14 : Ref sig .tc := ⟨.hbm, 947, rfl⟩
abbrev main_v734 : Ref sig .tc := ⟨.hbm, 948, rfl⟩
abbrev main_v735 : Ref sig .tc := ⟨.hbm, 949, rfl⟩
abbrev main_v736 : Ref sig .tc := ⟨.hbm, 950, rfl⟩
abbrev main_v737 : Ref sig .tc := ⟨.hbm, 951, rfl⟩
abbrev main_v738 : Ref sig .tc := ⟨.hbm, 952, rfl⟩
abbrev main_cst_48 : Ref sig .tc := ⟨.hbm, 953, rfl⟩
abbrev main_v739 : Ref sig .tc := ⟨.hbm, 954, rfl⟩
abbrev main_cst_49 : Ref sig .tc := ⟨.hbm, 955, rfl⟩
abbrev main_v740 : Ref sig .tc := ⟨.hbm, 956, rfl⟩
abbrev main_v741 : Ref sig .tc := ⟨.hbm, 957, rfl⟩
abbrev main_v742 : Ref sig .tc := ⟨.hbm, 958, rfl⟩
abbrev main_v743 : Ref sig .tc := ⟨.hbm, 959, rfl⟩
abbrev main_v744 : Ref sig .tc := ⟨.hbm, 960, rfl⟩
abbrev main_v745 : Ref sig .tc := ⟨.hbm, 961, rfl⟩
abbrev main_v746 : Ref sig .tc := ⟨.hbm, 962, rfl⟩
abbrev main_v747 : Ref sig .tc := ⟨.hbm, 963, rfl⟩
abbrev main_v748 : Ref sig .tc := ⟨.hbm, 964, rfl⟩
abbrev main_v749 : Ref sig .tc := ⟨.hbm, 965, rfl⟩
abbrev main_v750 : Ref sig .tc := ⟨.hbm, 966, rfl⟩
abbrev main_v751 : Ref sig .tc := ⟨.hbm, 967, rfl⟩
abbrev main_v752 : Ref sig .tc := ⟨.hbm, 968, rfl⟩
abbrev main_v753 : Ref sig .tc := ⟨.hbm, 969, rfl⟩
abbrev main_v754 : Ref sig .tc := ⟨.hbm, 970, rfl⟩
abbrev main_v755 : Ref sig .tc := ⟨.hbm, 971, rfl⟩
abbrev main_v756 : Ref sig .tc := ⟨.hbm, 972, rfl⟩
abbrev main_v757 : Ref sig .tc := ⟨.hbm, 973, rfl⟩
abbrev main_v758 : Ref sig .tc := ⟨.hbm, 974, rfl⟩
abbrev main_v759 : Ref sig .tc := ⟨.hbm, 975, rfl⟩
abbrev main_v760 : Ref sig .tc := ⟨.hbm, 976, rfl⟩
abbrev main_v761 : Ref sig .tc := ⟨.hbm, 977, rfl⟩
abbrev main_v762 : Ref sig .tc := ⟨.hbm, 978, rfl⟩
abbrev main_v763 : Ref sig .tc := ⟨.hbm, 979, rfl⟩
abbrev main_v764 : Ref sig .tc := ⟨.hbm, 980, rfl⟩
abbrev main_v765 : Ref sig .tc := ⟨.hbm, 981, rfl⟩
abbrev main_v766 : Ref sig .tc := ⟨.hbm, 982, rfl⟩
abbrev main_v767 : Ref sig .tc := ⟨.hbm, 983, rfl⟩
abbrev main_v768 : Ref sig .tc := ⟨.hbm, 984, rfl⟩
abbrev main_v769 : Ref sig .tc := ⟨.hbm, 985, rfl⟩
abbrev main_v770 : Ref sig .tc := ⟨.hbm, 986, rfl⟩
abbrev main_v771 : Ref sig .tc := ⟨.hbm, 987, rfl⟩
abbrev main_c_50 : Ref sig .tc := ⟨.hbm, 988, rfl⟩
abbrev main_v772 : Ref sig .tc := ⟨.hbm, 989, rfl⟩
abbrev main_v773 : Ref sig .tc := ⟨.hbm, 990, rfl⟩
abbrev main_v774 : Ref sig .tc := ⟨.hbm, 991, rfl⟩
abbrev main_call41_v0 : Ref sig .tc := ⟨.hbm, 992, rfl⟩
abbrev main_v775 : Ref sig .tc := ⟨.hbm, 993, rfl⟩
abbrev main_v776 : Ref sig .tc := ⟨.hbm, 994, rfl⟩
abbrev main_v777 : Ref sig .tc := ⟨.hbm, 995, rfl⟩
abbrev main_v778 : Ref sig .tc := ⟨.hbm, 996, rfl⟩
abbrev main_v779 : Ref sig .tc := ⟨.hbm, 997, rfl⟩
abbrev main_v780 : Ref sig .tc := ⟨.hbm, 998, rfl⟩
abbrev main_v781 : Ref sig .tc := ⟨.hbm, 999, rfl⟩
abbrev main_v782 : Ref sig .tc := ⟨.hbm, 1000, rfl⟩
abbrev main_v783 : Ref sig .tc := ⟨.hbm, 1001, rfl⟩
abbrev main_v784 : Ref sig .tc := ⟨.hbm, 1002, rfl⟩
abbrev main_v785 : Ref sig .tc := ⟨.hbm, 1003, rfl⟩
abbrev main_v786 : Ref sig .tc := ⟨.hbm, 1004, rfl⟩
abbrev main_v787 : Ref sig .tc := ⟨.hbm, 1005, rfl⟩
abbrev main_v788 : Ref sig .tc := ⟨.hbm, 1006, rfl⟩
abbrev main_v789 : Ref sig .tc := ⟨.hbm, 1007, rfl⟩
abbrev main_v790 : Ref sig .tc := ⟨.hbm, 1008, rfl⟩
abbrev main_v791 : Ref sig .tc := ⟨.hbm, 1009, rfl⟩
abbrev main_v792 : Ref sig .tc := ⟨.hbm, 1010, rfl⟩
abbrev main_v793 : Ref sig .tc := ⟨.hbm, 1011, rfl⟩
abbrev main_v794 : Ref sig .tc := ⟨.hbm, 1012, rfl⟩
abbrev main_v795 : Ref sig .tc := ⟨.hbm, 1013, rfl⟩
abbrev main_v796 : Ref sig .tc := ⟨.hbm, 1014, rfl⟩
abbrev main_v797 : Ref sig .tc := ⟨.hbm, 1015, rfl⟩
abbrev main_v798 : Ref sig .tc := ⟨.hbm, 1016, rfl⟩
abbrev main_v799 : Ref sig .tc := ⟨.hbm, 1017, rfl⟩
abbrev main_v800 : Ref sig .tc := ⟨.hbm, 1018, rfl⟩
abbrev main_v801 : Ref sig .tc := ⟨.hbm, 1019, rfl⟩
abbrev main_v802 : Ref sig .tc := ⟨.hbm, 1020, rfl⟩
abbrev main_v803 : Ref sig .tc := ⟨.hbm, 1021, rfl⟩
abbrev main_v804 : Ref sig .tc := ⟨.hbm, 1022, rfl⟩
abbrev main_v805 : Ref sig .tc := ⟨.hbm, 1023, rfl⟩
abbrev main_v806 : Ref sig .tc := ⟨.hbm, 1024, rfl⟩
abbrev main_c_51 : Ref sig .tc := ⟨.hbm, 1025, rfl⟩
abbrev main_v807 : Ref sig .tc := ⟨.hbm, 1026, rfl⟩
abbrev main_v808 : Ref sig .tc := ⟨.hbm, 1027, rfl⟩
abbrev main_v809 : Ref sig .tc := ⟨.hbm, 1028, rfl⟩
abbrev main_call42_v0 : Ref sig .tc := ⟨.hbm, 1029, rfl⟩
abbrev main_v810 : Ref sig .tc := ⟨.hbm, 1030, rfl⟩
abbrev main_v811 : Ref sig .tc := ⟨.hbm, 1031, rfl⟩
abbrev main_v812 : Ref sig .tc := ⟨.hbm, 1032, rfl⟩
abbrev main_v813 : Ref sig .tc := ⟨.hbm, 1033, rfl⟩
abbrev main_v814 : Ref sig .tc := ⟨.hbm, 1034, rfl⟩
abbrev main_v815 : Ref sig .tc := ⟨.hbm, 1035, rfl⟩
abbrev main_v816 : Ref sig .tc := ⟨.hbm, 1036, rfl⟩
abbrev main_v817 : Ref sig .tc := ⟨.hbm, 1037, rfl⟩
abbrev main_v818 : Ref sig .tc := ⟨.hbm, 1038, rfl⟩
abbrev main_v819 : Ref sig .tc := ⟨.hbm, 1039, rfl⟩
abbrev main_v820 : Ref sig .tc := ⟨.hbm, 1040, rfl⟩
abbrev main_v821 : Ref sig .tc := ⟨.hbm, 1041, rfl⟩
abbrev main_v822 : Ref sig .tc := ⟨.hbm, 1042, rfl⟩
abbrev main_v823 : Ref sig .tc := ⟨.hbm, 1043, rfl⟩
abbrev main_v824 : Ref sig .tc := ⟨.hbm, 1044, rfl⟩
abbrev main_v825 : Ref sig .tc := ⟨.hbm, 1045, rfl⟩
abbrev main_v826 : Ref sig .tc := ⟨.hbm, 1046, rfl⟩
abbrev main_v827 : Ref sig .tc := ⟨.hbm, 1047, rfl⟩
abbrev main_v828 : Ref sig .tc := ⟨.hbm, 1048, rfl⟩
abbrev main_v829 : Ref sig .tc := ⟨.hbm, 1049, rfl⟩
abbrev main_v830 : Ref sig .tc := ⟨.hbm, 1050, rfl⟩
abbrev main_v831 : Ref sig .tc := ⟨.hbm, 1051, rfl⟩
abbrev main_v832 : Ref sig .tc := ⟨.hbm, 1052, rfl⟩
abbrev main_v833 : Ref sig .tc := ⟨.hbm, 1053, rfl⟩
abbrev main_v834 : Ref sig .tc := ⟨.hbm, 1054, rfl⟩
abbrev main_v835 : Ref sig .tc := ⟨.hbm, 1055, rfl⟩
abbrev main_v836 : Ref sig .tc := ⟨.hbm, 1056, rfl⟩
abbrev main_v837 : Ref sig .tc := ⟨.hbm, 1057, rfl⟩
abbrev main_v838 : Ref sig .tc := ⟨.hbm, 1058, rfl⟩
abbrev main_v839 : Ref sig .tc := ⟨.hbm, 1059, rfl⟩
abbrev main_v840 : Ref sig .tc := ⟨.hbm, 1060, rfl⟩
abbrev main_v841 : Ref sig .tc := ⟨.hbm, 1061, rfl⟩
abbrev main_c_52 : Ref sig .tc := ⟨.hbm, 1062, rfl⟩
abbrev main_v842 : Ref sig .tc := ⟨.hbm, 1063, rfl⟩
abbrev main_v843 : Ref sig .tc := ⟨.hbm, 1064, rfl⟩
abbrev main_v844 : Ref sig .tc := ⟨.hbm, 1065, rfl⟩
abbrev main_call43_v0 : Ref sig .tc := ⟨.hbm, 1066, rfl⟩
abbrev main_v845 : Ref sig .tc := ⟨.hbm, 1067, rfl⟩
abbrev main_v846 : Ref sig .tc := ⟨.hbm, 1068, rfl⟩
abbrev main_v847 : Ref sig .tc := ⟨.hbm, 1069, rfl⟩
abbrev main_v848 : Ref sig .tc := ⟨.hbm, 1070, rfl⟩
abbrev main_v849 : Ref sig .tc := ⟨.hbm, 1071, rfl⟩
abbrev main_v850 : Ref sig .tc := ⟨.hbm, 1072, rfl⟩
abbrev main_v851 : Ref sig .tc := ⟨.hbm, 1073, rfl⟩
abbrev main_v852 : Ref sig .tc := ⟨.hbm, 1074, rfl⟩
abbrev main_v853 : Ref sig .tc := ⟨.hbm, 1075, rfl⟩
abbrev main_v854 : Ref sig .tc := ⟨.hbm, 1076, rfl⟩
abbrev main_v855 : Ref sig .tc := ⟨.hbm, 1077, rfl⟩
abbrev main_v856 : Ref sig .tc := ⟨.hbm, 1078, rfl⟩
abbrev main_v857 : Ref sig .tc := ⟨.hbm, 1079, rfl⟩
abbrev main_v858 : Ref sig .tc := ⟨.hbm, 1080, rfl⟩
abbrev main_v859 : Ref sig .tc := ⟨.hbm, 1081, rfl⟩
abbrev main_v860 : Ref sig .tc := ⟨.hbm, 1082, rfl⟩
abbrev main_v861 : Ref sig .tc := ⟨.hbm, 1083, rfl⟩
abbrev main_v862 : Ref sig .tc := ⟨.hbm, 1084, rfl⟩
abbrev main_v863 : Ref sig .tc := ⟨.hbm, 1085, rfl⟩
abbrev main_v864 : Ref sig .tc := ⟨.hbm, 1086, rfl⟩
abbrev main_v865 : Ref sig .tc := ⟨.hbm, 1087, rfl⟩
abbrev main_v866 : Ref sig .tc := ⟨.hbm, 1088, rfl⟩
abbrev main_v867 : Ref sig .tc := ⟨.hbm, 1089, rfl⟩
abbrev main_v868 : Ref sig .tc := ⟨.hbm, 1090, rfl⟩
abbrev main_v869 : Ref sig .tc := ⟨.hbm, 1091, rfl⟩
abbrev main_v870 : Ref sig .tc := ⟨.hbm, 1092, rfl⟩
abbrev main_v871 : Ref sig .tc := ⟨.hbm, 1093, rfl⟩
abbrev main_v872 : Ref sig .tc := ⟨.hbm, 1094, rfl⟩
abbrev main_v873 : Ref sig .tc := ⟨.hbm, 1095, rfl⟩
abbrev main_v874 : Ref sig .tc := ⟨.hbm, 1096, rfl⟩
abbrev main_v875 : Ref sig .tc := ⟨.hbm, 1097, rfl⟩
abbrev main_v876 : Ref sig .tc := ⟨.hbm, 1098, rfl⟩
abbrev main_c_53 : Ref sig .tc := ⟨.hbm, 1099, rfl⟩
abbrev main_v877 : Ref sig .tc := ⟨.hbm, 1100, rfl⟩
abbrev main_v878 : Ref sig .tc := ⟨.hbm, 1101, rfl⟩
abbrev main_v879 : Ref sig .tc := ⟨.hbm, 1102, rfl⟩
abbrev main_call44_v0 : Ref sig .tc := ⟨.hbm, 1103, rfl⟩
abbrev main_v880 : Ref sig .tc := ⟨.hbm, 1104, rfl⟩
abbrev main_v881 : Ref sig .tc := ⟨.hbm, 1105, rfl⟩
abbrev main_v882 : Ref sig .tc := ⟨.hbm, 1106, rfl⟩
abbrev main_v883 : Ref sig .tc := ⟨.hbm, 1107, rfl⟩
abbrev main_v884 : Ref sig .tc := ⟨.hbm, 1108, rfl⟩
abbrev main_v885 : Ref sig .tc := ⟨.hbm, 1109, rfl⟩
abbrev main_v886 : Ref sig .tc := ⟨.hbm, 1110, rfl⟩
abbrev main_v887 : Ref sig .tc := ⟨.hbm, 1111, rfl⟩
abbrev main_v888 : Ref sig .tc := ⟨.hbm, 1112, rfl⟩
abbrev main_v889 : Ref sig .tc := ⟨.hbm, 1113, rfl⟩
abbrev main_v890 : Ref sig .tc := ⟨.hbm, 1114, rfl⟩
abbrev main_v891 : Ref sig .tc := ⟨.hbm, 1115, rfl⟩
abbrev main_v892 : Ref sig .tc := ⟨.hbm, 1116, rfl⟩
abbrev main_v893 : Ref sig .tc := ⟨.hbm, 1117, rfl⟩
abbrev main_v894 : Ref sig .tc := ⟨.hbm, 1118, rfl⟩
abbrev main_v895 : Ref sig .tc := ⟨.hbm, 1119, rfl⟩
abbrev main_v896 : Ref sig .tc := ⟨.hbm, 1120, rfl⟩
abbrev main_v897 : Ref sig .tc := ⟨.hbm, 1121, rfl⟩
abbrev main_v898 : Ref sig .tc := ⟨.hbm, 1122, rfl⟩
abbrev main_v899 : Ref sig .tc := ⟨.hbm, 1123, rfl⟩
abbrev main_v900 : Ref sig .tc := ⟨.hbm, 1124, rfl⟩
abbrev main_v901 : Ref sig .tc := ⟨.hbm, 1125, rfl⟩
abbrev main_v902 : Ref sig .tc := ⟨.hbm, 1126, rfl⟩
abbrev main_v903 : Ref sig .tc := ⟨.hbm, 1127, rfl⟩
abbrev main_v904 : Ref sig .tc := ⟨.hbm, 1128, rfl⟩
abbrev main_v905 : Ref sig .tc := ⟨.hbm, 1129, rfl⟩
abbrev main_v906 : Ref sig .tc := ⟨.hbm, 1130, rfl⟩
abbrev main_v907 : Ref sig .tc := ⟨.hbm, 1131, rfl⟩
abbrev main_v908 : Ref sig .tc := ⟨.hbm, 1132, rfl⟩
abbrev main_v909 : Ref sig .tc := ⟨.hbm, 1133, rfl⟩
abbrev main_v910 : Ref sig .tc := ⟨.hbm, 1134, rfl⟩
abbrev main_v911 : Ref sig .tc := ⟨.hbm, 1135, rfl⟩
abbrev main_c_54 : Ref sig .tc := ⟨.hbm, 1136, rfl⟩
abbrev main_v912 : Ref sig .tc := ⟨.hbm, 1137, rfl⟩
abbrev main_v913 : Ref sig .tc := ⟨.hbm, 1138, rfl⟩
abbrev main_v914 : Ref sig .tc := ⟨.hbm, 1139, rfl⟩
abbrev main_call45_v0 : Ref sig .tc := ⟨.hbm, 1140, rfl⟩
abbrev main_v915 : Ref sig .tc := ⟨.hbm, 1141, rfl⟩
abbrev main_v916 : Ref sig .tc := ⟨.hbm, 1142, rfl⟩
abbrev main_v917 : Ref sig .tc := ⟨.hbm, 1143, rfl⟩
abbrev main_v918 : Ref sig .tc := ⟨.hbm, 1144, rfl⟩
abbrev main_v919 : Ref sig .tc := ⟨.hbm, 1145, rfl⟩
abbrev main_v920 : Ref sig .tc := ⟨.hbm, 1146, rfl⟩
abbrev main_v921 : Ref sig .tc := ⟨.hbm, 1147, rfl⟩
abbrev main_v922 : Ref sig .tc := ⟨.hbm, 1148, rfl⟩
abbrev main_v923 : Ref sig .tc := ⟨.hbm, 1149, rfl⟩
abbrev main_v924 : Ref sig .tc := ⟨.hbm, 1150, rfl⟩
abbrev main_v925 : Ref sig .tc := ⟨.hbm, 1151, rfl⟩
abbrev main_v926 : Ref sig .tc := ⟨.hbm, 1152, rfl⟩
abbrev main_v927 : Ref sig .tc := ⟨.hbm, 1153, rfl⟩
abbrev main_v928 : Ref sig .tc := ⟨.hbm, 1154, rfl⟩
abbrev main_v929 : Ref sig .tc := ⟨.hbm, 1155, rfl⟩
abbrev main_v930 : Ref sig .tc := ⟨.hbm, 1156, rfl⟩
abbrev main_v931 : Ref sig .tc := ⟨.hbm, 1157, rfl⟩
abbrev main_v932 : Ref sig .tc := ⟨.hbm, 1158, rfl⟩
abbrev main_v933 : Ref sig .tc := ⟨.hbm, 1159, rfl⟩
abbrev main_v934 : Ref sig .tc := ⟨.hbm, 1160, rfl⟩
abbrev main_v935 : Ref sig .tc := ⟨.hbm, 1161, rfl⟩
abbrev main_v936 : Ref sig .tc := ⟨.hbm, 1162, rfl⟩
abbrev main_v937 : Ref sig .tc := ⟨.hbm, 1163, rfl⟩
abbrev main_v938 : Ref sig .tc := ⟨.hbm, 1164, rfl⟩
abbrev main_v939 : Ref sig .tc := ⟨.hbm, 1165, rfl⟩
abbrev main_v940 : Ref sig .tc := ⟨.hbm, 1166, rfl⟩
abbrev main_v941 : Ref sig .tc := ⟨.hbm, 1167, rfl⟩
abbrev main_v942 : Ref sig .tc := ⟨.hbm, 1168, rfl⟩
abbrev main_v943 : Ref sig .tc := ⟨.hbm, 1169, rfl⟩
abbrev main_v944 : Ref sig .tc := ⟨.hbm, 1170, rfl⟩
abbrev main_v945 : Ref sig .tc := ⟨.hbm, 1171, rfl⟩
abbrev main_v946 : Ref sig .tc := ⟨.hbm, 1172, rfl⟩
abbrev main_c_55 : Ref sig .tc := ⟨.hbm, 1173, rfl⟩
abbrev main_v947 : Ref sig .tc := ⟨.hbm, 1174, rfl⟩
abbrev main_v948 : Ref sig .tc := ⟨.hbm, 1175, rfl⟩
abbrev main_v949 : Ref sig .tc := ⟨.hbm, 1176, rfl⟩
abbrev main_call46_v0 : Ref sig .tc := ⟨.hbm, 1177, rfl⟩
abbrev main_v950 : Ref sig .tc := ⟨.hbm, 1178, rfl⟩
abbrev main_v951 : Ref sig .tc := ⟨.hbm, 1179, rfl⟩
abbrev main_v952 : Ref sig .tc := ⟨.hbm, 1180, rfl⟩
abbrev main_v953 : Ref sig .tc := ⟨.hbm, 1181, rfl⟩
abbrev main_v954 : Ref sig .tc := ⟨.hbm, 1182, rfl⟩
abbrev main_v955 : Ref sig .tc := ⟨.hbm, 1183, rfl⟩
abbrev main_v956 : Ref sig .tc := ⟨.hbm, 1184, rfl⟩
abbrev main_v957 : Ref sig .tc := ⟨.hbm, 1185, rfl⟩
abbrev main_v958 : Ref sig .tc := ⟨.hbm, 1186, rfl⟩
abbrev main_v959 : Ref sig .tc := ⟨.hbm, 1187, rfl⟩
abbrev main_v960 : Ref sig .tc := ⟨.hbm, 1188, rfl⟩
abbrev main_v961 : Ref sig .tc := ⟨.hbm, 1189, rfl⟩
abbrev main_v962 : Ref sig .tc := ⟨.hbm, 1190, rfl⟩
abbrev main_v963 : Ref sig .tc := ⟨.hbm, 1191, rfl⟩
abbrev main_v964 : Ref sig .tc := ⟨.hbm, 1192, rfl⟩
abbrev main_v965 : Ref sig .tc := ⟨.hbm, 1193, rfl⟩
abbrev main_v966 : Ref sig .tc := ⟨.hbm, 1194, rfl⟩
abbrev main_v967 : Ref sig .tc := ⟨.hbm, 1195, rfl⟩
abbrev main_v968 : Ref sig .tc := ⟨.hbm, 1196, rfl⟩
abbrev main_v969 : Ref sig .tc := ⟨.hbm, 1197, rfl⟩
abbrev main_v970 : Ref sig .tc := ⟨.hbm, 1198, rfl⟩
abbrev main_v971 : Ref sig .tc := ⟨.hbm, 1199, rfl⟩
abbrev main_v972 : Ref sig .tc := ⟨.hbm, 1200, rfl⟩
abbrev main_v973 : Ref sig .tc := ⟨.hbm, 1201, rfl⟩
abbrev main_v974 : Ref sig .tc := ⟨.hbm, 1202, rfl⟩
abbrev main_v975 : Ref sig .tc := ⟨.hbm, 1203, rfl⟩
abbrev main_v976 : Ref sig .tc := ⟨.hbm, 1204, rfl⟩
abbrev main_v977 : Ref sig .tc := ⟨.hbm, 1205, rfl⟩
abbrev main_v978 : Ref sig .tc := ⟨.hbm, 1206, rfl⟩
abbrev main_v979 : Ref sig .tc := ⟨.hbm, 1207, rfl⟩
abbrev main_v980 : Ref sig .tc := ⟨.hbm, 1208, rfl⟩
abbrev main_v981 : Ref sig .tc := ⟨.hbm, 1209, rfl⟩
abbrev main_c_56 : Ref sig .tc := ⟨.hbm, 1210, rfl⟩
abbrev main_v982 : Ref sig .tc := ⟨.hbm, 1211, rfl⟩
abbrev main_v983 : Ref sig .tc := ⟨.hbm, 1212, rfl⟩
abbrev main_v984 : Ref sig .tc := ⟨.hbm, 1213, rfl⟩
abbrev main_call47_v0 : Ref sig .tc := ⟨.hbm, 1214, rfl⟩
abbrev main_v985 : Ref sig .tc := ⟨.hbm, 1215, rfl⟩
abbrev main_v986 : Ref sig .tc := ⟨.hbm, 1216, rfl⟩
abbrev main_v987 : Ref sig .tc := ⟨.hbm, 1217, rfl⟩
abbrev main_v988 : Ref sig .tc := ⟨.hbm, 1218, rfl⟩
abbrev main_v989 : Ref sig .tc := ⟨.hbm, 1219, rfl⟩
abbrev main_v990 : Ref sig .tc := ⟨.hbm, 1220, rfl⟩
abbrev main_v991 : Ref sig .tc := ⟨.hbm, 1221, rfl⟩
abbrev main_v992 : Ref sig .tc := ⟨.hbm, 1222, rfl⟩
abbrev main_v993 : Ref sig .tc := ⟨.hbm, 1223, rfl⟩
abbrev main_v994 : Ref sig .tc := ⟨.hbm, 1224, rfl⟩
abbrev main_v995 : Ref sig .tc := ⟨.hbm, 1225, rfl⟩
abbrev main_v996 : Ref sig .tc := ⟨.hbm, 1226, rfl⟩
abbrev main_v997 : Ref sig .tc := ⟨.hbm, 1227, rfl⟩
abbrev main_v998 : Ref sig .tc := ⟨.hbm, 1228, rfl⟩
abbrev main_v999 : Ref sig .tc := ⟨.hbm, 1229, rfl⟩
abbrev main_v1000 : Ref sig .tc := ⟨.hbm, 1230, rfl⟩
abbrev main_v1001 : Ref sig .tc := ⟨.hbm, 1231, rfl⟩
abbrev main_v1002 : Ref sig .tc := ⟨.hbm, 1232, rfl⟩
abbrev main_v1003 : Ref sig .tc := ⟨.hbm, 1233, rfl⟩
abbrev main_v1004 : Ref sig .tc := ⟨.hbm, 1234, rfl⟩
abbrev main_v1005 : Ref sig .tc := ⟨.hbm, 1235, rfl⟩
abbrev main_v1006 : Ref sig .tc := ⟨.hbm, 1236, rfl⟩
abbrev main_v1007 : Ref sig .tc := ⟨.hbm, 1237, rfl⟩
abbrev main_v1008 : Ref sig .tc := ⟨.hbm, 1238, rfl⟩
abbrev main_v1009 : Ref sig .tc := ⟨.hbm, 1239, rfl⟩
abbrev main_v1010 : Ref sig .tc := ⟨.hbm, 1240, rfl⟩
abbrev main_v1011 : Ref sig .tc := ⟨.hbm, 1241, rfl⟩
abbrev main_v1012 : Ref sig .tc := ⟨.hbm, 1242, rfl⟩
abbrev main_v1013 : Ref sig .tc := ⟨.hbm, 1243, rfl⟩
abbrev main_v1014 : Ref sig .tc := ⟨.hbm, 1244, rfl⟩
abbrev main_v1015 : Ref sig .tc := ⟨.hbm, 1245, rfl⟩
abbrev main_v1016 : Ref sig .tc := ⟨.hbm, 1246, rfl⟩
abbrev main_c_57 : Ref sig .tc := ⟨.hbm, 1247, rfl⟩
abbrev main_v1017 : Ref sig .tc := ⟨.hbm, 1248, rfl⟩
abbrev main_v1018 : Ref sig .tc := ⟨.hbm, 1249, rfl⟩
abbrev main_v1019 : Ref sig .tc := ⟨.hbm, 1250, rfl⟩
abbrev main_call48_v0 : Ref sig .tc := ⟨.hbm, 1251, rfl⟩
abbrev main_v1020 : Ref sig .tc := ⟨.hbm, 1252, rfl⟩
abbrev main_v1021 : Ref sig .tc := ⟨.hbm, 1253, rfl⟩
abbrev main_v1022 : Ref sig .tc := ⟨.hbm, 1254, rfl⟩
abbrev main_v1023 : Ref sig .tc := ⟨.hbm, 1255, rfl⟩
abbrev main_v1024 : Ref sig .tc := ⟨.hbm, 1256, rfl⟩
abbrev main_cst_58 : Ref sig .tc := ⟨.hbm, 1257, rfl⟩
abbrev main_v1025 : Ref sig .tc := ⟨.hbm, 1258, rfl⟩
abbrev main_cst_59 : Ref sig .tc := ⟨.hbm, 1259, rfl⟩
abbrev main_v1026 : Ref sig .tc := ⟨.hbm, 1260, rfl⟩
abbrev main_v1027 : Ref sig .tc := ⟨.hbm, 1261, rfl⟩
abbrev main_v1028 : Ref sig .tc := ⟨.hbm, 1262, rfl⟩
abbrev main_v1029 : Ref sig .tc := ⟨.hbm, 1263, rfl⟩
abbrev main_v1030 : Ref sig .tc := ⟨.hbm, 1264, rfl⟩
abbrev main_v1031 : Ref sig .tc := ⟨.hbm, 1265, rfl⟩
abbrev main_v1032 : Ref sig .tc := ⟨.hbm, 1266, rfl⟩
abbrev main_v1033 : Ref sig .tc := ⟨.hbm, 1267, rfl⟩
abbrev main_v1034 : Ref sig .tc := ⟨.hbm, 1268, rfl⟩
abbrev main_v1035 : Ref sig .tc := ⟨.hbm, 1269, rfl⟩
abbrev main_v1036 : Ref sig .tc := ⟨.hbm, 1270, rfl⟩
abbrev main_v1037 : Ref sig .tc := ⟨.hbm, 1271, rfl⟩
abbrev main_v1038 : Ref sig .tc := ⟨.hbm, 1272, rfl⟩
abbrev main_v1039 : Ref sig .tc := ⟨.hbm, 1273, rfl⟩
abbrev main_v1040 : Ref sig .tc := ⟨.hbm, 1274, rfl⟩
abbrev main_v1041 : Ref sig .tc := ⟨.hbm, 1275, rfl⟩
abbrev main_v1042 : Ref sig .tc := ⟨.hbm, 1276, rfl⟩
abbrev main_v1043 : Ref sig .tc := ⟨.hbm, 1277, rfl⟩
abbrev main_v1044 : Ref sig .tc := ⟨.hbm, 1278, rfl⟩
abbrev main_v1045 : Ref sig .tc := ⟨.hbm, 1279, rfl⟩
abbrev main_v1046 : Ref sig .tc := ⟨.hbm, 1280, rfl⟩
abbrev main_v1047 : Ref sig .tc := ⟨.hbm, 1281, rfl⟩
abbrev main_v1048 : Ref sig .tc := ⟨.hbm, 1282, rfl⟩
abbrev main_v1049 : Ref sig .tc := ⟨.hbm, 1283, rfl⟩
abbrev main_v1050 : Ref sig .tc := ⟨.hbm, 1284, rfl⟩
abbrev main_v1051 : Ref sig .tc := ⟨.hbm, 1285, rfl⟩
abbrev main_v1052 : Ref sig .tc := ⟨.hbm, 1286, rfl⟩
abbrev main_v1053 : Ref sig .tc := ⟨.hbm, 1287, rfl⟩
abbrev main_v1054 : Ref sig .tc := ⟨.hbm, 1288, rfl⟩
abbrev main_v1055 : Ref sig .tc := ⟨.hbm, 1289, rfl⟩
abbrev main_v1056 : Ref sig .tc := ⟨.hbm, 1290, rfl⟩
abbrev main_v1057 : Ref sig .tc := ⟨.hbm, 1291, rfl⟩
abbrev main_c_60 : Ref sig .tc := ⟨.hbm, 1292, rfl⟩
abbrev main_v1058 : Ref sig .tc := ⟨.hbm, 1293, rfl⟩
abbrev main_v1059 : Ref sig .tc := ⟨.hbm, 1294, rfl⟩
abbrev main_v1060 : Ref sig .tc := ⟨.hbm, 1295, rfl⟩
abbrev main_call49_v0 : Ref sig .tc := ⟨.hbm, 1296, rfl⟩
abbrev main_v1061 : Ref sig .tc := ⟨.hbm, 1297, rfl⟩
abbrev main_v1062 : Ref sig .tc := ⟨.hbm, 1298, rfl⟩
abbrev main_v1063 : Ref sig .tc := ⟨.hbm, 1299, rfl⟩
abbrev main_v1064 : Ref sig .tc := ⟨.hbm, 1300, rfl⟩
abbrev main_v1065 : Ref sig .tc := ⟨.hbm, 1301, rfl⟩
abbrev main_v1066 : Ref sig .tc := ⟨.hbm, 1302, rfl⟩
abbrev main_v1067 : Ref sig .tc := ⟨.hbm, 1303, rfl⟩
abbrev main_v1068 : Ref sig .tc := ⟨.hbm, 1304, rfl⟩
abbrev main_v1069 : Ref sig .tc := ⟨.hbm, 1305, rfl⟩
abbrev main_v1070 : Ref sig .tc := ⟨.hbm, 1306, rfl⟩
abbrev main_v1071 : Ref sig .tc := ⟨.hbm, 1307, rfl⟩
abbrev main_v1072 : Ref sig .tc := ⟨.hbm, 1308, rfl⟩
abbrev main_v1073 : Ref sig .tc := ⟨.hbm, 1309, rfl⟩
abbrev main_v1074 : Ref sig .tc := ⟨.hbm, 1310, rfl⟩
abbrev main_v1075 : Ref sig .tc := ⟨.hbm, 1311, rfl⟩
abbrev main_v1076 : Ref sig .tc := ⟨.hbm, 1312, rfl⟩
abbrev main_v1077 : Ref sig .tc := ⟨.hbm, 1313, rfl⟩
abbrev main_v1078 : Ref sig .tc := ⟨.hbm, 1314, rfl⟩
abbrev main_v1079 : Ref sig .tc := ⟨.hbm, 1315, rfl⟩
abbrev main_v1080 : Ref sig .tc := ⟨.hbm, 1316, rfl⟩
abbrev main_v1081 : Ref sig .tc := ⟨.hbm, 1317, rfl⟩
abbrev main_v1082 : Ref sig .tc := ⟨.hbm, 1318, rfl⟩
abbrev main_v1083 : Ref sig .tc := ⟨.hbm, 1319, rfl⟩
abbrev main_v1084 : Ref sig .tc := ⟨.hbm, 1320, rfl⟩
abbrev main_v1085 : Ref sig .tc := ⟨.hbm, 1321, rfl⟩
abbrev main_v1086 : Ref sig .tc := ⟨.hbm, 1322, rfl⟩
abbrev main_v1087 : Ref sig .tc := ⟨.hbm, 1323, rfl⟩
abbrev main_v1088 : Ref sig .tc := ⟨.hbm, 1324, rfl⟩
abbrev main_v1089 : Ref sig .tc := ⟨.hbm, 1325, rfl⟩
abbrev main_v1090 : Ref sig .tc := ⟨.hbm, 1326, rfl⟩
abbrev main_v1091 : Ref sig .tc := ⟨.hbm, 1327, rfl⟩
abbrev main_v1092 : Ref sig .tc := ⟨.hbm, 1328, rfl⟩
abbrev main_c_61 : Ref sig .tc := ⟨.hbm, 1329, rfl⟩
abbrev main_v1093 : Ref sig .tc := ⟨.hbm, 1330, rfl⟩
abbrev main_v1094 : Ref sig .tc := ⟨.hbm, 1331, rfl⟩
abbrev main_v1095 : Ref sig .tc := ⟨.hbm, 1332, rfl⟩
abbrev main_call50_v0 : Ref sig .tc := ⟨.hbm, 1333, rfl⟩
abbrev main_v1096 : Ref sig .tc := ⟨.hbm, 1334, rfl⟩
abbrev main_v1097 : Ref sig .tc := ⟨.hbm, 1335, rfl⟩
abbrev main_v1098 : Ref sig .tc := ⟨.hbm, 1336, rfl⟩
abbrev main_v1099 : Ref sig .tc := ⟨.hbm, 1337, rfl⟩
abbrev main_v1100 : Ref sig .tc := ⟨.hbm, 1338, rfl⟩
abbrev main_v1101 : Ref sig .tc := ⟨.hbm, 1339, rfl⟩
abbrev main_v1102 : Ref sig .tc := ⟨.hbm, 1340, rfl⟩
abbrev main_v1103 : Ref sig .tc := ⟨.hbm, 1341, rfl⟩
abbrev main_v1104 : Ref sig .tc := ⟨.hbm, 1342, rfl⟩
abbrev main_v1105 : Ref sig .tc := ⟨.hbm, 1343, rfl⟩
abbrev main_v1106 : Ref sig .tc := ⟨.hbm, 1344, rfl⟩
abbrev main_v1107 : Ref sig .tc := ⟨.hbm, 1345, rfl⟩
abbrev main_v1108 : Ref sig .tc := ⟨.hbm, 1346, rfl⟩
abbrev main_v1109 : Ref sig .tc := ⟨.hbm, 1347, rfl⟩
abbrev main_v1110 : Ref sig .tc := ⟨.hbm, 1348, rfl⟩
abbrev main_v1111 : Ref sig .tc := ⟨.hbm, 1349, rfl⟩
abbrev main_v1112 : Ref sig .tc := ⟨.hbm, 1350, rfl⟩
abbrev main_v1113 : Ref sig .tc := ⟨.hbm, 1351, rfl⟩
abbrev main_v1114 : Ref sig .tc := ⟨.hbm, 1352, rfl⟩
abbrev main_v1115 : Ref sig .tc := ⟨.hbm, 1353, rfl⟩
abbrev main_v1116 : Ref sig .tc := ⟨.hbm, 1354, rfl⟩
abbrev main_v1117 : Ref sig .tc := ⟨.hbm, 1355, rfl⟩
abbrev main_v1118 : Ref sig .tc := ⟨.hbm, 1356, rfl⟩
abbrev main_v1119 : Ref sig .tc := ⟨.hbm, 1357, rfl⟩
abbrev main_v1120 : Ref sig .tc := ⟨.hbm, 1358, rfl⟩
abbrev main_v1121 : Ref sig .tc := ⟨.hbm, 1359, rfl⟩
abbrev main_v1122 : Ref sig .tc := ⟨.hbm, 1360, rfl⟩
abbrev main_v1123 : Ref sig .tc := ⟨.hbm, 1361, rfl⟩
abbrev main_v1124 : Ref sig .tc := ⟨.hbm, 1362, rfl⟩
abbrev main_v1125 : Ref sig .tc := ⟨.hbm, 1363, rfl⟩
abbrev main_v1126 : Ref sig .tc := ⟨.hbm, 1364, rfl⟩
abbrev main_v1127 : Ref sig .tc := ⟨.hbm, 1365, rfl⟩
abbrev main_c_62 : Ref sig .tc := ⟨.hbm, 1366, rfl⟩
abbrev main_v1128 : Ref sig .tc := ⟨.hbm, 1367, rfl⟩
abbrev main_v1129 : Ref sig .tc := ⟨.hbm, 1368, rfl⟩
abbrev main_v1130 : Ref sig .tc := ⟨.hbm, 1369, rfl⟩
abbrev main_call51_v0 : Ref sig .tc := ⟨.hbm, 1370, rfl⟩
abbrev main_v1131 : Ref sig .tc := ⟨.hbm, 1371, rfl⟩
abbrev main_v1132 : Ref sig .tc := ⟨.hbm, 1372, rfl⟩
abbrev main_v1133 : Ref sig .tc := ⟨.hbm, 1373, rfl⟩
abbrev main_v1134 : Ref sig .tc := ⟨.hbm, 1374, rfl⟩
abbrev main_v1135 : Ref sig .tc := ⟨.hbm, 1375, rfl⟩
abbrev main_v1136 : Ref sig .tc := ⟨.hbm, 1376, rfl⟩
abbrev main_v1137 : Ref sig .tc := ⟨.hbm, 1377, rfl⟩
abbrev main_v1138 : Ref sig .tc := ⟨.hbm, 1378, rfl⟩
abbrev main_v1139 : Ref sig .tc := ⟨.hbm, 1379, rfl⟩
abbrev main_v1140 : Ref sig .tc := ⟨.hbm, 1380, rfl⟩
abbrev main_v1141 : Ref sig .tc := ⟨.hbm, 1381, rfl⟩
abbrev main_v1142 : Ref sig .tc := ⟨.hbm, 1382, rfl⟩
abbrev main_v1143 : Ref sig .tc := ⟨.hbm, 1383, rfl⟩
abbrev main_v1144 : Ref sig .tc := ⟨.hbm, 1384, rfl⟩
abbrev main_v1145 : Ref sig .tc := ⟨.hbm, 1385, rfl⟩
abbrev main_v1146 : Ref sig .tc := ⟨.hbm, 1386, rfl⟩
abbrev main_v1147 : Ref sig .tc := ⟨.hbm, 1387, rfl⟩
abbrev main_v1148 : Ref sig .tc := ⟨.hbm, 1388, rfl⟩
abbrev main_v1149 : Ref sig .tc := ⟨.hbm, 1389, rfl⟩
abbrev main_v1150 : Ref sig .tc := ⟨.hbm, 1390, rfl⟩
abbrev main_v1151 : Ref sig .tc := ⟨.hbm, 1391, rfl⟩
abbrev main_v1152 : Ref sig .tc := ⟨.hbm, 1392, rfl⟩
abbrev main_v1153 : Ref sig .tc := ⟨.hbm, 1393, rfl⟩
abbrev main_v1154 : Ref sig .tc := ⟨.hbm, 1394, rfl⟩
abbrev main_v1155 : Ref sig .tc := ⟨.hbm, 1395, rfl⟩
abbrev main_v1156 : Ref sig .tc := ⟨.hbm, 1396, rfl⟩
abbrev main_v1157 : Ref sig .tc := ⟨.hbm, 1397, rfl⟩
abbrev main_v1158 : Ref sig .tc := ⟨.hbm, 1398, rfl⟩
abbrev main_v1159 : Ref sig .tc := ⟨.hbm, 1399, rfl⟩
abbrev main_v1160 : Ref sig .tc := ⟨.hbm, 1400, rfl⟩
abbrev main_v1161 : Ref sig .tc := ⟨.hbm, 1401, rfl⟩
abbrev main_v1162 : Ref sig .tc := ⟨.hbm, 1402, rfl⟩
abbrev main_c_63 : Ref sig .tc := ⟨.hbm, 1403, rfl⟩
abbrev main_v1163 : Ref sig .tc := ⟨.hbm, 1404, rfl⟩
abbrev main_v1164 : Ref sig .tc := ⟨.hbm, 1405, rfl⟩
abbrev main_v1165 : Ref sig .tc := ⟨.hbm, 1406, rfl⟩
abbrev main_call52_v0 : Ref sig .tc := ⟨.hbm, 1407, rfl⟩
abbrev main_v1166 : Ref sig .tc := ⟨.hbm, 1408, rfl⟩
abbrev main_v1167 : Ref sig .tc := ⟨.hbm, 1409, rfl⟩
abbrev main_v1168 : Ref sig .tc := ⟨.hbm, 1410, rfl⟩
abbrev main_v1169 : Ref sig .tc := ⟨.hbm, 1411, rfl⟩
abbrev main_v1170 : Ref sig .tc := ⟨.hbm, 1412, rfl⟩
abbrev main_v1171 : Ref sig .tc := ⟨.hbm, 1413, rfl⟩
abbrev main_v1172 : Ref sig .tc := ⟨.hbm, 1414, rfl⟩
abbrev main_v1173 : Ref sig .tc := ⟨.hbm, 1415, rfl⟩
abbrev main_v1174 : Ref sig .tc := ⟨.hbm, 1416, rfl⟩
abbrev main_v1175 : Ref sig .tc := ⟨.hbm, 1417, rfl⟩
abbrev main_v1176 : Ref sig .tc := ⟨.hbm, 1418, rfl⟩
abbrev main_v1177 : Ref sig .tc := ⟨.hbm, 1419, rfl⟩
abbrev main_v1178 : Ref sig .tc := ⟨.hbm, 1420, rfl⟩
abbrev main_v1179 : Ref sig .tc := ⟨.hbm, 1421, rfl⟩
abbrev main_v1180 : Ref sig .tc := ⟨.hbm, 1422, rfl⟩
abbrev main_v1181 : Ref sig .tc := ⟨.hbm, 1423, rfl⟩
abbrev main_v1182 : Ref sig .tc := ⟨.hbm, 1424, rfl⟩
abbrev main_v1183 : Ref sig .tc := ⟨.hbm, 1425, rfl⟩
abbrev main_v1184 : Ref sig .tc := ⟨.hbm, 1426, rfl⟩
abbrev main_v1185 : Ref sig .tc := ⟨.hbm, 1427, rfl⟩
abbrev main_v1186 : Ref sig .tc := ⟨.hbm, 1428, rfl⟩
abbrev main_v1187 : Ref sig .tc := ⟨.hbm, 1429, rfl⟩
abbrev main_v1188 : Ref sig .tc := ⟨.hbm, 1430, rfl⟩
abbrev main_v1189 : Ref sig .tc := ⟨.hbm, 1431, rfl⟩
abbrev main_v1190 : Ref sig .tc := ⟨.hbm, 1432, rfl⟩
abbrev main_v1191 : Ref sig .tc := ⟨.hbm, 1433, rfl⟩
abbrev main_v1192 : Ref sig .tc := ⟨.hbm, 1434, rfl⟩
abbrev main_v1193 : Ref sig .tc := ⟨.hbm, 1435, rfl⟩
abbrev main_v1194 : Ref sig .tc := ⟨.hbm, 1436, rfl⟩
abbrev main_v1195 : Ref sig .tc := ⟨.hbm, 1437, rfl⟩
abbrev main_v1196 : Ref sig .tc := ⟨.hbm, 1438, rfl⟩
abbrev main_v1197 : Ref sig .tc := ⟨.hbm, 1439, rfl⟩
abbrev main_c_64 : Ref sig .tc := ⟨.hbm, 1440, rfl⟩
abbrev main_v1198 : Ref sig .tc := ⟨.hbm, 1441, rfl⟩
abbrev main_v1199 : Ref sig .tc := ⟨.hbm, 1442, rfl⟩
abbrev main_v1200 : Ref sig .tc := ⟨.hbm, 1443, rfl⟩
abbrev main_call53_v0 : Ref sig .tc := ⟨.hbm, 1444, rfl⟩
abbrev main_v1201 : Ref sig .tc := ⟨.hbm, 1445, rfl⟩
abbrev main_v1202 : Ref sig .tc := ⟨.hbm, 1446, rfl⟩
abbrev main_v1203 : Ref sig .tc := ⟨.hbm, 1447, rfl⟩
abbrev main_v1204 : Ref sig .tc := ⟨.hbm, 1448, rfl⟩
abbrev main_v1205 : Ref sig .tc := ⟨.hbm, 1449, rfl⟩
abbrev main_v1206 : Ref sig .tc := ⟨.hbm, 1450, rfl⟩
abbrev main_v1207 : Ref sig .tc := ⟨.hbm, 1451, rfl⟩
abbrev main_v1208 : Ref sig .tc := ⟨.hbm, 1452, rfl⟩
abbrev main_v1209 : Ref sig .tc := ⟨.hbm, 1453, rfl⟩
abbrev main_v1210 : Ref sig .tc := ⟨.hbm, 1454, rfl⟩
abbrev main_v1211 : Ref sig .tc := ⟨.hbm, 1455, rfl⟩
abbrev main_v1212 : Ref sig .tc := ⟨.hbm, 1456, rfl⟩
abbrev main_v1213 : Ref sig .tc := ⟨.hbm, 1457, rfl⟩
abbrev main_v1214 : Ref sig .tc := ⟨.hbm, 1458, rfl⟩
abbrev main_v1215 : Ref sig .tc := ⟨.hbm, 1459, rfl⟩
abbrev main_v1216 : Ref sig .tc := ⟨.hbm, 1460, rfl⟩
abbrev main_v1217 : Ref sig .tc := ⟨.hbm, 1461, rfl⟩
abbrev main_v1218 : Ref sig .tc := ⟨.hbm, 1462, rfl⟩
abbrev main_v1219 : Ref sig .tc := ⟨.hbm, 1463, rfl⟩
abbrev main_v1220 : Ref sig .tc := ⟨.hbm, 1464, rfl⟩
abbrev main_v1221 : Ref sig .tc := ⟨.hbm, 1465, rfl⟩
abbrev main_v1222 : Ref sig .tc := ⟨.hbm, 1466, rfl⟩
abbrev main_v1223 : Ref sig .tc := ⟨.hbm, 1467, rfl⟩
abbrev main_v1224 : Ref sig .tc := ⟨.hbm, 1468, rfl⟩
abbrev main_v1225 : Ref sig .tc := ⟨.hbm, 1469, rfl⟩
abbrev main_v1226 : Ref sig .tc := ⟨.hbm, 1470, rfl⟩
abbrev main_v1227 : Ref sig .tc := ⟨.hbm, 1471, rfl⟩
abbrev main_v1228 : Ref sig .tc := ⟨.hbm, 1472, rfl⟩
abbrev main_v1229 : Ref sig .tc := ⟨.hbm, 1473, rfl⟩
abbrev main_v1230 : Ref sig .tc := ⟨.hbm, 1474, rfl⟩
abbrev main_v1231 : Ref sig .tc := ⟨.hbm, 1475, rfl⟩
abbrev main_v1232 : Ref sig .tc := ⟨.hbm, 1476, rfl⟩
abbrev main_c_65 : Ref sig .tc := ⟨.hbm, 1477, rfl⟩
abbrev main_v1233 : Ref sig .tc := ⟨.hbm, 1478, rfl⟩
abbrev main_v1234 : Ref sig .tc := ⟨.hbm, 1479, rfl⟩
abbrev main_v1235 : Ref sig .tc := ⟨.hbm, 1480, rfl⟩
abbrev main_call54_v0 : Ref sig .tc := ⟨.hbm, 1481, rfl⟩
abbrev main_v1236 : Ref sig .tc := ⟨.hbm, 1482, rfl⟩
abbrev main_v1237 : Ref sig .tc := ⟨.hbm, 1483, rfl⟩
abbrev main_v1238 : Ref sig .tc := ⟨.hbm, 1484, rfl⟩
abbrev main_v1239 : Ref sig .tc := ⟨.hbm, 1485, rfl⟩
abbrev main_v1240 : Ref sig .tc := ⟨.hbm, 1486, rfl⟩
abbrev main_v1241 : Ref sig .tc := ⟨.hbm, 1487, rfl⟩
abbrev main_v1242 : Ref sig .tc := ⟨.hbm, 1488, rfl⟩
abbrev main_v1243 : Ref sig .tc := ⟨.hbm, 1489, rfl⟩
abbrev main_v1244 : Ref sig .tc := ⟨.hbm, 1490, rfl⟩
abbrev main_v1245 : Ref sig .tc := ⟨.hbm, 1491, rfl⟩
abbrev main_v1246 : Ref sig .tc := ⟨.hbm, 1492, rfl⟩
abbrev main_v1247 : Ref sig .tc := ⟨.hbm, 1493, rfl⟩
abbrev main_v1248 : Ref sig .tc := ⟨.hbm, 1494, rfl⟩
abbrev main_v1249 : Ref sig .tc := ⟨.hbm, 1495, rfl⟩
abbrev main_v1250 : Ref sig .tc := ⟨.hbm, 1496, rfl⟩
abbrev main_v1251 : Ref sig .tc := ⟨.hbm, 1497, rfl⟩
abbrev main_v1252 : Ref sig .tc := ⟨.hbm, 1498, rfl⟩
abbrev main_v1253 : Ref sig .tc := ⟨.hbm, 1499, rfl⟩
abbrev main_v1254 : Ref sig .tc := ⟨.hbm, 1500, rfl⟩
abbrev main_v1255 : Ref sig .tc := ⟨.hbm, 1501, rfl⟩
abbrev main_v1256 : Ref sig .tc := ⟨.hbm, 1502, rfl⟩
abbrev main_v1257 : Ref sig .tc := ⟨.hbm, 1503, rfl⟩
abbrev main_v1258 : Ref sig .tc := ⟨.hbm, 1504, rfl⟩
abbrev main_v1259 : Ref sig .tc := ⟨.hbm, 1505, rfl⟩
abbrev main_v1260 : Ref sig .tc := ⟨.hbm, 1506, rfl⟩
abbrev main_v1261 : Ref sig .tc := ⟨.hbm, 1507, rfl⟩
abbrev main_v1262 : Ref sig .tc := ⟨.hbm, 1508, rfl⟩
abbrev main_v1263 : Ref sig .tc := ⟨.hbm, 1509, rfl⟩
abbrev main_v1264 : Ref sig .tc := ⟨.hbm, 1510, rfl⟩
abbrev main_v1265 : Ref sig .tc := ⟨.hbm, 1511, rfl⟩
abbrev main_v1266 : Ref sig .tc := ⟨.hbm, 1512, rfl⟩
abbrev main_v1267 : Ref sig .tc := ⟨.hbm, 1513, rfl⟩
abbrev main_c_66 : Ref sig .tc := ⟨.hbm, 1514, rfl⟩
abbrev main_v1268 : Ref sig .tc := ⟨.hbm, 1515, rfl⟩
abbrev main_v1269 : Ref sig .tc := ⟨.hbm, 1516, rfl⟩
abbrev main_v1270 : Ref sig .tc := ⟨.hbm, 1517, rfl⟩
abbrev main_call55_v0 : Ref sig .tc := ⟨.hbm, 1518, rfl⟩
abbrev main_v1271 : Ref sig .tc := ⟨.hbm, 1519, rfl⟩
abbrev main_v1272 : Ref sig .tc := ⟨.hbm, 1520, rfl⟩
abbrev main_v1273 : Ref sig .tc := ⟨.hbm, 1521, rfl⟩
abbrev main_v1274 : Ref sig .tc := ⟨.hbm, 1522, rfl⟩
abbrev main_v1275 : Ref sig .tc := ⟨.hbm, 1523, rfl⟩
abbrev main_v1276 : Ref sig .tc := ⟨.hbm, 1524, rfl⟩
abbrev main_v1277 : Ref sig .tc := ⟨.hbm, 1525, rfl⟩
abbrev main_v1278 : Ref sig .tc := ⟨.hbm, 1526, rfl⟩
abbrev main_v1279 : Ref sig .tc := ⟨.hbm, 1527, rfl⟩
abbrev main_v1280 : Ref sig .tc := ⟨.hbm, 1528, rfl⟩
abbrev main_v1281 : Ref sig .tc := ⟨.hbm, 1529, rfl⟩
abbrev main_v1282 : Ref sig .tc := ⟨.hbm, 1530, rfl⟩
abbrev main_v1283 : Ref sig .tc := ⟨.hbm, 1531, rfl⟩
abbrev main_v1284 : Ref sig .tc := ⟨.hbm, 1532, rfl⟩
abbrev main_v1285 : Ref sig .tc := ⟨.hbm, 1533, rfl⟩
abbrev main_v1286 : Ref sig .tc := ⟨.hbm, 1534, rfl⟩
abbrev main_v1287 : Ref sig .tc := ⟨.hbm, 1535, rfl⟩
abbrev main_v1288 : Ref sig .tc := ⟨.hbm, 1536, rfl⟩
abbrev main_v1289 : Ref sig .tc := ⟨.hbm, 1537, rfl⟩
abbrev main_v1290 : Ref sig .tc := ⟨.hbm, 1538, rfl⟩
abbrev main_v1291 : Ref sig .tc := ⟨.hbm, 1539, rfl⟩
abbrev main_v1292 : Ref sig .tc := ⟨.hbm, 1540, rfl⟩
abbrev main_v1293 : Ref sig .tc := ⟨.hbm, 1541, rfl⟩
abbrev main_v1294 : Ref sig .tc := ⟨.hbm, 1542, rfl⟩
abbrev main_v1295 : Ref sig .tc := ⟨.hbm, 1543, rfl⟩
abbrev main_v1296 : Ref sig .tc := ⟨.hbm, 1544, rfl⟩
abbrev main_v1297 : Ref sig .tc := ⟨.hbm, 1545, rfl⟩
abbrev main_v1298 : Ref sig .tc := ⟨.hbm, 1546, rfl⟩
abbrev main_v1299 : Ref sig .tc := ⟨.hbm, 1547, rfl⟩
abbrev main_v1300 : Ref sig .tc := ⟨.hbm, 1548, rfl⟩
abbrev main_v1301 : Ref sig .tc := ⟨.hbm, 1549, rfl⟩
abbrev main_v1302 : Ref sig .tc := ⟨.hbm, 1550, rfl⟩
abbrev main_c_67 : Ref sig .tc := ⟨.hbm, 1551, rfl⟩
abbrev main_v1303 : Ref sig .tc := ⟨.hbm, 1552, rfl⟩
abbrev main_v1304 : Ref sig .tc := ⟨.hbm, 1553, rfl⟩
abbrev main_v1305 : Ref sig .tc := ⟨.hbm, 1554, rfl⟩
abbrev main_call56_v0 : Ref sig .tc := ⟨.hbm, 1555, rfl⟩
abbrev main_v1306 : Ref sig .tc := ⟨.hbm, 1556, rfl⟩
abbrev main_v1307 : Ref sig .tc := ⟨.hbm, 1557, rfl⟩
abbrev main_v1308 : Ref sig .tc := ⟨.hbm, 1558, rfl⟩
abbrev main_v1309 : Ref sig .tc := ⟨.hbm, 1559, rfl⟩
abbrev main_v1310 : Ref sig .tc := ⟨.hbm, 1560, rfl⟩
abbrev main_v1311 : Ref sig .tc := ⟨.hbm, 1561, rfl⟩
abbrev main_v1312 : Ref sig .tc := ⟨.hbm, 1562, rfl⟩
abbrev main_call57_cst : Ref sig .tc := ⟨.hbm, 1563, rfl⟩
abbrev main_call57_v0 : Ref sig .tc := ⟨.hbm, 1564, rfl⟩
abbrev main_v1313 : Ref sig .tc := ⟨.hbm, 1565, rfl⟩
abbrev main_v1314 : Ref sig .tc := ⟨.hbm, 1566, rfl⟩
abbrev main_v1315 : Ref sig .tc := ⟨.hbm, 1567, rfl⟩
abbrev main_v1316 : Ref sig .tc := ⟨.hbm, 1568, rfl⟩
abbrev main_v1317 : Ref sig .tc := ⟨.hbm, 1569, rfl⟩
abbrev main_v1318 : Ref sig .tc := ⟨.hbm, 1570, rfl⟩
abbrev main_v1319 : Ref sig .tc := ⟨.hbm, 1571, rfl⟩
abbrev main_v1320 : Ref sig .tc := ⟨.hbm, 1572, rfl⟩
abbrev main_v1321 : Ref sig .tc := ⟨.hbm, 1573, rfl⟩
abbrev main_v1322 : Ref sig .tc := ⟨.hbm, 1574, rfl⟩
abbrev main_v1323 : Ref sig .tc := ⟨.hbm, 1575, rfl⟩
abbrev main_v1324 : Ref sig .tc := ⟨.hbm, 1576, rfl⟩
abbrev main_v1325 : Ref sig .tc := ⟨.hbm, 1577, rfl⟩
abbrev main_v1326 : Ref sig .tc := ⟨.hbm, 1578, rfl⟩
abbrev main_v1327 : Ref sig .tc := ⟨.hbm, 1579, rfl⟩
abbrev main_v1328 : Ref sig .tc := ⟨.hbm, 1580, rfl⟩
abbrev main_cst_68 : Ref sig .tc := ⟨.hbm, 1581, rfl⟩
abbrev main_v1329 : Ref sig .tc := ⟨.hbm, 1582, rfl⟩
abbrev main_v1330 : Ref sig .tc := ⟨.hbm, 1583, rfl⟩
abbrev main_v1331 : Ref sig .tc := ⟨.hbm, 1584, rfl⟩

abbrev nD : Nat := 1
abbrev τ : Topo := Topo.v7x

variable {F : FTy → Type} [FloatOps F]
-- ==== Proof.KernelIdealRun.lean ====
/- The kernel's body, run once on whole staging buffers: what it leaves in the two result buffers, together with the
   proof that it runs.  The values on the way are named (`bodyRun.sl.v…`), so that later modules can speak of them. -/
module

public import proofs.«01_k».proof.Proof.Gen.KernelIdeal.Frame.Runs

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option sl_exec.resultNames true in
set_option maxHeartbeats 20000000 in
/-- The pieces that the body stores in its two result buffers (`mu`, then `sigma`), with the proof that from the thirty
    input buffers at the contents `x0 … x29` and the result buffers at anything the body reaches its end, the inputs as
    they were and each result buffer holding its pieces. -/
noncomputable def bodyRun (c : Dev nD) (i : grid0.Coords) (arg1 : Memref sig .tc .vmem S1024x1408 .f32) (harg1 : arg1.IsWhole) (arg2 : Memref sig .tc .vmem S1024x352 .f32) (harg2 : arg2.IsWhole) (arg3 : Memref sig .tc .vmem S80x96 .bf16) (harg3 : arg3.IsWhole) (arg4 : Memref sig .tc .vmem S32x96 .bf16) (harg4 : arg4.IsWhole) (arg5 : Memref sig .tc .vmem S1x96 .f32) (harg5 : arg5.IsWhole) (arg6 : Memref sig .tc .vmem S1x96 .f32) (harg6 : arg6.IsWhole) (arg7 : Memref sig .tc .vmem S1x35 .f32) (harg7 : arg7.IsWhole) (arg8 : Memref sig .tc .vmem S1x35 .f32) (harg8 : arg8.IsWhole) (arg9 : Memref sig .tc .vmem S35x64 .bf16) (harg9 : arg9.IsWhole) (arg10 : Memref sig .tc .vmem S1x64 .f32) (harg10 : arg10.IsWhole) (arg11 : Memref sig .tc .vmem S64x32 .bf16) (harg11 : arg11.IsWhole) (arg12 : Memref sig .tc .vmem S1x32 .f32) (harg12 : arg12.IsWhole) (arg13 : Memref sig .tc .vmem S32x14 .bf16) (harg13 : arg13.IsWhole) (arg14 : Memref sig .tc .vmem S1x14 .f32) (harg14 : arg14.IsWhole) (arg15 : Memref sig .tc .vmem S80x192 .bf16) (harg15 : arg15.IsWhole) (arg16 : Memref sig .tc .vmem S64x192 .bf16) (harg16 : arg16.IsWhole) (arg17 : Memref sig .tc .vmem S1x192 .f32) (harg17 : arg17.IsWhole) (arg18 : Memref sig .tc .vmem S1x192 .f32) (harg18 : arg18.IsWhole) (arg19 : Memref sig .tc .vmem S80x192 .bf16) (harg19 : arg19.IsWhole) (arg20 : Memref sig .tc .vmem S64x192 .bf16) (harg20 : arg20.IsWhole) (arg21 : Memref sig .tc .vmem S1x192 .f32) (harg21 : arg21.IsWhole) (arg22 : Memref sig .tc .vmem S1x192 .f32) (harg22 : arg22.IsWhole) (arg23 : Memref sig .tc .vmem S128x64 .bf16) (harg23 : arg23.IsWhole) (arg24 : Memref sig .tc .vmem S1x64 .f32) (harg24 : arg24.IsWhole) (arg25 : Memref sig .tc .vmem S64x64 .bf16) (harg25 : arg25.IsWhole) (arg26 : Memref sig .tc .vmem S1x64 .f32) (harg26 : arg26.IsWhole) (arg27 : Memref sig .tc .vmem S64x64 .bf16) (harg27 : arg27.IsWhole) (arg28 : Memref sig .tc .vmem S1x64 .f32) (harg28 : arg28.IsWhole) (arg29 : Memref sig .tc .vmem S64x64 .bf16) (harg29 : arg29.IsWhole) (arg30 : Memref sig .tc .vmem S1x64 .f32) (harg30 : arg30.IsWhole) (arg31 : Memref sig .tc .vmem S1024x64 .f32) (harg31 : arg31.IsWhole) (arg32 : Memref sig .tc .vmem S1024x64 .f32) (harg32 : arg32.IsWhole)
    (x0 : Vec F S1024x1408 .f32) (x1 : Vec F S1024x352 .f32) (x2 : Vec F S80x96 .bf16) (x3 : Vec F S32x96 .bf16) (x4 : Vec F S1x96 .f32) (x5 : Vec F S1x96 .f32) (x6 : Vec F S1x35 .f32) (x7 : Vec F S1x35 .f32) (x8 : Vec F S35x64 .bf16) (x9 : Vec F S1x64 .f32) (x10 : Vec F S64x32 .bf16) (x11 : Vec F S1x32 .f32) (x12 : Vec F S32x14 .bf16) (x13 : Vec F S1x14 .f32) (x14 : Vec F S80x192 .bf16) (x15 : Vec F S64x192 .bf16) (x16 : Vec F S1x192 .f32) (x17 : Vec F S1x192 .f32) (x18 : Vec F S80x192 .bf16) (x19 : Vec F S64x192 .bf16) (x20 : Vec F S1x192 .f32) (x21 : Vec F S1x192 .f32) (x22 : Vec F S128x64 .bf16) (x23 : Vec F S1x64 .f32) (x24 : Vec F S64x64 .bf16) (x25 : Vec F S1x64 .f32) (x26 : Vec F S64x64 .bf16) (x27 : Vec F S1x64 .f32) (x28 : Vec F S64x64 .bf16) (x29 : Vec F S1x64 .f32) :
    Σ' (L30 : List (View.Piece (Elt F) S1024x64 .f32)), { L31 : List (View.Piece (Elt F) S1024x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ (∃ d, owns (c : Thread nD τ) arg31 fullShare d) ∗ (∃ d, owns (c : Thread nD τ) arg32 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ (∃ f, arg31.view.loc (c : Thread nD τ) ↦[arg31.view.set]{fullShare} arg31.view.writes (Elt F) f L30) ∗ (∃ f, arg32.view.loc (c : Thread nD τ) ↦[arg32.view.set]{fullShare} arg32.view.writes (Elt F) f L31)) -∗ K ⟨⟩))
          ⊢ wp frame (wpE (defs₀ (F := F)) Variants.none c none) E (cc0__block_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K } := by
  refine ⟨?_, ?_, fun E K => ?run⟩
  case run =>
    simp only [cc0__block_kernel_eq_skeleton]; unfold cc0__block_kernel_skel
    simp only [k0_part25_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%d30, %f30, -, H30⟩, ⟨%d31, %f31, -, H31⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25; obtain rfl := harg27.eq_unread hf26; obtain rfl := harg28.eq_unread hf27; obtain rfl := harg29.eq_unread hf28; obtain rfl := harg30.eq_unread hf29
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]
    · iexists _; isplitr; · ipureintro; exact harg26.read_unread _
      iexact H25
    isplitl [H26]
    · iexists _; isplitr; · ipureintro; exact harg27.read_unread _
      iexact H26
    isplitl [H27]
    · iexists _; isplitr; · ipureintro; exact harg28.read_unread _
      iexact H27
    isplitl [H28]
    · iexists _; isplitr; · ipureintro; exact harg29.read_unread _
      iexact H28
    isplitl [H29]
    · iexists _; isplitr; · ipureintro; exact harg30.read_unread _
      iexact H29
    isplitl [H30]; · iexists _; iexact H30
    iexists _; iexact H31

end Cert.KernelIdeal.Body

end
-- ==== Proof.KernelIdealFrame.lean ====
/- The launch around the body: what each grid point leaves in the result blocks (`muBlock`, `sigmaBlock`), the
   pipeline's data over the sixteen points, the body's obligation at a point, the run of the whole program, and the
   frame: the arguments end as they began and every counter at zero. -/
module

public import proofs.«01_k».proof.Proof.KernelIdealRun
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The stores of the first result reach every index of its block. -/
theorem mu_covers (c : Dev nD) (i : grid0.Coords) (arg1 : Memref sig .tc .vmem S1024x1408 .f32) (harg1 : arg1.IsWhole) (arg2 : Memref sig .tc .vmem S1024x352 .f32) (harg2 : arg2.IsWhole) (arg3 : Memref sig .tc .vmem S80x96 .bf16) (harg3 : arg3.IsWhole) (arg4 : Memref sig .tc .vmem S32x96 .bf16) (harg4 : arg4.IsWhole) (arg5 : Memref sig .tc .vmem S1x96 .f32) (harg5 : arg5.IsWhole) (arg6 : Memref sig .tc .vmem S1x96 .f32) (harg6 : arg6.IsWhole) (arg7 : Memref sig .tc .vmem S1x35 .f32) (harg7 : arg7.IsWhole) (arg8 : Memref sig .tc .vmem S1x35 .f32) (harg8 : arg8.IsWhole) (arg9 : Memref sig .tc .vmem S35x64 .bf16) (harg9 : arg9.IsWhole) (arg10 : Memref sig .tc .vmem S1x64 .f32) (harg10 : arg10.IsWhole) (arg11 : Memref sig .tc .vmem S64x32 .bf16) (harg11 : arg11.IsWhole) (arg12 : Memref sig .tc .vmem S1x32 .f32) (harg12 : arg12.IsWhole) (arg13 : Memref sig .tc .vmem S32x14 .bf16) (harg13 : arg13.IsWhole) (arg14 : Memref sig .tc .vmem S1x14 .f32) (harg14 : arg14.IsWhole) (arg15 : Memref sig .tc .vmem S80x192 .bf16) (harg15 : arg15.IsWhole) (arg16 : Memref sig .tc .vmem S64x192 .bf16) (harg16 : arg16.IsWhole) (arg17 : Memref sig .tc .vmem S1x192 .f32) (harg17 : arg17.IsWhole) (arg18 : Memref sig .tc .vmem S1x192 .f32) (harg18 : arg18.IsWhole) (arg19 : Memref sig .tc .vmem S80x192 .bf16) (harg19 : arg19.IsWhole) (arg20 : Memref sig .tc .vmem S64x192 .bf16) (harg20 : arg20.IsWhole) (arg21 : Memref sig .tc .vmem S1x192 .f32) (harg21 : arg21.IsWhole) (arg22 : Memref sig .tc .vmem S1x192 .f32) (harg22 : arg22.IsWhole) (arg23 : Memref sig .tc .vmem S128x64 .bf16) (harg23 : arg23.IsWhole) (arg24 : Memref sig .tc .vmem S1x64 .f32) (harg24 : arg24.IsWhole) (arg25 : Memref sig .tc .vmem S64x64 .bf16) (harg25 : arg25.IsWhole) (arg26 : Memref sig .tc .vmem S1x64 .f32) (harg26 : arg26.IsWhole) (arg27 : Memref sig .tc .vmem S64x64 .bf16) (harg27 : arg27.IsWhole) (arg28 : Memref sig .tc .vmem S1x64 .f32) (harg28 : arg28.IsWhole) (arg29 : Memref sig .tc .vmem S64x64 .bf16) (harg29 : arg29.IsWhole) (arg30 : Memref sig .tc .vmem S1x64 .f32) (harg30 : arg30.IsWhole) (arg31 : Memref sig .tc .vmem S1024x64 .f32) (harg31 : arg31.IsWhole) (arg32 : Memref sig .tc .vmem S1024x64 .f32) (harg32 : arg32.IsWhole)
    (x0 : Vec F S1024x1408 .f32) (x1 : Vec F S1024x352 .f32) (x2 : Vec F S80x96 .bf16) (x3 : Vec F S32x96 .bf16) (x4 : Vec F S1x96 .f32) (x5 : Vec F S1x96 .f32) (x6 : Vec F S1x35 .f32) (x7 : Vec F S1x35 .f32) (x8 : Vec F S35x64 .bf16) (x9 : Vec F S1x64 .f32) (x10 : Vec F S64x32 .bf16) (x11 : Vec F S1x32 .f32) (x12 : Vec F S32x14 .bf16) (x13 : Vec F S1x14 .f32) (x14 : Vec F S80x192 .bf16) (x15 : Vec F S64x192 .bf16) (x16 : Vec F S1x192 .f32) (x17 : Vec F S1x192 .f32) (x18 : Vec F S80x192 .bf16) (x19 : Vec F S64x192 .bf16) (x20 : Vec F S1x192 .f32) (x21 : Vec F S1x192 .f32) (x22 : Vec F S128x64 .bf16) (x23 : Vec F S1x64 .f32) (x24 : Vec F S64x64 .bf16) (x25 : Vec F S1x64 .f32) (x26 : Vec F S64x64 .bf16) (x27 : Vec F S1x64 .f32) (x28 : Vec F S64x64 .bf16) (x29 : Vec F S1x64 .f32) (y : S1024x64.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24 x25 x26 x27 x28 x29).1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24 x25 x26 x27 x28 x29).1 S1024x64.size (by sl_kernel_rfl) y

/-- The first result's block: the body's stores, read back. -/
def muBlock (c : Dev nD) (i : grid0.Coords) (arg1 : Memref sig .tc .vmem S1024x1408 .f32) (harg1 : arg1.IsWhole) (arg2 : Memref sig .tc .vmem S1024x352 .f32) (harg2 : arg2.IsWhole) (arg3 : Memref sig .tc .vmem S80x96 .bf16) (harg3 : arg3.IsWhole) (arg4 : Memref sig .tc .vmem S32x96 .bf16) (harg4 : arg4.IsWhole) (arg5 : Memref sig .tc .vmem S1x96 .f32) (harg5 : arg5.IsWhole) (arg6 : Memref sig .tc .vmem S1x96 .f32) (harg6 : arg6.IsWhole) (arg7 : Memref sig .tc .vmem S1x35 .f32) (harg7 : arg7.IsWhole) (arg8 : Memref sig .tc .vmem S1x35 .f32) (harg8 : arg8.IsWhole) (arg9 : Memref sig .tc .vmem S35x64 .bf16) (harg9 : arg9.IsWhole) (arg10 : Memref sig .tc .vmem S1x64 .f32) (harg10 : arg10.IsWhole) (arg11 : Memref sig .tc .vmem S64x32 .bf16) (harg11 : arg11.IsWhole) (arg12 : Memref sig .tc .vmem S1x32 .f32) (harg12 : arg12.IsWhole) (arg13 : Memref sig .tc .vmem S32x14 .bf16) (harg13 : arg13.IsWhole) (arg14 : Memref sig .tc .vmem S1x14 .f32) (harg14 : arg14.IsWhole) (arg15 : Memref sig .tc .vmem S80x192 .bf16) (harg15 : arg15.IsWhole) (arg16 : Memref sig .tc .vmem S64x192 .bf16) (harg16 : arg16.IsWhole) (arg17 : Memref sig .tc .vmem S1x192 .f32) (harg17 : arg17.IsWhole) (arg18 : Memref sig .tc .vmem S1x192 .f32) (harg18 : arg18.IsWhole) (arg19 : Memref sig .tc .vmem S80x192 .bf16) (harg19 : arg19.IsWhole) (arg20 : Memref sig .tc .vmem S64x192 .bf16) (harg20 : arg20.IsWhole) (arg21 : Memref sig .tc .vmem S1x192 .f32) (harg21 : arg21.IsWhole) (arg22 : Memref sig .tc .vmem S1x192 .f32) (harg22 : arg22.IsWhole) (arg23 : Memref sig .tc .vmem S128x64 .bf16) (harg23 : arg23.IsWhole) (arg24 : Memref sig .tc .vmem S1x64 .f32) (harg24 : arg24.IsWhole) (arg25 : Memref sig .tc .vmem S64x64 .bf16) (harg25 : arg25.IsWhole) (arg26 : Memref sig .tc .vmem S1x64 .f32) (harg26 : arg26.IsWhole) (arg27 : Memref sig .tc .vmem S64x64 .bf16) (harg27 : arg27.IsWhole) (arg28 : Memref sig .tc .vmem S1x64 .f32) (harg28 : arg28.IsWhole) (arg29 : Memref sig .tc .vmem S64x64 .bf16) (harg29 : arg29.IsWhole) (arg30 : Memref sig .tc .vmem S1x64 .f32) (harg30 : arg30.IsWhole) (arg31 : Memref sig .tc .vmem S1024x64 .f32) (harg31 : arg31.IsWhole) (arg32 : Memref sig .tc .vmem S1024x64 .f32) (harg32 : arg32.IsWhole)
    (x0 : Vec F S1024x1408 .f32) (x1 : Vec F S1024x352 .f32) (x2 : Vec F S80x96 .bf16) (x3 : Vec F S32x96 .bf16) (x4 : Vec F S1x96 .f32) (x5 : Vec F S1x96 .f32) (x6 : Vec F S1x35 .f32) (x7 : Vec F S1x35 .f32) (x8 : Vec F S35x64 .bf16) (x9 : Vec F S1x64 .f32) (x10 : Vec F S64x32 .bf16) (x11 : Vec F S1x32 .f32) (x12 : Vec F S32x14 .bf16) (x13 : Vec F S1x14 .f32) (x14 : Vec F S80x192 .bf16) (x15 : Vec F S64x192 .bf16) (x16 : Vec F S1x192 .f32) (x17 : Vec F S1x192 .f32) (x18 : Vec F S80x192 .bf16) (x19 : Vec F S64x192 .bf16) (x20 : Vec F S1x192 .f32) (x21 : Vec F S1x192 .f32) (x22 : Vec F S128x64 .bf16) (x23 : Vec F S1x64 .f32) (x24 : Vec F S64x64 .bf16) (x25 : Vec F S1x64 .f32) (x26 : Vec F S64x64 .bf16) (x27 : Vec F S1x64 .f32) (x28 : Vec F S64x64 .bf16) (x29 : Vec F S1x64 .f32) : Vec F S1024x64 .f32 :=
  VO0_30.read (Elt F) (VO0_30.writes (Elt F) VO0_30.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24 x25 x26 x27 x28 x29).1)

/-- The stores of the second result reach every index of its block. -/
theorem sigma_covers (c : Dev nD) (i : grid0.Coords) (arg1 : Memref sig .tc .vmem S1024x1408 .f32) (harg1 : arg1.IsWhole) (arg2 : Memref sig .tc .vmem S1024x352 .f32) (harg2 : arg2.IsWhole) (arg3 : Memref sig .tc .vmem S80x96 .bf16) (harg3 : arg3.IsWhole) (arg4 : Memref sig .tc .vmem S32x96 .bf16) (harg4 : arg4.IsWhole) (arg5 : Memref sig .tc .vmem S1x96 .f32) (harg5 : arg5.IsWhole) (arg6 : Memref sig .tc .vmem S1x96 .f32) (harg6 : arg6.IsWhole) (arg7 : Memref sig .tc .vmem S1x35 .f32) (harg7 : arg7.IsWhole) (arg8 : Memref sig .tc .vmem S1x35 .f32) (harg8 : arg8.IsWhole) (arg9 : Memref sig .tc .vmem S35x64 .bf16) (harg9 : arg9.IsWhole) (arg10 : Memref sig .tc .vmem S1x64 .f32) (harg10 : arg10.IsWhole) (arg11 : Memref sig .tc .vmem S64x32 .bf16) (harg11 : arg11.IsWhole) (arg12 : Memref sig .tc .vmem S1x32 .f32) (harg12 : arg12.IsWhole) (arg13 : Memref sig .tc .vmem S32x14 .bf16) (harg13 : arg13.IsWhole) (arg14 : Memref sig .tc .vmem S1x14 .f32) (harg14 : arg14.IsWhole) (arg15 : Memref sig .tc .vmem S80x192 .bf16) (harg15 : arg15.IsWhole) (arg16 : Memref sig .tc .vmem S64x192 .bf16) (harg16 : arg16.IsWhole) (arg17 : Memref sig .tc .vmem S1x192 .f32) (harg17 : arg17.IsWhole) (arg18 : Memref sig .tc .vmem S1x192 .f32) (harg18 : arg18.IsWhole) (arg19 : Memref sig .tc .vmem S80x192 .bf16) (harg19 : arg19.IsWhole) (arg20 : Memref sig .tc .vmem S64x192 .bf16) (harg20 : arg20.IsWhole) (arg21 : Memref sig .tc .vmem S1x192 .f32) (harg21 : arg21.IsWhole) (arg22 : Memref sig .tc .vmem S1x192 .f32) (harg22 : arg22.IsWhole) (arg23 : Memref sig .tc .vmem S128x64 .bf16) (harg23 : arg23.IsWhole) (arg24 : Memref sig .tc .vmem S1x64 .f32) (harg24 : arg24.IsWhole) (arg25 : Memref sig .tc .vmem S64x64 .bf16) (harg25 : arg25.IsWhole) (arg26 : Memref sig .tc .vmem S1x64 .f32) (harg26 : arg26.IsWhole) (arg27 : Memref sig .tc .vmem S64x64 .bf16) (harg27 : arg27.IsWhole) (arg28 : Memref sig .tc .vmem S1x64 .f32) (harg28 : arg28.IsWhole) (arg29 : Memref sig .tc .vmem S64x64 .bf16) (harg29 : arg29.IsWhole) (arg30 : Memref sig .tc .vmem S1x64 .f32) (harg30 : arg30.IsWhole) (arg31 : Memref sig .tc .vmem S1024x64 .f32) (harg31 : arg31.IsWhole) (arg32 : Memref sig .tc .vmem S1024x64 .f32) (harg32 : arg32.IsWhole)
    (x0 : Vec F S1024x1408 .f32) (x1 : Vec F S1024x352 .f32) (x2 : Vec F S80x96 .bf16) (x3 : Vec F S32x96 .bf16) (x4 : Vec F S1x96 .f32) (x5 : Vec F S1x96 .f32) (x6 : Vec F S1x35 .f32) (x7 : Vec F S1x35 .f32) (x8 : Vec F S35x64 .bf16) (x9 : Vec F S1x64 .f32) (x10 : Vec F S64x32 .bf16) (x11 : Vec F S1x32 .f32) (x12 : Vec F S32x14 .bf16) (x13 : Vec F S1x14 .f32) (x14 : Vec F S80x192 .bf16) (x15 : Vec F S64x192 .bf16) (x16 : Vec F S1x192 .f32) (x17 : Vec F S1x192 .f32) (x18 : Vec F S80x192 .bf16) (x19 : Vec F S64x192 .bf16) (x20 : Vec F S1x192 .f32) (x21 : Vec F S1x192 .f32) (x22 : Vec F S128x64 .bf16) (x23 : Vec F S1x64 .f32) (x24 : Vec F S64x64 .bf16) (x25 : Vec F S1x64 .f32) (x26 : Vec F S64x64 .bf16) (x27 : Vec F S1x64 .f32) (x28 : Vec F S64x64 .bf16) (x29 : Vec F S1x64 .f32) (y : S1024x64.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24 x25 x26 x27 x28 x29).2.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24 x25 x26 x27 x28 x29).2.1 S1024x64.size (by sl_kernel_rfl) y

/-- The second result's block: the body's stores, read back. -/
def sigmaBlock (c : Dev nD) (i : grid0.Coords) (arg1 : Memref sig .tc .vmem S1024x1408 .f32) (harg1 : arg1.IsWhole) (arg2 : Memref sig .tc .vmem S1024x352 .f32) (harg2 : arg2.IsWhole) (arg3 : Memref sig .tc .vmem S80x96 .bf16) (harg3 : arg3.IsWhole) (arg4 : Memref sig .tc .vmem S32x96 .bf16) (harg4 : arg4.IsWhole) (arg5 : Memref sig .tc .vmem S1x96 .f32) (harg5 : arg5.IsWhole) (arg6 : Memref sig .tc .vmem S1x96 .f32) (harg6 : arg6.IsWhole) (arg7 : Memref sig .tc .vmem S1x35 .f32) (harg7 : arg7.IsWhole) (arg8 : Memref sig .tc .vmem S1x35 .f32) (harg8 : arg8.IsWhole) (arg9 : Memref sig .tc .vmem S35x64 .bf16) (harg9 : arg9.IsWhole) (arg10 : Memref sig .tc .vmem S1x64 .f32) (harg10 : arg10.IsWhole) (arg11 : Memref sig .tc .vmem S64x32 .bf16) (harg11 : arg11.IsWhole) (arg12 : Memref sig .tc .vmem S1x32 .f32) (harg12 : arg12.IsWhole) (arg13 : Memref sig .tc .vmem S32x14 .bf16) (harg13 : arg13.IsWhole) (arg14 : Memref sig .tc .vmem S1x14 .f32) (harg14 : arg14.IsWhole) (arg15 : Memref sig .tc .vmem S80x192 .bf16) (harg15 : arg15.IsWhole) (arg16 : Memref sig .tc .vmem S64x192 .bf16) (harg16 : arg16.IsWhole) (arg17 : Memref sig .tc .vmem S1x192 .f32) (harg17 : arg17.IsWhole) (arg18 : Memref sig .tc .vmem S1x192 .f32) (harg18 : arg18.IsWhole) (arg19 : Memref sig .tc .vmem S80x192 .bf16) (harg19 : arg19.IsWhole) (arg20 : Memref sig .tc .vmem S64x192 .bf16) (harg20 : arg20.IsWhole) (arg21 : Memref sig .tc .vmem S1x192 .f32) (harg21 : arg21.IsWhole) (arg22 : Memref sig .tc .vmem S1x192 .f32) (harg22 : arg22.IsWhole) (arg23 : Memref sig .tc .vmem S128x64 .bf16) (harg23 : arg23.IsWhole) (arg24 : Memref sig .tc .vmem S1x64 .f32) (harg24 : arg24.IsWhole) (arg25 : Memref sig .tc .vmem S64x64 .bf16) (harg25 : arg25.IsWhole) (arg26 : Memref sig .tc .vmem S1x64 .f32) (harg26 : arg26.IsWhole) (arg27 : Memref sig .tc .vmem S64x64 .bf16) (harg27 : arg27.IsWhole) (arg28 : Memref sig .tc .vmem S1x64 .f32) (harg28 : arg28.IsWhole) (arg29 : Memref sig .tc .vmem S64x64 .bf16) (harg29 : arg29.IsWhole) (arg30 : Memref sig .tc .vmem S1x64 .f32) (harg30 : arg30.IsWhole) (arg31 : Memref sig .tc .vmem S1024x64 .f32) (harg31 : arg31.IsWhole) (arg32 : Memref sig .tc .vmem S1024x64 .f32) (harg32 : arg32.IsWhole)
    (x0 : Vec F S1024x1408 .f32) (x1 : Vec F S1024x352 .f32) (x2 : Vec F S80x96 .bf16) (x3 : Vec F S32x96 .bf16) (x4 : Vec F S1x96 .f32) (x5 : Vec F S1x96 .f32) (x6 : Vec F S1x35 .f32) (x7 : Vec F S1x35 .f32) (x8 : Vec F S35x64 .bf16) (x9 : Vec F S1x64 .f32) (x10 : Vec F S64x32 .bf16) (x11 : Vec F S1x32 .f32) (x12 : Vec F S32x14 .bf16) (x13 : Vec F S1x14 .f32) (x14 : Vec F S80x192 .bf16) (x15 : Vec F S64x192 .bf16) (x16 : Vec F S1x192 .f32) (x17 : Vec F S1x192 .f32) (x18 : Vec F S80x192 .bf16) (x19 : Vec F S64x192 .bf16) (x20 : Vec F S1x192 .f32) (x21 : Vec F S1x192 .f32) (x22 : Vec F S128x64 .bf16) (x23 : Vec F S1x64 .f32) (x24 : Vec F S64x64 .bf16) (x25 : Vec F S1x64 .f32) (x26 : Vec F S64x64 .bf16) (x27 : Vec F S1x64 .f32) (x28 : Vec F S64x64 .bf16) (x29 : Vec F S1x64 .f32) : Vec F S1024x64 .f32 :=
  VO0_31.read (Elt F) (VO0_31.writes (Elt F) VO0_31.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24 x25 x26 x27 x28 x29).2.1)

/-! ## The result blocks -/

/-- The two result blocks that grid point `t` computes from its input blocks. -/
def outsAt0 (c : Dev nD) (t : Fin cfg0.N) : Vec F S1024x64 .f32 × Vec F S1024x64 .f32 :=
  (muBlock c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t), sigmaBlock c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t))

/-! ## The buffers before and after the body -/

/-- For every window: the array that the launch finds, and the buffer after the body of point `t`. An input's buffer holds its
    block still; a result's holds what `outsAt0` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => (outsAt0 m c t).1
    | ⟨31, _⟩ => (outsAt0 m c t).2
    | ⟨_ + 32, h⟩ => absurd h (Nat.not_lt.2 (Nat.le_add_left _ _))
  Φ _ := Pipeline.ΦA spec0 c
  q _ := fullShare
  owed _ := 0

/-- The arrays are those that the launch finds. -/
theorem A_eq (c : Dev nD) (w : Fin cfg0.W) : (dats m 0 c).A w = V m c (Pipeline.arrRef spec0 w) := by
  dsimp only [dats]

/-- The buffers after the body: the inputs' hold their blocks, the results' the two result blocks. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = (outsAt0 m c t).1 := by dsimp only [dats]
theorem after0_31 (c : Dev nD) (t : Fin cfg0.N) : (dats m 0 c).after 31 t = (outsAt0 m c t).2 := by dsimp only [dats]

/-- Before the body an input's buffer holds its block, whether it was just copied in or kept from the point before. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d

/-! ## The body at a grid point -/

/-- What holds when the body of point `t` begins: all thirty-two buffers are its own. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d)))

/-- What holds when it ends. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t))

set_option maxHeartbeats 3200000 in
/-- The body of any point leads from `bodyPre` to `bodyPost`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31]
  unfold outsAt0
  unfold muBlock sigmaBlock; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  iapply ((bodyRun c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexists _; iexact H30
  isplitl [H31]; · iexists _; iexact H31
  iintro ⟨H0, H1, H2, H3, H4, H5, H6, H7, H8, H9, H10, H11, H12, H13, H14, H15, H16, H17, H18, H19, H20, H21, H22, H23, H24, H25, H26, H27, H28, H29, ⟨%e30, H30⟩, ⟨%e31, H31⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]
  · unfold owns; iexists _; isplitr
    swap; · iexact H30
    ipureintro; exact View.read_writes_of_cover _ _ _ _ _ (mu_covers c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H31
  ipureintro; exact View.read_writes_of_cover _ _ _ _ _ (sigma_covers c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The procedure that the launch calls at point `t` is the body on that point's buffers. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- So the body does what the launch asks of it, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The whole program -/

set_option backward.isDefEq.respectTransparency.types false in
/-- The whole program ends with its arrays as the sixteen points left them and with every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- Every argument ends as it began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  frame_of m ρ (dats m) (A_eq m) (run_main m ρ)

/-- The frame: every argument ends as it began and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30))
      ∧ r.2.sem = fun _ => 0) :=
  θ_run_and (unchanged m ρ) ((θ_run defs _ _).mono (fun _ h => h.2) (run_main_quiescent m ρ))

end Cert.KernelIdeal.Body

end
-- ==== Proof.Row.lean ====
module

public import Idealize.ShloMosaic.Lib.Pointwise

/-!
# One row of the network, as scalar mathematics

Everything the two programs compute is computed row by row of the batch. This module names the pieces for one row over
the extended reals: a linear layer, a gated recurrent step, a masked chain of such steps. Nothing here mentions a tile,
a grid or a memory.
-/

@[expose] public section

noncomputable section

namespace Cert.Row

open Idealize.ShloMosaic

/-- A linear layer: `x W + b`, the weights indexed `(in, out)`. -/
def lin {K N : ℕ} (W : Fin K → Fin N → EReal) (b : Fin N → EReal) (x : Fin K → EReal) (n : Fin N) : EReal :=
  (∑ k, x k * W k n) + b n

/-- One entry of a gated recurrent step, from the three input gates, the three hidden gates and the old state. -/
def gate (ir iz ix hr hz hx h : EReal) : EReal :=
  (1 - Ideal.logistic (iz + hz)) * Ideal.tanh (ix + Ideal.logistic (ir + hr) * hx) + Ideal.logistic (iz + hz) * h

/-- The `r` gates lie first among the `3 G` columns. -/
def colR {G H : ℕ} (hH : H = 3 * G) (j : Fin G) : Fin H := ⟨j, by omega⟩
/-- The `z` gates lie second. -/
def colZ {G H : ℕ} (hH : H = 3 * G) (j : Fin G) : Fin H := ⟨G + j, by omega⟩
/-- The candidate's columns lie last. -/
def colN {G H : ℕ} (hH : H = 3 * G) (j : Fin G) : Fin H := ⟨2 * G + j, by omega⟩

/-- A gated recurrent step: `gi` holds the input gates, `W`, `b` the hidden layer, `h` the state. -/
def gru {G H : ℕ} (hH : H = 3 * G) (W : Fin G → Fin H → EReal) (b : Fin H → EReal) (gi : Fin H → EReal)
    (h : Fin G → EReal) (j : Fin G) : EReal :=
  gate (gi (colR hH j)) (gi (colZ hH j)) (gi (colN hH j))
    (lin W b h (colR hH j)) (lin W b h (colZ hH j)) (lin W b h (colN hH j)) (h j)

/-- The state after `n` steps from zero, step `t` reading the input gates `gi t`. -/
def hist {G H : ℕ} (hH : H = 3 * G) (W : Fin G → Fin H → EReal) (b : Fin H → EReal) (gi : ℕ → Fin H → EReal) :
    ℕ → Fin G → EReal
  | 0 => fun _ => 0
  | n + 1 => gru hH W b (gi n) (hist hH W b gi n)

/-- The state after `n` steps from zero, a step `t` taken only where `on t` holds. -/
def masked {G H : ℕ} (hH : H = 3 * G) (W : Fin G → Fin H → EReal) (b : Fin H → EReal) (on : ℕ → Bool)
    (gi : ℕ → Fin H → EReal) : ℕ → Fin G → EReal
  | 0 => fun _ => 0
  | n + 1 => bif on n then gru hH W b (gi n) (masked hH W b on gi n) else masked hH W b on gi n

/-- The largest entry of a row (from minus infinity on). -/
def rowMax {n : ℕ} (x : Fin n → EReal) : EReal :=
  Finset.fold max (Ideal.ofBits .f32 0xFF800000#32) x Finset.univ

/-- The softmax of a row. -/
def softmax {n : ℕ} (x : Fin n → EReal) (k : Fin n) : EReal :=
  Ideal.div (Ideal.exp (x k - rowMax x)) (∑ l, Ideal.exp (x l - rowMax x))

/-- The entropy of a row's softmax. -/
def entropy {n : ℕ} (x : Fin n → EReal) : EReal :=
  0 - ∑ k, softmax x k * Ideal.log (softmax x k + Ideal.ofBits .f32 0x322BCC77#32)

/-- The Euclidean distance of two rows. -/
def dist {n : ℕ} (x y : Fin n → EReal) : EReal := Ideal.sqrt (∑ k, (x k - y k) * (x k - y k))

/-- The mean distance of three consecutive steps. -/
def rate {n : ℕ} (x y z u : Fin n → EReal) : EReal :=
  Ideal.div (dist x y + dist y z + dist z u) (Ideal.ofBits .f32 0x40400000#32)

/-- A row of 64 entries less its mean. -/
def centred (x : Fin 64 → EReal) (k : Fin 64) : EReal := x k - Ideal.div (∑ l, x l) (Ideal.ofBits .f32 0x42800000#32)

/-- The correlation of two rows of 64 entries. -/
def corr (x y : Fin 64 → EReal) : EReal :=
  Ideal.div (∑ k, centred x k * centred y k)
    (Ideal.sqrt (∑ k, centred x k * centred x k) * Ideal.sqrt (∑ k, centred y k * centred y k)
      + Ideal.ofBits .f32 0x322BCC77#32)

/-- An action padded with zeros to the width of an observation. -/
def padded (a : Fin 16 → EReal) (k : Fin 64) : EReal := if h : k.val < 16 then a ⟨k, h⟩ else 0

/-- The three statistics and the history state, side by side. -/
def feats (e r c : EReal) (h : Fin 32 → EReal) (k : Fin 35) : EReal :=
  if h0 : k.val < 1 then e
  else if h1 : k.val - 1 < 1 then r
  else if h2 : k.val - 1 - 1 < 1 then c
  else h ⟨k.val - 1 - 1 - 1, by omega⟩

/-- The mean of 35 entries. -/
def mean35 (f : Fin 35 → EReal) : EReal := Ideal.div (∑ k, f k) (Ideal.ofBits .f32 0x420C0000#32)

/-- Layer normalisation of 35 entries. -/
def norm (g b f : Fin 35 → EReal) (k : Fin 35) : EReal :=
  Ideal.div (f k - mean35 f)
    (Ideal.sqrt (mean35 (fun l => (f l - mean35 f) * (f l - mean35 f)) + Ideal.ofBits .f32 0x3727C5AC#32)) * g k + b k

/-- A layer followed by the positive part. -/
def relu {K N : ℕ} (W : Fin K → Fin N → EReal) (b : Fin N → EReal) (x : Fin K → EReal) (n : Fin N) : EReal :=
  max (lin W b x n) 0

/-- The largest of the first `n + 1` entries and where it is met first. -/
def best (l : Fin 14 → EReal) : ℕ → EReal × ℕ
  | 0 => (l 0, 0)
  | n + 1 => if (best l n).1 < l (Fin.ofNat 14 (n + 1)) then (l (Fin.ofNat 14 (n + 1)), n + 1) else best l n

/-- The first index of the largest of 14 entries. -/
def pick (l : Fin 14 → EReal) : ℕ := (best l 13).2

/-- An observation and an action side by side. -/
def cat (o : Fin 64 → EReal) (a : Fin 16 → EReal) (k : Fin 80) : EReal :=
  if h : k.val < 64 then o ⟨k, h⟩ else a ⟨k.val - 64, by omega⟩

/-- Two states side by side. -/
def cat2 (f b : Fin 64 → EReal) (k : Fin 128) : EReal :=
  if h : k.val < 64 then f ⟨k, h⟩ else b ⟨k.val - 64, by omega⟩

/-- All the weights, matrices indexed `(in, out)`. -/
structure Net where
  dWi : Fin 80 → Fin 96 → EReal
  dWh : Fin 32 → Fin 96 → EReal
  dbi : Fin 96 → EReal
  dbh : Fin 96 → EReal
  lg : Fin 35 → EReal
  lb : Fin 35 → EReal
  m1 : Fin 35 → Fin 64 → EReal
  b1 : Fin 64 → EReal
  m2 : Fin 64 → Fin 32 → EReal
  b2 : Fin 32 → EReal
  m3 : Fin 32 → Fin 14 → EReal
  b3 : Fin 14 → EReal
  fWi : Fin 80 → Fin 192 → EReal
  fWh : Fin 64 → Fin 192 → EReal
  fbi : Fin 192 → EReal
  fbh : Fin 192 → EReal
  kWi : Fin 80 → Fin 192 → EReal
  kWh : Fin 64 → Fin 192 → EReal
  kbi : Fin 192 → EReal
  kbh : Fin 192 → EReal
  e1 : Fin 128 → Fin 64 → EReal
  c1 : Fin 64 → EReal
  e2 : Fin 64 → Fin 64 → EReal
  c2 : Fin 64 → EReal
  mW : Fin 64 → Fin 64 → EReal
  mb : Fin 64 → EReal
  vW : Fin 64 → Fin 64 → EReal
  vb : Fin 64 → EReal

/-- A row's inputs: 22 observations and 22 actions. -/
structure Seq where
  o : Fin 22 → Fin 64 → EReal
  a : Fin 22 → Fin 16 → EReal

/-- The joint input of time step `t`. -/
def Seq.x (q : Seq) (t : ℕ) : Fin 80 → EReal := cat (q.o (Fin.ofNat 22 t)) (q.a (Fin.ofNat 22 t))

variable (p : Net) (q : Seq)

/-- The history network's state after `n` steps. -/
def history (n : ℕ) : Fin 32 → EReal := hist (H := 96) rfl p.dWh p.dbh (fun t => lin p.dWi p.dbi (q.x t)) n

/-- The 35 features. -/
def features : Fin 35 → EReal :=
  feats (entropy (q.o 14)) (rate (q.o 14) (q.o 13) (q.o 12) (q.o 11)) (corr (q.o 14) (padded (q.a 13))) (history p q 15)

/-- The second hidden layer of the window perceptron. -/
def hidden : Fin 32 → EReal := relu p.m2 p.b2 (relu p.m1 p.b1 (norm p.lg p.lb (features p q)))

/-- The window's logits. -/
def logits : Fin 14 → EReal := lin p.m3 p.b3 (hidden p q)

/-- The window's size index. -/
def window : ℕ := pick (logits p q)

/-- The forward encoder, right-aligned: step `i` reads time `7 + i` and counts when it lies in the window. -/
def forward (n : ℕ) : Fin 64 → EReal :=
  masked (H := 192) rfl p.fWh p.fbh (fun i => decide (7 - i ≤ (window p q + 1) / 2))
    (fun i => lin p.fWi p.fbi (q.x (7 + i))) n

/-- The backward encoder, right-aligned: step `i` reads time `21 - i` and counts when it lies in the window. -/
def backward (n : ℕ) : Fin 64 → EReal :=
  masked (H := 192) rfl p.kWh p.kbh (fun i => decide (7 - i ≤ (window p q + 2) / 2))
    (fun i => lin p.kWi p.kbi (q.x (21 - i))) n

/-- The encoding of the two end states. -/
def encode (f b : Fin 64 → EReal) : Fin 64 → EReal := lin p.e2 p.c2 (relu p.e1 p.c1 (cat2 f b))

/-- The first result's row. -/
def mu : Fin 64 → EReal := lin p.mW p.mb (encode p (forward p q 8) (backward p q 8))

/-- The second result's row. -/
def sigma (n : Fin 64) : EReal :=
  Ideal.exp (Ideal.ofBits .f32 0x3F000000#32 * lin p.vW p.vb (encode p (forward p q 8) (backward p q 8)) n)

end Cert.Row

end
-- ==== Proof.KernelChain.lean ====
module

public import proofs.«01_k».proof.Proof.Gen.KernelIdeal.Skeleton
public import Idealize.ShloMosaic.Lib.Pipeline.Value
public import proofs.«01_k».proof.Proof.Row

/-!
# What the body computes from its thirty input blocks

One grid point reads a block of 1024 rows of the observations and of the actions and the twenty-eight weight arrays, and
stores two blocks. `Blk` bundles what is read; the definitions below name, as functions of it, the values that the body
passes from one of its printed parts to the next, up to the two stored blocks `mu` and `sigma`.
-/

@[expose] public section

set_option maxRecDepth 16384

noncomputable section

namespace Cert.KernelIdeal.Body

open Idealize.ShloMosaic Idealize.SL.Sem Cert.KernelIdeal Cert.KernelIdeal.Gen

variable {F : FTy → Type} [FloatOps F]

/-- What the body reads at one grid point. -/
structure Blk (F : FTy → Type) where
  /-- the observations -/
  x0 : Vec F S1024x1408 .f32
  /-- the actions -/
  x1 : Vec F S1024x352 .f32
  /-- history: input weights -/
  x2 : Vec F S80x96 .bf16
  /-- history: hidden weights -/
  x3 : Vec F S32x96 .bf16
  /-- history: input biases -/
  x4 : Vec F S1x96 .f32
  /-- history: hidden biases -/
  x5 : Vec F S1x96 .f32
  /-- norm: scales -/
  x6 : Vec F S1x35 .f32
  /-- norm: shifts -/
  x7 : Vec F S1x35 .f32
  /-- perceptron: first weights -/
  x8 : Vec F S35x64 .bf16
  /-- perceptron: first biases -/
  x9 : Vec F S1x64 .f32
  /-- perceptron: second weights -/
  x10 : Vec F S64x32 .bf16
  /-- perceptron: second biases -/
  x11 : Vec F S1x32 .f32
  /-- perceptron: third weights -/
  x12 : Vec F S32x14 .bf16
  /-- perceptron: third biases -/
  x13 : Vec F S1x14 .f32
  /-- forward: input weights -/
  x14 : Vec F S80x192 .bf16
  /-- forward: hidden weights -/
  x15 : Vec F S64x192 .bf16
  /-- forward: input biases -/
  x16 : Vec F S1x192 .f32
  /-- forward: hidden biases -/
  x17 : Vec F S1x192 .f32
  /-- backward: input weights -/
  x18 : Vec F S80x192 .bf16
  /-- backward: hidden weights -/
  x19 : Vec F S64x192 .bf16
  /-- backward: input biases -/
  x20 : Vec F S1x192 .f32
  /-- backward: hidden biases -/
  x21 : Vec F S1x192 .f32
  /-- encoder: first weights -/
  x22 : Vec F S128x64 .bf16
  /-- encoder: first biases -/
  x23 : Vec F S1x64 .f32
  /-- encoder: second weights -/
  x24 : Vec F S64x64 .bf16
  /-- encoder: second biases -/
  x25 : Vec F S1x64 .f32
  /-- mean: weights -/
  x26 : Vec F S64x64 .bf16
  /-- mean: biases -/
  x27 : Vec F S1x64 .f32
  /-- log-variance: weights -/
  x28 : Vec F S64x64 .bf16
  /-- log-variance: biases -/
  x29 : Vec F S1x64 .f32

namespace Blk

/-- The 64 columns of the observations from column `o` on: one time step. -/
def obs (w : Blk F) {o : ℕ} (h : ∀ a, (![0, o] : Fin 2 → Nat) a + S1024x64.size a ≤ S1024x1408.size a) :
    Vec F S1024x64 .f32 :=
  View.ld w.x0 (Rect.unit ![0, o] S1024x64.size h)

/-- The 16 columns of the actions from column `o` on: one time step. -/
def act (w : Blk F) {o : ℕ} (h : ∀ a, (![0, o] : Fin 2 → Nat) a + S1024x16.size a ≤ S1024x352.size a) :
    Vec F S1024x16 .f32 :=
  View.ld w.x1 (Rect.unit ![0, o] S1024x16.size h)

/-- The action of time step 13, read as the second half of the steps 12 and 13. -/
def prevAction (w : Blk F) : Vec F S1024x16 .f32 := fun y =>
  w.x1 (((Rect.unit (s := S1024x352) ![0, 192] S1024x32.size inb_S1024x352_S1024x32_0_192).withinL
    (Rect.unit (s := (Rect.unit (s := S1024x352) ![0, 192] S1024x32.size inb_S1024x352_S1024x32_0_192).shape) ![0, 16] S1024x16.size
      inb_S1024x32_S1024x16_0_16).toLoadRect (by decide)).idx y)

/-- The body's value `cst_10`. -/
def cst_10 (w : Blk F) : F .f32 :=
  Scalar.ofBits .f32 1077936128#32

/-- The body's value `cst_108`. -/
def cst_108 (w : Blk F) : F .f32 :=
  Scalar.ofBits .f32 1065353216#32

/-- The body's value `cst_219`. -/
def cst_219 (w : Blk F) : FVec F S1024x192 .f32 :=
  constant S1024x192 .f32 0#32

/-- The body's value `v1`. -/
def v1 (w : Blk F) : FVec F S1024x64 .f32 :=
  k0_pay1 (w.obs inb_S1024x1408_S1024x64_0_896)

/-- The body's value `v24`. -/
def v24 (w : Blk F) : FVec F S1024x1 .f32 :=
  k0_pay2 (w.obs inb_S1024x1408_S1024x64_0_896)

/-- The body's value `v41`. -/
def v41 (w : Blk F) : FVec F S1024x1 .f32 :=
  k0_pay3 (w.obs inb_S1024x1408_S1024x64_0_896) (w.obs inb_S1024x1408_S1024x64_0_832) (w.obs inb_S1024x1408_S1024x64_0_768) (w.obs inb_S1024x1408_S1024x64_0_704)

/-- The body's value `v43`. -/
def v43 (w : Blk F) : FVec F S1024x1 .f32 :=
  k0_pay4 w.v41 w.cst_10

/-- The body's value `v75`. -/
def v75 (w : Blk F) : FVec F S1024x1 .f32 :=
  k0_pay5 w.v1 w.prevAction

/-- The body's value `v80`. -/
def v80 (w : Blk F) : FVec F S1024x80 .f32 :=
  k0_pay6 (w.obs inb_S1024x1408_S1024x64_0_0) (w.act inb_S1024x352_S1024x16_0_0)

/-- The body's value `v82`. -/
def v82 (w : Blk F) : FVec F S1024x64 .f32 :=
  k0_pay7 (w.obs inb_S1024x1408_S1024x64_0_64)

/-- The body's value `v84`. -/
def v84 (w : Blk F) : FVec F S1024x16 .f32 :=
  shapeCast S1024x16 (w.act inb_S1024x352_S1024x16_0_16) shapeCasts_S1024x16_S1024x16

/-- The body's value `v85`. -/
def v85 (w : Blk F) : FVec F S1024x80 .f32 :=
  concatenate S1024x80 1 [⟨S1024x64, w.v82⟩, ⟨S1024x16, w.v84⟩] concatenates_S1024x64_S1024x16_S1024x80_d1

/-- The body's value `v87`. -/
def v87 (w : Blk F) : FVec F S1024x64 .f32 :=
  shapeCast S1024x64 (w.obs inb_S1024x1408_S1024x64_0_128) shapeCasts_S1024x64_S1024x64

/-- The body's value `v89`. -/
def v89 (w : Blk F) : FVec F S1024x16 .f32 :=
  shapeCast S1024x16 (w.act inb_S1024x352_S1024x16_0_32) shapeCasts_S1024x16_S1024x16

/-- The body's value `v90`. -/
def v90 (w : Blk F) : FVec F S1024x80 .f32 :=
  concatenate S1024x80 1 [⟨S1024x64, w.v87⟩, ⟨S1024x16, w.v89⟩] concatenates_S1024x64_S1024x16_S1024x80_d1

/-- The body's value `v92`. -/
def v92 (w : Blk F) : FVec F S1024x64 .f32 :=
  shapeCast S1024x64 (w.obs inb_S1024x1408_S1024x64_0_192) shapeCasts_S1024x64_S1024x64

/-- The body's value `v94`. -/
def v94 (w : Blk F) : FVec F S1024x16 .f32 :=
  shapeCast S1024x16 (w.act inb_S1024x352_S1024x16_0_48) shapeCasts_S1024x16_S1024x16

/-- The body's value `v95`. -/
def v95 (w : Blk F) : FVec F S1024x80 .f32 :=
  concatenate S1024x80 1 [⟨S1024x64, w.v92⟩, ⟨S1024x16, w.v94⟩] concatenates_S1024x64_S1024x16_S1024x80_d1

/-- The body's value `v97`. -/
def v97 (w : Blk F) : FVec F S1024x64 .f32 :=
  shapeCast S1024x64 (w.obs inb_S1024x1408_S1024x64_0_256) shapeCasts_S1024x64_S1024x64

/-- The body's value `v99`. -/
def v99 (w : Blk F) : FVec F S1024x16 .f32 :=
  shapeCast S1024x16 (w.act inb_S1024x352_S1024x16_0_64) shapeCasts_S1024x16_S1024x16

/-- The body's value `v100`. -/
def v100 (w : Blk F) : FVec F S1024x80 .f32 :=
  concatenate S1024x80 1 [⟨S1024x64, w.v97⟩, ⟨S1024x16, w.v99⟩] concatenates_S1024x64_S1024x16_S1024x80_d1

/-- The body's value `v102`. -/
def v102 (w : Blk F) : FVec F S1024x64 .f32 :=
  shapeCast S1024x64 (w.obs inb_S1024x1408_S1024x64_0_320) shapeCasts_S1024x64_S1024x64

/-- The body's value `v104`. -/
def v104 (w : Blk F) : FVec F S1024x16 .f32 :=
  shapeCast S1024x16 (w.act inb_S1024x352_S1024x16_0_80) shapeCasts_S1024x16_S1024x16

/-- The body's value `v105`. -/
def v105 (w : Blk F) : FVec F S1024x80 .f32 :=
  concatenate S1024x80 1 [⟨S1024x64, w.v102⟩, ⟨S1024x16, w.v104⟩] concatenates_S1024x64_S1024x16_S1024x80_d1

/-- The body's value `v107`. -/
def v107 (w : Blk F) : FVec F S1024x64 .f32 :=
  shapeCast S1024x64 (w.obs inb_S1024x1408_S1024x64_0_384) shapeCasts_S1024x64_S1024x64

/-- The body's value `v109`. -/
def v109 (w : Blk F) : FVec F S1024x16 .f32 :=
  shapeCast S1024x16 (w.act inb_S1024x352_S1024x16_0_96) shapeCasts_S1024x16_S1024x16

/-- The body's value `v110`. -/
def v110 (w : Blk F) : FVec F S1024x80 .f32 :=
  concatenate S1024x80 1 [⟨S1024x64, w.v107⟩, ⟨S1024x16, w.v109⟩] concatenates_S1024x64_S1024x16_S1024x80_d1

/-- The body's value `v112`. -/
def v112 (w : Blk F) : FVec F S1024x64 .f32 :=
  shapeCast S1024x64 (w.obs inb_S1024x1408_S1024x64_0_448) shapeCasts_S1024x64_S1024x64

/-- The body's value `v114`. -/
def v114 (w : Blk F) : FVec F S1024x16 .f32 :=
  shapeCast S1024x16 (w.act inb_S1024x352_S1024x16_0_112) shapeCasts_S1024x16_S1024x16

/-- The body's value `v115`. -/
def v115 (w : Blk F) : FVec F S1024x80 .f32 :=
  concatenate S1024x80 1 [⟨S1024x64, w.v112⟩, ⟨S1024x16, w.v114⟩] concatenates_S1024x64_S1024x16_S1024x80_d1

/-- The body's value `v117`. -/
def v117 (w : Blk F) : FVec F S1024x64 .f32 :=
  shapeCast S1024x64 (w.obs inb_S1024x1408_S1024x64_0_512) shapeCasts_S1024x64_S1024x64

/-- The body's value `v119`. -/
def v119 (w : Blk F) : FVec F S1024x16 .f32 :=
  shapeCast S1024x16 (w.act inb_S1024x352_S1024x16_0_128) shapeCasts_S1024x16_S1024x16

/-- The body's value `v120`. -/
def v120 (w : Blk F) : FVec F S1024x80 .f32 :=
  concatenate S1024x80 1 [⟨S1024x64, w.v117⟩, ⟨S1024x16, w.v119⟩] concatenates_S1024x64_S1024x16_S1024x80_d1

/-- The body's value `v122`. -/
def v122 (w : Blk F) : FVec F S1024x64 .f32 :=
  shapeCast S1024x64 (w.obs inb_S1024x1408_S1024x64_0_576) shapeCasts_S1024x64_S1024x64

/-- The body's value `v124`. -/
def v124 (w : Blk F) : FVec F S1024x16 .f32 :=
  shapeCast S1024x16 (w.act inb_S1024x352_S1024x16_0_144) shapeCasts_S1024x16_S1024x16

/-- The body's value `v125`. -/
def v125 (w : Blk F) : FVec F S1024x80 .f32 :=
  concatenate S1024x80 1 [⟨S1024x64, w.v122⟩, ⟨S1024x16, w.v124⟩] concatenates_S1024x64_S1024x16_S1024x80_d1

/-- The body's value `v127`. -/
def v127 (w : Blk F) : FVec F S1024x64 .f32 :=
  shapeCast S1024x64 (w.obs inb_S1024x1408_S1024x64_0_640) shapeCasts_S1024x64_S1024x64

/-- The body's value `v129`. -/
def v129 (w : Blk F) : FVec F S1024x16 .f32 :=
  shapeCast S1024x16 (w.act inb_S1024x352_S1024x16_0_160) shapeCasts_S1024x16_S1024x16

/-- The body's value `v130`. -/
def v130 (w : Blk F) : FVec F S1024x80 .f32 :=
  concatenate S1024x80 1 [⟨S1024x64, w.v127⟩, ⟨S1024x16, w.v129⟩] concatenates_S1024x64_S1024x16_S1024x80_d1

/-- The body's value `v132`. -/
def v132 (w : Blk F) : FVec F S1024x64 .f32 :=
  shapeCast S1024x64 (w.obs inb_S1024x1408_S1024x64_0_704) shapeCasts_S1024x64_S1024x64

/-- The body's value `v134`. -/
def v134 (w : Blk F) : FVec F S1024x16 .f32 :=
  shapeCast S1024x16 (w.act inb_S1024x352_S1024x16_0_176) shapeCasts_S1024x16_S1024x16

/-- The body's value `v135`. -/
def v135 (w : Blk F) : FVec F S1024x80 .f32 :=
  concatenate S1024x80 1 [⟨S1024x64, w.v132⟩, ⟨S1024x16, w.v134⟩] concatenates_S1024x64_S1024x16_S1024x80_d1

/-- The body's value `v137`. -/
def v137 (w : Blk F) : FVec F S1024x64 .f32 :=
  shapeCast S1024x64 (w.obs inb_S1024x1408_S1024x64_0_768) shapeCasts_S1024x64_S1024x64

/-- The body's value `v139`. -/
def v139 (w : Blk F) : FVec F S1024x16 .f32 :=
  shapeCast S1024x16 (w.act inb_S1024x352_S1024x16_0_192) shapeCasts_S1024x16_S1024x16

/-- The body's value `v140`. -/
def v140 (w : Blk F) : FVec F S1024x80 .f32 :=
  concatenate S1024x80 1 [⟨S1024x64, w.v137⟩, ⟨S1024x16, w.v139⟩] concatenates_S1024x64_S1024x16_S1024x80_d1

/-- The body's value `v142`. -/
def v142 (w : Blk F) : FVec F S1024x64 .f32 :=
  shapeCast S1024x64 (w.obs inb_S1024x1408_S1024x64_0_832) shapeCasts_S1024x64_S1024x64

/-- The body's value `v144`. -/
def v144 (w : Blk F) : FVec F S1024x16 .f32 :=
  shapeCast S1024x16 (w.act inb_S1024x352_S1024x16_0_208) shapeCasts_S1024x16_S1024x16

/-- The body's value `v145`. -/
def v145 (w : Blk F) : FVec F S1024x80 .f32 :=
  concatenate S1024x80 1 [⟨S1024x64, w.v142⟩, ⟨S1024x16, w.v144⟩] concatenates_S1024x64_S1024x16_S1024x80_d1

/-- The body's value `v147`. -/
def v147 (w : Blk F) : FVec F S1024x64 .f32 :=
  shapeCast S1024x64 (w.obs inb_S1024x1408_S1024x64_0_896) shapeCasts_S1024x64_S1024x64

/-- The body's value `v148`. -/
def v148 (w : Blk F) : Vec F S1024x16 .f32 :=
  (w.act inb_S1024x352_S1024x16_0_224)

/-- The body's value `v149`. -/
def v149 (w : Blk F) : FVec F S1024x16 .f32 :=
  shapeCast S1024x16 w.v148 shapeCasts_S1024x16_S1024x16

/-- The body's value `v150`. -/
def v150 (w : Blk F) : FVec F S1024x80 .f32 :=
  concatenate S1024x80 1 [⟨S1024x64, w.v147⟩, ⟨S1024x16, w.v149⟩] concatenates_S1024x64_S1024x16_S1024x80_d1

/-- The body's value `v152`. -/
def v152 (w : Blk F) : FVec F S1024x64 .f32 :=
  shapeCast S1024x64 (w.obs inb_S1024x1408_S1024x64_0_960) shapeCasts_S1024x64_S1024x64

/-- The body's value `v154`. -/
def v154 (w : Blk F) : FVec F S1024x16 .f32 :=
  shapeCast S1024x16 (w.act inb_S1024x352_S1024x16_0_240) shapeCasts_S1024x16_S1024x16

/-- The body's value `v155`. -/
def v155 (w : Blk F) : FVec F S1024x80 .f32 :=
  concatenate S1024x80 1 [⟨S1024x64, w.v152⟩, ⟨S1024x16, w.v154⟩] concatenates_S1024x64_S1024x16_S1024x80_d1

/-- The body's value `v157`. -/
def v157 (w : Blk F) : FVec F S1024x64 .f32 :=
  shapeCast S1024x64 (w.obs inb_S1024x1408_S1024x64_0_1024) shapeCasts_S1024x64_S1024x64

/-- The body's value `v159`. -/
def v159 (w : Blk F) : FVec F S1024x16 .f32 :=
  shapeCast S1024x16 (w.act inb_S1024x352_S1024x16_0_256) shapeCasts_S1024x16_S1024x16

/-- The body's value `v160`. -/
def v160 (w : Blk F) : FVec F S1024x80 .f32 :=
  concatenate S1024x80 1 [⟨S1024x64, w.v157⟩, ⟨S1024x16, w.v159⟩] concatenates_S1024x64_S1024x16_S1024x80_d1

/-- The body's value `v162`. -/
def v162 (w : Blk F) : FVec F S1024x64 .f32 :=
  shapeCast S1024x64 (w.obs inb_S1024x1408_S1024x64_0_1088) shapeCasts_S1024x64_S1024x64

/-- The body's value `v164`. -/
def v164 (w : Blk F) : FVec F S1024x16 .f32 :=
  shapeCast S1024x16 (w.act inb_S1024x352_S1024x16_0_272) shapeCasts_S1024x16_S1024x16

/-- The body's value `v165`. -/
def v165 (w : Blk F) : FVec F S1024x80 .f32 :=
  concatenate S1024x80 1 [⟨S1024x64, w.v162⟩, ⟨S1024x16, w.v164⟩] concatenates_S1024x64_S1024x16_S1024x80_d1

/-- The body's value `v167`. -/
def v167 (w : Blk F) : FVec F S1024x64 .f32 :=
  shapeCast S1024x64 (w.obs inb_S1024x1408_S1024x64_0_1152) shapeCasts_S1024x64_S1024x64

/-- The body's value `v169`. -/
def v169 (w : Blk F) : FVec F S1024x16 .f32 :=
  shapeCast S1024x16 (w.act inb_S1024x352_S1024x16_0_288) shapeCasts_S1024x16_S1024x16

/-- The body's value `v170`. -/
def v170 (w : Blk F) : FVec F S1024x80 .f32 :=
  concatenate S1024x80 1 [⟨S1024x64, w.v167⟩, ⟨S1024x16, w.v169⟩] concatenates_S1024x64_S1024x16_S1024x80_d1

/-- The body's value `v172`. -/
def v172 (w : Blk F) : FVec F S1024x64 .f32 :=
  shapeCast S1024x64 (w.obs inb_S1024x1408_S1024x64_0_1216) shapeCasts_S1024x64_S1024x64

/-- The body's value `v174`. -/
def v174 (w : Blk F) : FVec F S1024x16 .f32 :=
  shapeCast S1024x16 (w.act inb_S1024x352_S1024x16_0_304) shapeCasts_S1024x16_S1024x16

/-- The body's value `v175`. -/
def v175 (w : Blk F) : FVec F S1024x80 .f32 :=
  concatenate S1024x80 1 [⟨S1024x64, w.v172⟩, ⟨S1024x16, w.v174⟩] concatenates_S1024x64_S1024x16_S1024x80_d1

/-- The body's value `v177`. -/
def v177 (w : Blk F) : FVec F S1024x64 .f32 :=
  shapeCast S1024x64 (w.obs inb_S1024x1408_S1024x64_0_1280) shapeCasts_S1024x64_S1024x64

/-- The body's value `v179`. -/
def v179 (w : Blk F) : FVec F S1024x16 .f32 :=
  shapeCast S1024x16 (w.act inb_S1024x352_S1024x16_0_320) shapeCasts_S1024x16_S1024x16

/-- The body's value `v180`. -/
def v180 (w : Blk F) : FVec F S1024x80 .f32 :=
  concatenate S1024x80 1 [⟨S1024x64, w.v177⟩, ⟨S1024x16, w.v179⟩] concatenates_S1024x64_S1024x16_S1024x80_d1

/-- The body's value `v182`. -/
def v182 (w : Blk F) : FVec F S1024x64 .f32 :=
  shapeCast S1024x64 (w.obs inb_S1024x1408_S1024x64_0_1344) shapeCasts_S1024x64_S1024x64

/-- The body's value `v187`. -/
def v187 (w : Blk F) : FVec F S22528x80 .bf16 :=
  k0_pay30 w.v80 w.v85 w.v90 w.v95 w.v100 w.v105 w.v110 w.v115 w.v120 w.v125 w.v130 w.v135 w.v140 w.v145 w.v150 w.v155 w.v160 w.v165 w.v170 w.v175 w.v180 w.v182 (w.act inb_S1024x352_S1024x16_0_336)

/-- The body's value `v195`. -/
def v195 (w : Blk F) : FVec F S15360x96 .f32 :=
  k0_pay31 w.v80 w.v85 w.v90 w.v95 w.v100 w.v105 w.v110 w.v115 w.v120 w.v125 w.v130 w.v135 w.v140 w.v145 w.v150 w.v155 w.v160 w.v165 w.v170 w.v175 w.v180 w.v182 (w.act inb_S1024x352_S1024x16_0_336) (View.ld w.x2 (Rect.unit ![0, 0] S80x96.size inb_S80x96_S80x96_0_0)) (View.ld w.x4 (Rect.unit ![0, 0] S1x96.size inb_S1x96_S1x96_0_0))

/-- The body's value `v197`. -/
def v197 (w : Blk F) : FVec F S32x96 .bf16 :=
  k0_pay32 (View.ld w.x3 (Rect.unit ![0, 0] S32x96.size inb_S32x96_S32x96_0_0))

/-- The body's value `v199`. -/
def v199 (w : Blk F) : FVec F S1x96 .f32 :=
  k0_pay33 (View.ld w.x5 (Rect.unit ![0, 0] S1x96.size inb_S1x96_S1x96_0_0))

/-- The body's value `v223`. -/
def v223 (w : Blk F) : FVec F S1024x32 .f32 :=
  k0_pay34 w.v80 w.v85 w.v90 w.v95 w.v100 w.v105 w.v110 w.v115 w.v120 w.v125 w.v130 w.v135 w.v140 w.v145 w.v150 w.v155 w.v160 w.v165 w.v170 w.v175 w.v180 w.v182 (w.act inb_S1024x352_S1024x16_0_336) (View.ld w.x2 (Rect.unit ![0, 0] S80x96.size inb_S80x96_S80x96_0_0)) (View.ld w.x4 (Rect.unit ![0, 0] S1x96.size inb_S1x96_S1x96_0_0)) (View.ld w.x3 (Rect.unit ![0, 0] S32x96.size inb_S32x96_S32x96_0_0)) (View.ld w.x5 (Rect.unit ![0, 0] S1x96.size inb_S1x96_S1x96_0_0))

/-- The body's value `v224`. -/
def v224 (w : Blk F) : FVec F S1024x96 .f32 :=
  k0_pay35 w.v80 w.v85 w.v90 w.v95 w.v100 w.v105 w.v110 w.v115 w.v120 w.v125 w.v130 w.v135 w.v140 w.v145 w.v150 w.v155 w.v160 w.v165 w.v170 w.v175 w.v180 w.v182 (w.act inb_S1024x352_S1024x16_0_336) (View.ld w.x2 (Rect.unit ![0, 0] S80x96.size inb_S80x96_S80x96_0_0)) (View.ld w.x4 (Rect.unit ![0, 0] S1x96.size inb_S1x96_S1x96_0_0))

/-- The body's value `v226`. -/
def v226 (w : Blk F) : FVec F S1024x96 .f32 :=
  k0_pay36 w.v80 w.v85 w.v90 w.v95 w.v100 w.v105 w.v110 w.v115 w.v120 w.v125 w.v130 w.v135 w.v140 w.v145 w.v150 w.v155 w.v160 w.v165 w.v170 w.v175 w.v180 w.v182 (w.act inb_S1024x352_S1024x16_0_336) (View.ld w.x2 (Rect.unit ![0, 0] S80x96.size inb_S80x96_S80x96_0_0)) (View.ld w.x4 (Rect.unit ![0, 0] S1x96.size inb_S1x96_S1x96_0_0)) (View.ld w.x3 (Rect.unit ![0, 0] S32x96.size inb_S32x96_S32x96_0_0)) (View.ld w.x5 (Rect.unit ![0, 0] S1x96.size inb_S1x96_S1x96_0_0))

/-- The body's value `v227`. -/
def v227 (w : Blk F) : FVec F S1024x96 .f32 :=
  k0_pay37 (View.ld w.x5 (Rect.unit ![0, 0] S1x96.size inb_S1x96_S1x96_0_0))

/-- The body's value `v269`. -/
def v269 (w : Blk F) : FVec F S1024x32 .f32 :=
  k0_pay38 w.v195 w.v197 w.v199 w.v223 w.v224 w.v226 w.v227

/-- The body's value `v274`. -/
def v274 (w : Blk F) : FVec F S1024x96 .f32 :=
  k0_pay40 w.v195 w.v197 w.v199 w.v223 w.v224 w.v226 w.v227

/-- The body's value `v278`. -/
def v278 (w : Blk F) : FVec F S1024x32 .f32 :=
  k0_pay41 w.v195 w.v197 w.v199 w.v223 w.v224 w.v226 w.v227

/-- The body's value `v282`. -/
def v282 (w : Blk F) : FVec F S1024x32 .f32 :=
  k0_pay42 w.v195 w.v197 w.v199 w.v223 w.v224 w.v226 w.v227

/-- The body's value `v283`. -/
def v283 (w : Blk F) : FVec F S1024x32 .f32 :=
  k0_pay43 w.v195

/-- The body's value `v338`. -/
def v338 (w : Blk F) : FVec F S1024x32 .f32 :=
  k0_pay44 w.v195 w.v197 w.v199 w.v269 w.v274 w.v278 w.v282 w.v283

/-- The body's value `v384`. -/
def v384 (w : Blk F) : FVec F S1024x32 .f32 :=
  k0_pay45 w.v195 w.v197 w.v199 w.v338

/-- The body's value `v385`. -/
def v385 (w : Blk F) : FVec F S1024x96 .f32 :=
  k0_pay46 w.v195

/-- The body's value `v389`. -/
def v389 (w : Blk F) : FVec F S1024x96 .f32 :=
  k0_pay47 w.v195 w.v197 w.v199 w.v338

/-- The body's value `v393`. -/
def v393 (w : Blk F) : FVec F S1024x32 .f32 :=
  k0_pay48 w.v195 w.v197 w.v199 w.v338

/-- The body's value `v430`. -/
def v430 (w : Blk F) : FVec F S1024x32 .f32 :=
  k0_pay49 w.v195 w.v197 w.v199 w.v384 w.v385 w.v389 w.v393

/-- The body's value `v443`. -/
def v443 (w : Blk F) : FVec F S1024x32 .f32 :=
  k0_pay52 w.v195 w.v197 w.v199 w.v384 w.v385 w.v389 w.v393

/-- The body's value `v448`. -/
def v448 (w : Blk F) : FVec F S1024x32 .f32 :=
  k0_pay53 w.v195 w.v197 w.v199 w.v384 w.v385 w.v389 w.v393

/-- The body's value `v499`. -/
def v499 (w : Blk F) : FVec F S1024x32 .f32 :=
  k0_pay54 w.v195 w.v197 w.v199 w.v430 w.v443 w.v448 w.cst_108

/-- The body's value `v500`. -/
def v500 (w : Blk F) : FVec F S1024x96 .f32 :=
  k0_pay55 w.v195

/-- The body's value `v502`. -/
def v502 (w : Blk F) : FVec F S1024x96 .f32 :=
  k0_pay56 w.v195 w.v197 w.v199 w.v430 w.v443 w.v448 w.cst_108

/-- The body's value `v503`. -/
def v503 (w : Blk F) : FVec F S1024x96 .f32 :=
  k0_pay57 w.v199

/-- The body's value `v546`. -/
def v546 (w : Blk F) : FVec F S1024x35 .f32 :=
  k0_pay58 w.v24 w.v43 w.v75 w.v195 w.v197 w.v199 w.v499 w.v500 w.v502 w.v503

/-- The body's value `v550`. -/
def v550 (w : Blk F) : FVec F S1024x1 .f32 :=
  k0_pay59 w.v24 w.v43 w.v75 w.v195 w.v197 w.v199 w.v499 w.v500 w.v502 w.v503

/-- The body's value `v555`. -/
def v555 (w : Blk F) : FVec F S1024x1 .f32 :=
  k0_pay60 w.v24 w.v43 w.v75 w.v195 w.v197 w.v199 w.v499 w.v500 w.v502 w.v503

/-- The body's value `v596`. -/
def v596 (w : Blk F) : FVec F S1024x14 .f32 :=
  k0_pay62 w.v546 w.v550 w.v555 k0_pay61 (View.ld w.x6 (Rect.unit ![0, 0] S1x35.size inb_S1x35_S1x35_0_0)) (View.ld w.x7 (Rect.unit ![0, 0] S1x35.size inb_S1x35_S1x35_0_0)) (View.ld w.x8 (Rect.unit ![0, 0] S35x64.size inb_S35x64_S35x64_0_0)) (View.ld w.x9 (Rect.unit ![0, 0] S1x64.size inb_S1x64_S1x64_0_0)) (View.ld w.x10 (Rect.unit ![0, 0] S64x32.size inb_S64x32_S64x32_0_0)) (View.ld w.x11 (Rect.unit ![0, 0] S1x32.size inb_S1x32_S1x32_0_0)) (View.ld w.x12 (Rect.unit ![0, 0] S32x14.size inb_S32x14_S32x14_0_0))

/-- The body's value `v635`. -/
def v635 (w : Blk F) : IVec S1024x1 32 :=
  k0_pay64 w.v596 (View.ld w.x13 (Rect.unit ![0, 0] S1x14.size inb_S1x14_S1x14_0_0))

/-- The body's value `v637`. -/
def v637 (w : Blk F) : IVec S1024x1 32 :=
  k0_pay65 w.v596 (View.ld w.x13 (Rect.unit ![0, 0] S1x14.size inb_S1x14_S1x14_0_0))

/-- The body's value `v639`. -/
def v639 (w : Blk F) : IVec S1024x1 32 :=
  k0_pay66 w.v596 (View.ld w.x13 (Rect.unit ![0, 0] S1x14.size inb_S1x14_S1x14_0_0))

/-- The body's value `v661`. -/
def v661 (w : Blk F) : IVec S1024x1 32 :=
  k0_pay68 w.v637 (2#32) w.v639 k0_pay67

/-- The body's value `v669`. -/
def v669 (w : Blk F) : FVec F S8192x192 .f32 :=
  k0_pay69 w.v187 (View.ld w.x14 (Rect.unit ![0, 0] S80x192.size inb_S80x192_S80x192_0_0)) (View.ld w.x16 (Rect.unit ![0, 0] S1x192.size inb_S1x192_S1x192_0_0))

/-- The body's value `v677`. -/
def v677 (w : Blk F) : FVec F S8192x192 .f32 :=
  k0_pay70 w.v187 (View.ld w.x18 (Rect.unit ![0, 0] S80x192.size inb_S80x192_S80x192_0_0)) (View.ld w.x20 (Rect.unit ![0, 0] S1x192.size inb_S1x192_S1x192_0_0))

/-- The body's value `v679`. -/
def v679 (w : Blk F) : FVec F S64x192 .bf16 :=
  k0_pay71 (View.ld w.x15 (Rect.unit ![0, 0] S64x192.size inb_S64x192_S64x192_0_0))

/-- The body's value `v681`. -/
def v681 (w : Blk F) : FVec F S1x192 .f32 :=
  k0_pay72 (View.ld w.x17 (Rect.unit ![0, 0] S1x192.size inb_S1x192_S1x192_0_0))

/-- The body's value `v683`. -/
def v683 (w : Blk F) : FVec F S64x192 .bf16 :=
  k0_pay73 (View.ld w.x19 (Rect.unit ![0, 0] S64x192.size inb_S64x192_S64x192_0_0))

/-- The body's value `v685`. -/
def v685 (w : Blk F) : FVec F S1x192 .f32 :=
  k0_pay74 (View.ld w.x21 (Rect.unit ![0, 0] S1x192.size inb_S1x192_S1x192_0_0))

/-- The body's value `v715`. -/
def v715 (w : Blk F) : FVec F S1024x64 .f32 :=
  k0_pay76 w.v635 w.v669 w.v679 w.v681

/-- The body's value `v728`. -/
def v728 (w : Blk F) : FVec F S1024x64 .f32 :=
  k0_pay79 w.v677 (View.ld w.x19 (Rect.unit ![0, 0] S64x192.size inb_S64x192_S64x192_0_0)) (View.ld w.x21 (Rect.unit ![0, 0] S1x192.size inb_S1x192_S1x192_0_0))

/-- The body's value `v729`. -/
def v729 (w : Blk F) : FVec F S1024x64 .f32 :=
  k0_pay80 w.v677

/-- The body's value `v731`. -/
def v731 (w : Blk F) : FVec F S1024x64 .f32 :=
  k0_pay81 w.v677 (View.ld w.x19 (Rect.unit ![0, 0] S64x192.size inb_S64x192_S64x192_0_0)) (View.ld w.x21 (Rect.unit ![0, 0] S1x192.size inb_S1x192_S1x192_0_0))

/-- The body's value `v743`. -/
def v743 (w : Blk F) : FVec F S1024x64 .f32 :=
  k0_pay82 w.v661 k0_pay75 w.v728 w.v729 w.v731

/-- The body's value `v771`. -/
def v771 (w : Blk F) : FVec F S1024x64 .f32 :=
  k0_pay83 w.v635 w.v669 w.v679 w.v681 w.v715

/-- The body's value `v776`. -/
def v776 (w : Blk F) : FVec F S1024x192 .f32 :=
  k0_pay85 w.v661 w.v683 w.v685 k0_pay75 w.v728 w.v729 w.v731

/-- The body's value `v780`. -/
def v780 (w : Blk F) : FVec F S1024x64 .f32 :=
  k0_pay86 w.v661 w.v677 w.v683 w.v685 k0_pay75 w.v728 w.v729 w.v731

/-- The body's value `v784`. -/
def v784 (w : Blk F) : FVec F S1024x64 .f32 :=
  k0_pay87 w.v661 w.v677 w.v683 w.v685 k0_pay75 w.v728 w.v729 w.v731

/-- The body's value `v785`. -/
def v785 (w : Blk F) : FVec F S1024x64 .f32 :=
  k0_pay88 w.v677

/-- The body's value `v799`. -/
def v799 (w : Blk F) : FVec F S1024x64 .f32 :=
  k0_pay89 w.v661 w.v743 w.v776 w.v780 w.v784 w.v785

/-- The body's value `v827`. -/
def v827 (w : Blk F) : FVec F S1024x64 .f32 :=
  k0_pay90 w.v635 w.v669 w.v679 w.v681 w.v771

/-- The body's value `v828`. -/
def v828 (w : Blk F) : FVec F S1024x192 .f32 :=
  k0_pay91 w.v677

/-- The body's value `v832`. -/
def v832 (w : Blk F) : FVec F S1024x192 .f32 :=
  k0_pay92 w.v661 w.v683 w.v685 w.v743 w.v776 w.v780 w.v784 w.v785

/-- The body's value `v836`. -/
def v836 (w : Blk F) : FVec F S1024x64 .f32 :=
  k0_pay93 w.v661 w.v677 w.v683 w.v685 w.v743 w.v776 w.v780 w.v784 w.v785

/-- The body's value `v839`. -/
def v839 (w : Blk F) : FVec F S1024x64 .f32 :=
  k0_pay94 w.v661 w.v677 w.v683 w.v685 w.v743 w.v776 w.v780 w.v784 w.v785

/-- The body's value `v855`. -/
def v855 (w : Blk F) : FVec F S1024x64 .f32 :=
  k0_pay95 w.v661 w.v799 w.v828 w.v832 w.v836 w.v839

/-- The body's value `v883`. -/
def v883 (w : Blk F) : FVec F S1024x64 .f32 :=
  k0_pay96 w.v635 w.v669 w.v679 w.v681 w.v827

/-- The body's value `v884`. -/
def v884 (w : Blk F) : FVec F S1024x192 .f32 :=
  k0_pay97 w.v677

/-- The body's value `v888`. -/
def v888 (w : Blk F) : FVec F S1024x192 .f32 :=
  k0_pay98 w.v661 w.v683 w.v685 w.v799 w.v828 w.v832 w.v836 w.v839

/-- The body's value `v892`. -/
def v892 (w : Blk F) : FVec F S1024x64 .f32 :=
  k0_pay99 w.v661 w.v677 w.v683 w.v685 w.v799 w.v828 w.v832 w.v836 w.v839

/-- The body's value `v893`. -/
def v893 (w : Blk F) : FVec F S1024x64 .f32 :=
  k0_pay100 w.v677

/-- The body's value `v911`. -/
def v911 (w : Blk F) : FVec F S1024x64 .f32 :=
  k0_pay101 w.v661 w.v855 w.v884 w.v888 w.v892 w.v893

/-- The body's value `v939`. -/
def v939 (w : Blk F) : FVec F S1024x64 .f32 :=
  k0_pay102 w.v635 w.v669 w.v679 w.v681 w.v883

/-- The body's value `v940`. -/
def v940 (w : Blk F) : FVec F S1024x192 .f32 :=
  k0_pay103 w.v677

/-- The body's value `v944`. -/
def v944 (w : Blk F) : FVec F S1024x192 .f32 :=
  k0_pay104 w.v661 w.v683 w.v685 w.v855 w.v884 w.v888 w.v892 w.v893

/-- The body's value `v947`. -/
def v947 (w : Blk F) : FVec F S1024x64 .f32 :=
  k0_pay105 w.v661 w.v677 w.v683 w.v685 w.v855 w.v884 w.v888 w.v892 w.v893

/-- The body's value `v967`. -/
def v967 (w : Blk F) : FVec F S1024x64 .f32 :=
  k0_pay106 w.v661 w.v911 w.v940 w.v944 w.v947

/-- The body's value `v995`. -/
def v995 (w : Blk F) : FVec F S1024x64 .f32 :=
  k0_pay107 w.v635 w.v669 w.v679 w.v681 w.v939

/-- The body's value `v996`. -/
def v996 (w : Blk F) : FVec F S1024x192 .f32 :=
  k0_pay108 w.v677

/-- The body's value `v1000`. -/
def v1000 (w : Blk F) : FVec F S1024x192 .f32 :=
  k0_pay109 w.v661 w.v683 w.v685 w.v911 w.v940 w.v944 w.v947

/-- The body's value `v1001`. -/
def v1001 (w : Blk F) : FVec F S1024x64 .f32 :=
  k0_pay110 w.v677

/-- The body's value `v1023`. -/
def v1023 (w : Blk F) : FVec F S1024x64 .f32 :=
  k0_pay111 w.v661 w.v967 w.v996 w.v1000 w.v1001

/-- The body's value `v1051`. -/
def v1051 (w : Blk F) : FVec F S1024x64 .f32 :=
  k0_pay112 w.v635 w.v669 w.v679 w.v681 w.v995

/-- The body's value `v1052`. -/
def v1052 (w : Blk F) : FVec F S1024x192 .f32 :=
  k0_pay113 w.v677

/-- The body's value `v1054`. -/
def v1054 (w : Blk F) : FVec F S1024x192 .f32 :=
  k0_pay114 w.v661 w.v683 w.v967 w.v996 w.v1000 w.v1001

/-- The body's value `v1055`. -/
def v1055 (w : Blk F) : FVec F S1024x192 .f32 :=
  k0_pay115 w.v685

/-- The body's value `v1079`. -/
def v1079 (w : Blk F) : FVec F S1024x64 .f32 :=
  k0_pay116 w.v661 w.v1023 w.v1052 w.v1054 w.v1055

/-- The body's value `v1107`. -/
def v1107 (w : Blk F) : FVec F S1024x64 .f32 :=
  k0_pay117 w.v635 w.v669 w.v679 w.v681 w.v1051

/-- The body's value `v1108`. -/
def v1108 (w : Blk F) : FVec F S1024x192 .f32 :=
  k0_pay118 w.v677

/-- The body's value `v1109`. -/
def v1109 (w : Blk F) : FVec F S1024x64 .bf16 :=
  k0_pay119 w.v661 w.v1023 w.v1052 w.v1054 w.v1055

/-- The body's value `v1154`. -/
def v1154 (w : Blk F) : FVec F S1024x64 .f32 :=
  k0_pay120 w.v661 w.v683 w.v685 w.v1079 w.v1107 w.v1108 w.v1109 w.cst_219 (View.ld w.x22 (Rect.unit ![0, 0] S128x64.size inb_S128x64_S128x64_0_0)) (View.ld w.x23 (Rect.unit ![0, 0] S1x64.size inb_S1x64_S1x64_0_0)) (View.ld w.x24 (Rect.unit ![0, 0] S64x64.size inb_S64x64_S64x64_0_0)) (View.ld w.x25 (Rect.unit ![0, 0] S1x64.size inb_S1x64_S1x64_0_0))

/-- What the body stores as `mu`. -/
def mu (w : Blk F) : FVec F S1024x64 .f32 :=
  k0_pay121 w.v1154 (View.ld w.x26 (Rect.unit ![0, 0] S64x64.size inb_S64x64_S64x64_0_0)) (View.ld w.x27 (Rect.unit ![0, 0] S1x64.size inb_S1x64_S1x64_0_0))

/-- What the body stores as `sigma`. -/
def sigma (w : Blk F) : FVec F S1024x64 .f32 :=
  k0_pay122 w.v1154 (View.ld w.x28 (Rect.unit ![0, 0] S64x64.size inb_S64x64_S64x64_0_0)) (View.ld w.x29 (Rect.unit ![0, 0] S1x64.size inb_S1x64_S1x64_0_0))

end Blk

end Cert.KernelIdeal.Body

end
-- ==== Proof.KernelStores.lean ====
module

public import proofs.«01_k».proof.Proof.KernelIdealFrame
public import proofs.«01_k».proof.Proof.KernelChain
public import Idealize.ShloMosaic.Lib.VecWindow

/-!
# The stored blocks are the chain's last values

The launch's run leaves, in each result block of a grid point, one store of the whole block. Its payload is the last
value of the chain of `KernelChain`, taken at the point's thirty input blocks.
-/

@[expose] public section

set_option maxRecDepth 16384

noncomputable section

namespace Cert.KernelIdeal.Body

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- The thirty blocks that grid point `t` reads. -/
def blkAt (c : Dev nD) (t : Fin cfg0.N) : Blk F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t, iblk m c 21 t, iblk m c 22 t, iblk m c 23 t, iblk m c 24 t, iblk m c 25 t, iblk m c 26 t, iblk m c 27 t, iblk m c 28 t, iblk m c 29 t⟩

/-- The same blocks, each read back from a staging buffer that holds it. -/
def blkRead (c : Dev nD) (t : Fin cfg0.N) : Blk F :=
  ⟨(ms0_0 t).view.read (Elt F) ((hs0_0 t).unread (iblk m c 0 t)),
   (ms0_1 t).view.read (Elt F) ((hs0_1 t).unread (iblk m c 1 t)),
   (ms0_2 t).view.read (Elt F) ((hs0_2 t).unread (iblk m c 2 t)),
   (ms0_3 t).view.read (Elt F) ((hs0_3 t).unread (iblk m c 3 t)),
   (ms0_4 t).view.read (Elt F) ((hs0_4 t).unread (iblk m c 4 t)),
   (ms0_5 t).view.read (Elt F) ((hs0_5 t).unread (iblk m c 5 t)),
   (ms0_6 t).view.read (Elt F) ((hs0_6 t).unread (iblk m c 6 t)),
   (ms0_7 t).view.read (Elt F) ((hs0_7 t).unread (iblk m c 7 t)),
   (ms0_8 t).view.read (Elt F) ((hs0_8 t).unread (iblk m c 8 t)),
   (ms0_9 t).view.read (Elt F) ((hs0_9 t).unread (iblk m c 9 t)),
   (ms0_10 t).view.read (Elt F) ((hs0_10 t).unread (iblk m c 10 t)),
   (ms0_11 t).view.read (Elt F) ((hs0_11 t).unread (iblk m c 11 t)),
   (ms0_12 t).view.read (Elt F) ((hs0_12 t).unread (iblk m c 12 t)),
   (ms0_13 t).view.read (Elt F) ((hs0_13 t).unread (iblk m c 13 t)),
   (ms0_14 t).view.read (Elt F) ((hs0_14 t).unread (iblk m c 14 t)),
   (ms0_15 t).view.read (Elt F) ((hs0_15 t).unread (iblk m c 15 t)),
   (ms0_16 t).view.read (Elt F) ((hs0_16 t).unread (iblk m c 16 t)),
   (ms0_17 t).view.read (Elt F) ((hs0_17 t).unread (iblk m c 17 t)),
   (ms0_18 t).view.read (Elt F) ((hs0_18 t).unread (iblk m c 18 t)),
   (ms0_19 t).view.read (Elt F) ((hs0_19 t).unread (iblk m c 19 t)),
   (ms0_20 t).view.read (Elt F) ((hs0_20 t).unread (iblk m c 20 t)),
   (ms0_21 t).view.read (Elt F) ((hs0_21 t).unread (iblk m c 21 t)),
   (ms0_22 t).view.read (Elt F) ((hs0_22 t).unread (iblk m c 22 t)),
   (ms0_23 t).view.read (Elt F) ((hs0_23 t).unread (iblk m c 23 t)),
   (ms0_24 t).view.read (Elt F) ((hs0_24 t).unread (iblk m c 24 t)),
   (ms0_25 t).view.read (Elt F) ((hs0_25 t).unread (iblk m c 25 t)),
   (ms0_26 t).view.read (Elt F) ((hs0_26 t).unread (iblk m c 26 t)),
   (ms0_27 t).view.read (Elt F) ((hs0_27 t).unread (iblk m c 27 t)),
   (ms0_28 t).view.read (Elt F) ((hs0_28 t).unread (iblk m c 28 t)),
   (ms0_29 t).view.read (Elt F) ((hs0_29 t).unread (iblk m c 29 t))⟩

theorem blkRead_eq (c : Dev nD) (t : Fin cfg0.N) : blkRead m c t = blkAt m c t := by
  unfold blkRead blkAt
  simp only [Memref.IsWhole.read_unread]

theorem mu_pieces (c : Dev nD) (t : Fin cfg0.N) :
    (outsAt0 m c t).1 = VO0_30.read (Elt F) (VO0_30.writes (Elt F) VO0_30.junk
      [⟨Rect.unit ![0, 0] S1024x64.size inb_S1024x64_S1024x64_0_0, (blkRead m c t).mu⟩]) := by sl_kernel_rfl

theorem sigma_pieces (c : Dev nD) (t : Fin cfg0.N) :
    (outsAt0 m c t).2 = VO0_31.read (Elt F) (VO0_31.writes (Elt F) VO0_31.junk
      [⟨Rect.unit ![0, 0] S1024x64.size inb_S1024x64_S1024x64_0_0, (blkRead m c t).sigma⟩]) := by sl_kernel_rfl

/-- One store of the whole block, read back. -/
theorem stored_mu (p : Vec F S1024x64 .f32) : VO0_30.read (Elt F) (VO0_30.writes (Elt F) VO0_30.junk
    [⟨Rect.unit ![0, 0] S1024x64.size inb_S1024x64_S1024x64_0_0, p⟩]) = p :=
  View.read_writes_full VO0_30 VO0_30.junk inb_S1024x64_S1024x64_0_0 p []

/-- The same of the second result block. -/
theorem stored_sigma (p : Vec F S1024x64 .f32) : VO0_31.read (Elt F) (VO0_31.writes (Elt F) VO0_31.junk
    [⟨Rect.unit ![0, 0] S1024x64.size inb_S1024x64_S1024x64_0_0, p⟩]) = p :=
  View.read_writes_full VO0_31 VO0_31.junk inb_S1024x64_S1024x64_0_0 p []

/-- Grid point `t` leaves the chain's `mu` in the first result block. -/
theorem outs_mu (c : Dev nD) (t : Fin cfg0.N) : (outsAt0 m c t).1 = (blkAt m c t).mu :=
  (mu_pieces m c t).trans ((stored_mu _).trans (congrArg Blk.mu (blkRead_eq m c t)))

/-- Grid point `t` leaves the chain's `sigma` in the second result block. -/
theorem outs_sigma (c : Dev nD) (t : Fin cfg0.N) : (outsAt0 m c t).2 = (blkAt m c t).sigma :=
  (sigma_pieces m c t).trans ((stored_sigma _).trans (congrArg Blk.sigma (blkRead_eq m c t)))

end Cert.KernelIdeal.Body

end
-- ==== Proof.KernelCell.lean ====
module

public import proofs.«01_k».proof.Proof.Gen.KernelIdeal.Skeleton
public import proofs.«01_k».proof.Proof.Row

/-!
# The kernel's recurrent step, on a block of rows
-/

@[expose] public section

set_option maxRecDepth 16384

noncomputable section

namespace Cert.KernelIdeal.Body

open Idealize.ShloMosaic Idealize.SL.Sem Cert.KernelIdeal Cert.KernelIdeal.Gen

variable {F : FTy → Type} [FloatOps F]

/-- The history network's step on a block: the input gates `gi`, the hidden weights and biases, the state `h`. -/
def cell32 (gi : FVec F S1024x96 .f32) (W : FVec F S32x96 .bf16) (b : FVec F S1x96 .f32) (h : FVec F S1024x32 .f32) :
    FVec F S1024x32 .f32 :=
  have gh : FVec F S1024x96 .f32 := addf (matmul dot_S1024x32_S32x96_S1024x96_1_0_0_1_n_n none
    (truncf .bf16 h bitsLt_bf16_f32) W (constant S1024x96 .f32 0x00000000#32))
    (broadcastTo S1024x96 b broadcasts_S1x96_S1024x96)
  have r := logistic (addf (extractStridedSlice S1024x32 ![0, 0] gi slices_S1024x96_o0_0_S1024x32)
    (extractStridedSlice S1024x32 ![0, 0] gh slices_S1024x96_o0_0_S1024x32))
  have z := logistic (addf (extractStridedSlice S1024x32 ![0, 32] gi slices_S1024x96_o0_32_S1024x32)
    (extractStridedSlice S1024x32 ![0, 32] gh slices_S1024x96_o0_32_S1024x32))
  have n := tanh (addf (extractStridedSlice S1024x32 ![0, 64] gi slices_S1024x96_o0_64_S1024x32)
    (mulf r (extractStridedSlice S1024x32 ![0, 64] gh slices_S1024x96_o0_64_S1024x32)))
  addf (mulf (subf (broadcast S1024x32 (Scalar.ofBits .f32 0x3F800000#32)) z) n) (mulf z h)

/-- A row of the step is the scalar step on that row. -/
theorem cell32_apply (gi : FVec Ideal S1024x96 .f32) (W : FVec Ideal S32x96 .bf16) (b : FVec Ideal S1x96 .f32)
    (h : FVec Ideal S1024x32 .f32) (r : Fin 1024) (j : Fin 32) :
    cell32 gi W b h (ix2 r j) = Row.gru (H := 96) rfl (fun k n => W (ix2 k n)) (fun n => b (ix2 0 n))
      (fun n => gi (ix2 r n)) (fun k => h (ix2 r k)) j := by
  pointwise [cell32]
  rfl

end Cert.KernelIdeal.Body

end
-- ==== Proof.KernelHead.lean ====
module

public import proofs.«01_k».proof.Proof.KernelCell
public import proofs.«01_k».proof.Proof.KernelChain

/-!
# The body before its recurrences: loads and window statistics

A row of each load is a time step of the row's inputs, and a row of each statistic is the scalar statistic.
-/

@[expose] public section

set_option maxRecDepth 16384

noncomputable section

namespace Cert.KernelIdeal.Body

open Idealize.ShloMosaic Idealize.SL.Sem Cert.KernelIdeal Cert.KernelIdeal.Gen

/-- The time steps of row `r` of the block. -/
def Blk.seq (w : Blk Ideal) (r : Fin 1024) : Row.Seq where
  o t k := w.x0 (ix2 r ⟨64 * t + k, by omega⟩)
  a t k := w.x1 (ix2 r ⟨16 * t + k, by omega⟩)

theorem Blk.obs_apply (w : Blk Ideal) {o : ℕ} (h) (t : Fin 22) (e : o = 64 * t.val) (r : Fin 1024) (j : Fin 64) :
    w.obs (o := o) h (ix2 r j) = (w.seq r).o t j := by
  subst e
  pointwise [Blk.obs]
  rfl

theorem Blk.act_apply (w : Blk Ideal) {o : ℕ} (h) (t : Fin 22) (e : o = 16 * t.val) (r : Fin 1024) (j : Fin 16) :
    w.act (o := o) h (ix2 r j) = (w.seq r).a t j := by
  subst e
  pointwise [Blk.act]
  rfl

theorem Blk.prevAction_apply (w : Blk Ideal) (r : Fin 1024) (j : Fin 16) :
    w.prevAction (ix2 r j) = (w.seq r).a 13 j := by
  unfold Blk.prevAction
  rw [Rect.idx_withinL]
  pointwise
  refine congrArg w.x1 (funext fun a => Fin.ext ?_)
  match a with
  | 0 => show 0 + 1 * r.val = r.val; omega
  | 1 => show 192 + 1 * (16 + j.val) = 16 * 13 + j.val; omega

theorem pay2_apply (x : Vec Ideal S1024x64 .f32) (r : Fin 1024) :
    k0_pay2 x (ix2 r 0) = Row.entropy (fun k => x (ix2 r k)) := by
  pointwise [k0_pay2, k0_pay1]
  rfl

theorem pay4_apply (x y z u : Vec Ideal S1024x64 .f32) (r : Fin 1024) :
    k0_pay4 (k0_pay3 x y z u) (Scalar.ofBits .f32 1077936128#32) (ix2 r 0) = Row.rate (fun k => x (ix2 r k))
      (fun k => y (ix2 r k)) (fun k => z (ix2 r k)) (fun k => u (ix2 r k)) := by
  pointwise [k0_pay3, k0_pay1, k0_pay4]
  rfl

/-- The correlation of two blocks of rows. -/
def corrOf (v1 v48 : FVec Ideal S1024x64 .f32) : FVec Ideal S1024x1 .f32 :=
  have mean (v : FVec Ideal S1024x64 .f32) : FVec Ideal S1024x64 .f32 := subf v (broadcastTo S1024x64 (divf (shapeCast S1024x1
    (multiReduction .add [1] S1024 v 0x00000000#32 reduces_S1024x64_S1024 (.inl rfl) rfl) shapeCasts_S1024_S1024x1)
    (broadcast S1024x1 (Scalar.ofBits .f32 0x42800000#32))) broadcasts_S1024x1_S1024x64)
  have sum (v : FVec Ideal S1024x64 .f32) : FVec Ideal S1024x1 .f32 := shapeCast S1024x1
    (multiReduction .add [1] S1024 v 0x00000000#32 reduces_S1024x64_S1024 (.inl rfl) rfl) shapeCasts_S1024_S1024x1
  divf (sum (mulf (mean v1) (mean v48)))
    (addf (mulf (sqrt (sum (mulf (mean v1) (mean v1)))) (sqrt (sum (mulf (mean v48) (mean v48)))))
      (broadcast S1024x1 (Scalar.ofBits .f32 0x322BCC77#32)))

theorem corrOf_apply (x y : FVec Ideal S1024x64 .f32) (r : Fin 1024) :
    corrOf x y (ix2 r 0) = Row.corr (fun k => x (ix2 r k)) (fun k => y (ix2 r k)) := by
  pointwise [corrOf]
  rfl

/-- An action block padded to the width of an observation. -/
def padOf (v : Vec Ideal S1024x16 .f32) : FVec Ideal S1024x64 .f32 :=
  concatenate S1024x64 1 [⟨S1024x16, shapeCast S1024x16 v shapeCasts_S1024x16_S1024x16⟩,
    ⟨S1024x48, broadcast S1024x48 (Scalar.ofBits .f32 0x00000000#32)⟩] concatenates_S1024x16_S1024x48_S1024x64_d1

theorem padOf_apply (v : Vec Ideal S1024x16 .f32) (r : Fin 1024) (k : Fin 64) :
    padOf v (ix2 r k) = Row.padded (fun l => v (ix2 r l)) k := by
  pointwise [padOf]
  rfl

theorem pay5_eq (x : FVec Ideal S1024x64 .f32) (y : Vec Ideal S1024x16 .f32) : k0_pay5 x y = corrOf x (padOf y) := rfl

theorem Blk.v24_apply (w : Blk Ideal) (r : Fin 1024) : w.v24 (ix2 r 0) = Row.entropy ((w.seq r).o 14) := by
  rw [Blk.v24, pay2_apply]
  exact congrArg Row.entropy (funext fun k => w.obs_apply _ 14 rfl r k)

theorem Blk.v43_apply (w : Blk Ideal) (r : Fin 1024) :
    w.v43 (ix2 r 0) = Row.rate ((w.seq r).o 14) ((w.seq r).o 13) ((w.seq r).o 12) ((w.seq r).o 11) := by
  have h := fun (t : Fin 22) {o} (hb) (e : o = 64 * t.val) => funext fun k => w.obs_apply (o := o) hb t e r k
  rw [Blk.v43, Blk.v41, Blk.cst_10, pay4_apply, h 14 _ rfl, h 13 _ rfl, h 12 _ rfl, h 11 _ rfl]

theorem Blk.v75_apply (w : Blk Ideal) (r : Fin 1024) :
    w.v75 (ix2 r 0) = Row.corr ((w.seq r).o 14) (Row.padded ((w.seq r).a 13)) := by
  rw [Blk.v75, pay5_eq, corrOf_apply]
  congr 1
  · funext k
    rw [Blk.v1]
    refine Eq.trans ?_ (w.obs_apply inb_S1024x1408_S1024x64_0_896 14 rfl r k)
    pointwise [k0_pay1]
  · funext k
    rw [padOf_apply]
    exact congrArg (Row.padded · k) (funext fun l => w.prevAction_apply r l)

end Cert.KernelIdeal.Body

end
-- ==== Proof.KernelHistory.lean ====
module

public import proofs.«01_k».proof.Proof.KernelHead

/-!
# The body's history network

The body stacks its 22 time steps, multiplies the first fifteen by the input weights at once, and then runs the fifteen
recurrent steps. A row of the outcome is the row's history state.
-/

@[expose] public section

set_option maxRecDepth 16384

noncomputable section

namespace Cert.KernelIdeal.Body

open Idealize.ShloMosaic Idealize.SL.Sem Cert.KernelIdeal Cert.KernelIdeal.Gen

variable {F : FTy → Type} [FloatOps F]

namespace Blk

/-- The weights among the thirty blocks. -/
def net (w : Blk Ideal) : Row.Net where
  dWi k n := w.x2 (ix2 k n)
  dWh k n := w.x3 (ix2 k n)
  dbi n := w.x4 (ix2 0 n)
  dbh n := w.x5 (ix2 0 n)
  lg n := w.x6 (ix2 0 n)
  lb n := w.x7 (ix2 0 n)
  m1 k n := w.x8 (ix2 k n)
  b1 n := w.x9 (ix2 0 n)
  m2 k n := w.x10 (ix2 k n)
  b2 n := w.x11 (ix2 0 n)
  m3 k n := w.x12 (ix2 k n)
  b3 n := w.x13 (ix2 0 n)
  fWi k n := w.x14 (ix2 k n)
  fWh k n := w.x15 (ix2 k n)
  fbi n := w.x16 (ix2 0 n)
  fbh n := w.x17 (ix2 0 n)
  kWi k n := w.x18 (ix2 k n)
  kWh k n := w.x19 (ix2 k n)
  kbi n := w.x20 (ix2 0 n)
  kbh n := w.x21 (ix2 0 n)
  e1 k n := w.x22 (ix2 k n)
  c1 n := w.x23 (ix2 0 n)
  e2 k n := w.x24 (ix2 k n)
  c2 n := w.x25 (ix2 0 n)
  mW k n := w.x26 (ix2 k n)
  mb n := w.x27 (ix2 0 n)
  vW k n := w.x28 (ix2 k n)
  vb n := w.x29 (ix2 0 n)

theorem inb_obs (t : Fin 22) : ∀ a : Fin 2, (![0, 64 * t.val] : Fin 2 → ℕ) a + S1024x64.size a ≤ S1024x1408.size a := by
  intro a
  match a with
  | 0 => show 0 + 1024 ≤ 1024; omega
  | 1 => show 64 * t.val + 64 ≤ 1408; omega

theorem inb_act (t : Fin 22) : ∀ a : Fin 2, (![0, 16 * t.val] : Fin 2 → ℕ) a + S1024x16.size a ≤ S1024x352.size a := by
  intro a
  match a with
  | 0 => show 0 + 1024 ≤ 1024; omega
  | 1 => show 16 * t.val + 16 ≤ 352; omega

/-- Time step `t` of the block: its observations and actions side by side. -/
def step (w : Blk F) (t : Fin 22) : FVec F S1024x80 .f32 :=
  k0_pay6
    (w.obs (o := 64 * t) (inb_obs t))
    (w.act (o := 16 * t) (inb_act t))

theorem step_apply (w : Blk Ideal) (t : Fin 22) (r : Fin 1024) (k : Fin 80) :
    w.step t (ix2 r k) = Row.cat ((w.seq r).o t) ((w.seq r).a t) k := by
  have ho := fun k => w.obs_apply (o := 64 * t) (inb_obs t) t rfl r k
  have ha := fun k => w.act_apply (o := 16 * t) (inb_act t) t rfl r k
  rw [← funext ho, ← funext ha]
  unfold step
  generalize w.obs _ = x
  generalize w.act _ = y
  pointwise [k0_pay6]
  rfl

/-- The stack is the 22 time steps one under the other. -/
theorem v187_eq (w : Blk F) : w.v187 = truncf .bf16 (concatenate S22528x80 0
    (List.ofFn fun t : Fin 22 => (⟨S1024x80, w.step t⟩ : (s : Shape) × (s.Idx → F .f32)))
    concatenates_S1024x80_S1024x80_S1024x80_S1024x80_S1024x80_S1024x80_S1024x80_S1024x80_S1024x80_S1024x80_S1024x80_S1024x80_S1024x80_S1024x80_S1024x80_S1024x80_S1024x80_S1024x80_S1024x80_S1024x80_S1024x80_S1024x80_S22528x80_d0)
    bitsLt_bf16_f32 := rfl

theorem v187_apply (w : Blk Ideal) (t : Fin 22) (r : Fin 1024) (k : Fin 80) (i : Fin 22528) (hi : i.val = 1024 * t + r) :
    w.v187 (ix2 i k) = Row.cat ((w.seq r).o t) ((w.seq r).a t) k := by
  rw [← w.step_apply, v187_eq]
  refine concatenate_ofFn_apply (s₁ := S1024x80) (t := S22528x80) 0 w.step concatenates_S1024x80_S1024x80_S1024x80_S1024x80_S1024x80_S1024x80_S1024x80_S1024x80_S1024x80_S1024x80_S1024x80_S1024x80_S1024x80_S1024x80_S1024x80_S1024x80_S1024x80_S1024x80_S1024x80_S1024x80_S1024x80_S1024x80_S22528x80_d0 rfl 1024 rfl (ix2 i k) t ?_ (ix2 r k) ?_ ?_
  · show i.val / 1024 = t.val; omega
  · show r.val = i.val % 1024; omega
  · intro b hb
    match b with
    | 0 => exact absurd rfl hb
    | 1 => rfl

/-- The input gates of all fifteen steps. -/
def gates (x : FVec F S22528x80 .bf16) (W : Vec F S80x96 .bf16) (b : Vec F S1x96 .f32) : FVec F S15360x96 .f32 :=
  addf (matmul dot_S15360x80_S80x96_S15360x96_1_0_0_1_n_n none
      (extractStridedSlice S15360x80 ![0, 0] x slices_S22528x80_o0_0_S15360x80)
      (shapeCast S80x96 W shapeCasts_S80x96_S80x96) (constant S15360x96 .f32 0x00000000#32))
    (broadcastTo S15360x96 (shapeCast S1x96 b shapeCasts_S1x96_S1x96) broadcasts_S1x96_S15360x96)

theorem v195_eq (w : Blk F) : w.v195 = gates w.v187 (View.ld w.x2 (Rect.unit ![0, 0] S80x96.size inb_S80x96_S80x96_0_0))
    (View.ld w.x4 (Rect.unit ![0, 0] S1x96.size inb_S1x96_S1x96_0_0)) := rfl

theorem slices_gates (t : Fin 15) : S15360x96.Slices ![1024 * t.val, 0] S1024x96 := by
  refine ⟨rfl, fun a => ?_⟩
  match a with
  | 0 => show 1024 * t.val + 1024 ≤ 15360; omega
  | 1 => show 0 + 96 ≤ 96; omega

/-- The input gates of step `t`. -/
def gi (w : Blk F) (t : Fin 15) : FVec F S1024x96 .f32 :=
  extractStridedSlice S1024x96 ![1024 * t.val, 0] w.v195 (slices_gates t)

theorem gi_apply (w : Blk Ideal) (t : Fin 15) (r : Fin 1024) (n : Fin 96) :
    w.gi t (ix2 r n) = Row.lin w.net.dWi w.net.dbi ((w.seq r).x t) n := by
  have hx := fun k => w.v187_apply ⟨t, by omega⟩ r k ⟨1024 * t + r, by omega⟩ rfl
  have e : (Fin.ofNat 22 t.val) = ⟨t, by omega⟩ := Fin.ext (Nat.mod_eq_of_lt (by omega))
  unfold Row.lin Row.Seq.x
  rw [e, ← funext hx]
  rw [gi, v195_eq]
  generalize w.v187 = x
  pointwise [gates]
  rfl

/-- A recurrent step with the body's hidden weights. -/
def next (w : Blk F) (t : Fin 15) (h : FVec F S1024x32 .f32) : FVec F S1024x32 .f32 := cell32 (w.gi t) w.v197 w.v199 h

/-- The state after `n` steps. -/
def state (w : Blk F) : ℕ → FVec F S1024x32 .f32
  | 0 => broadcast S1024x32 (Scalar.ofBits .f32 0x00000000#32)
  | n + 1 => w.next (Fin.ofNat 15 n) (w.state n)

theorem v223_eq (w : Blk F) : w.v223 = w.next 0 (w.state 0) := rfl
theorem v269_eq (w : Blk F) : w.v269 = w.next 2 (w.next 1 w.v223) := rfl
theorem v338_eq (w : Blk F) : w.v338 = w.next 5 (w.next 4 (w.next 3 w.v269)) := rfl
theorem v384_eq (w : Blk F) : w.v384 = w.next 7 (w.next 6 w.v338) := rfl
theorem v430_eq (w : Blk F) : w.v430 = w.next 9 (w.next 8 w.v384) := rfl
theorem v499_eq (w : Blk F) : w.v499 = w.next 12 (w.next 11 (w.next 10 w.v430)) := rfl

/-- The feature block holds the three statistics and the state after fifteen steps. -/
theorem v546_eq (w : Blk F) : w.v546 = concatenate S1024x35 1
    [⟨S1024x1, w.v24⟩, ⟨S1024x1, w.v43⟩, ⟨S1024x1, w.v75⟩, ⟨S1024x32, w.next 14 (w.next 13 w.v499)⟩]
    concatenates_S1024x1_S1024x1_S1024x1_S1024x32_S1024x35_d1 := rfl

theorem state15 (w : Blk F) : w.next 14 (w.next 13 w.v499) = w.state 15 := by
  rw [v499_eq, v430_eq, v384_eq, v338_eq, v269_eq, v223_eq]; rfl

theorem state_apply (w : Blk Ideal) (r : Fin 1024) (n : ℕ) (hn : n ≤ 15) (j : Fin 32) :
    w.state n (ix2 r j) = Row.history w.net (w.seq r) n j := by
  induction n generalizing j with
  | zero =>
    show (_ : EReal) = 0
    pointwise [state]
  | succ n ih =>
    have e : (Fin.ofNat 15 n).val = n := Nat.mod_eq_of_lt (by omega)
    have hW : (fun (k : Fin 32) (n : Fin 96) => w.v197 (ix2 k n)) = w.net.dWh := by
      funext k n; pointwise [v197, k0_pay32]; rfl
    have hb : (fun n : Fin 96 => w.v199 (ix2 0 n)) = w.net.dbh := by
      funext n; pointwise [v199, k0_pay33]; rfl
    show cell32 _ _ _ _ _ = _
    rw [cell32_apply, hW, hb, funext (fun k => ih (by omega) k)]
    show _ = Row.gru rfl _ _ _ _ _
    congr 1
    funext k
    rw [gi_apply, e]

theorem v546_apply (w : Blk Ideal) (r : Fin 1024) (k : Fin 35) :
    w.v546 (ix2 r k) = Row.features w.net (w.seq r) k := by
  unfold Row.features
  rw [← v24_apply, ← v43_apply, ← v75_apply, ← funext (fun j => w.state_apply r 15 le_rfl j), v546_eq, state15]
  generalize w.v24 = a
  generalize w.v43 = b
  generalize w.v75 = c
  generalize w.state 15 = h
  pointwise
  unfold Row.feats
  split_ifs <;> first
    | rfl
    | exact congrArg (fun i : Fin 1 => a (ix2 r i)) (Subsingleton.elim _ _)
    | exact congrArg (fun i : Fin 1 => b (ix2 r i)) (Subsingleton.elim _ _)
    | exact congrArg (fun i : Fin 1 => c (ix2 r i)) (Subsingleton.elim _ _)

end Blk

end Cert.KernelIdeal.Body

end
-- ==== Proof.KernelArgs.lean ====
module

public import proofs.«01_k».proof.Proof.KernelStores
public import proofs.«01_k».proof.Proof.KernelHistory
public import Idealize.ShloMosaic.Lib.Pipeline.ValueKit.Point

/-!
# What the blocks hold

Before the launch the two inputs are flattened to one row per batch element, and the weight matrices are turned. Each block of a
grid point is read here in terms of the arguments.
-/

@[expose] public section

set_option maxRecDepth 16384

noncomputable section

namespace Cert.KernelIdeal.Body

open Idealize.ShloMosaic Idealize.ShloMosaic.TcCoe Idealize.SL.Sem Cert.KernelIdeal Cert.KernelIdeal.Gen

variable (m : (ℓ : Loc nD τ sig) → Buf (Elt Ideal) ℓ)

/-- Each input window but the first two takes its whole array at every grid point. -/
theorem whole : ∀ t : Fin cfg0.N,
      (win0_2.index t 0 = 0 ∧ win0_2.index t 1 = 0) ∧
      (win0_3.index t 0 = 0 ∧ win0_3.index t 1 = 0) ∧
      (win0_4.index t 0 = 0 ∧ win0_4.index t 1 = 0) ∧
      (win0_5.index t 0 = 0 ∧ win0_5.index t 1 = 0) ∧
      (win0_6.index t 0 = 0 ∧ win0_6.index t 1 = 0) ∧
      (win0_7.index t 0 = 0 ∧ win0_7.index t 1 = 0) ∧
      (win0_8.index t 0 = 0 ∧ win0_8.index t 1 = 0) ∧
      (win0_9.index t 0 = 0 ∧ win0_9.index t 1 = 0) ∧
      (win0_10.index t 0 = 0 ∧ win0_10.index t 1 = 0) ∧
      (win0_11.index t 0 = 0 ∧ win0_11.index t 1 = 0) ∧
      (win0_12.index t 0 = 0 ∧ win0_12.index t 1 = 0) ∧
      (win0_13.index t 0 = 0 ∧ win0_13.index t 1 = 0) ∧
      (win0_14.index t 0 = 0 ∧ win0_14.index t 1 = 0) ∧
      (win0_15.index t 0 = 0 ∧ win0_15.index t 1 = 0) ∧
      (win0_16.index t 0 = 0 ∧ win0_16.index t 1 = 0) ∧
      (win0_17.index t 0 = 0 ∧ win0_17.index t 1 = 0) ∧
      (win0_18.index t 0 = 0 ∧ win0_18.index t 1 = 0) ∧
      (win0_19.index t 0 = 0 ∧ win0_19.index t 1 = 0) ∧
      (win0_20.index t 0 = 0 ∧ win0_20.index t 1 = 0) ∧
      (win0_21.index t 0 = 0 ∧ win0_21.index t 1 = 0) ∧
      (win0_22.index t 0 = 0 ∧ win0_22.index t 1 = 0) ∧
      (win0_23.index t 0 = 0 ∧ win0_23.index t 1 = 0) ∧
      (win0_24.index t 0 = 0 ∧ win0_24.index t 1 = 0) ∧
      (win0_25.index t 0 = 0 ∧ win0_25.index t 1 = 0) ∧
      (win0_26.index t 0 = 0 ∧ win0_26.index t 1 = 0) ∧
      (win0_27.index t 0 = 0 ∧ win0_27.index t 1 = 0) ∧
      (win0_28.index t 0 = 0 ∧ win0_28.index t 1 = 0) ∧
      (win0_29.index t 0 = 0 ∧ win0_29.index t 1 = 0) :=
  (by decide +kernel : ∀ t : Fin grid0.N,
      (win0_2.index t 0 = 0 ∧ win0_2.index t 1 = 0) ∧
      (win0_3.index t 0 = 0 ∧ win0_3.index t 1 = 0) ∧
      (win0_4.index t 0 = 0 ∧ win0_4.index t 1 = 0) ∧
      (win0_5.index t 0 = 0 ∧ win0_5.index t 1 = 0) ∧
      (win0_6.index t 0 = 0 ∧ win0_6.index t 1 = 0) ∧
      (win0_7.index t 0 = 0 ∧ win0_7.index t 1 = 0) ∧
      (win0_8.index t 0 = 0 ∧ win0_8.index t 1 = 0) ∧
      (win0_9.index t 0 = 0 ∧ win0_9.index t 1 = 0) ∧
      (win0_10.index t 0 = 0 ∧ win0_10.index t 1 = 0) ∧
      (win0_11.index t 0 = 0 ∧ win0_11.index t 1 = 0) ∧
      (win0_12.index t 0 = 0 ∧ win0_12.index t 1 = 0) ∧
      (win0_13.index t 0 = 0 ∧ win0_13.index t 1 = 0) ∧
      (win0_14.index t 0 = 0 ∧ win0_14.index t 1 = 0) ∧
      (win0_15.index t 0 = 0 ∧ win0_15.index t 1 = 0) ∧
      (win0_16.index t 0 = 0 ∧ win0_16.index t 1 = 0) ∧
      (win0_17.index t 0 = 0 ∧ win0_17.index t 1 = 0) ∧
      (win0_18.index t 0 = 0 ∧ win0_18.index t 1 = 0) ∧
      (win0_19.index t 0 = 0 ∧ win0_19.index t 1 = 0) ∧
      (win0_20.index t 0 = 0 ∧ win0_20.index t 1 = 0) ∧
      (win0_21.index t 0 = 0 ∧ win0_21.index t 1 = 0) ∧
      (win0_22.index t 0 = 0 ∧ win0_22.index t 1 = 0) ∧
      (win0_23.index t 0 = 0 ∧ win0_23.index t 1 = 0) ∧
      (win0_24.index t 0 = 0 ∧ win0_24.index t 1 = 0) ∧
      (win0_25.index t 0 = 0 ∧ win0_25.index t 1 = 0) ∧
      (win0_26.index t 0 = 0 ∧ win0_26.index t 1 = 0) ∧
      (win0_27.index t 0 = 0 ∧ win0_27.index t 1 = 0) ∧
      (win0_28.index t 0 = 0 ∧ win0_28.index t 1 = 0) ∧
      (win0_29.index t 0 = 0 ∧ win0_29.index t 1 = 0))

/-- The weights among the arguments, matrices turned from `(out, in)` to `(in, out)`. -/
def argNet (c : Dev nD) : Row.Net where
  dWi k n := (m ((c : Thread nD τ).loc main_arg2) : FVec Ideal S96x80 .f32) (ix2 n k)
  dWh k n := (m ((c : Thread nD τ).loc main_arg3) : FVec Ideal S96x32 .f32) (ix2 n k)
  dbi n := (m ((c : Thread nD τ).loc main_arg4) : FVec Ideal S96 .f32) (ix1 n)
  dbh n := (m ((c : Thread nD τ).loc main_arg5) : FVec Ideal S96 .f32) (ix1 n)
  lg n := (m ((c : Thread nD τ).loc main_arg6) : FVec Ideal S35 .f32) (ix1 n)
  lb n := (m ((c : Thread nD τ).loc main_arg7) : FVec Ideal S35 .f32) (ix1 n)
  m1 k n := (m ((c : Thread nD τ).loc main_arg8) : FVec Ideal S64x35 .f32) (ix2 n k)
  b1 n := (m ((c : Thread nD τ).loc main_arg9) : FVec Ideal S64 .f32) (ix1 n)
  m2 k n := (m ((c : Thread nD τ).loc main_arg10) : FVec Ideal S32x64 .f32) (ix2 n k)
  b2 n := (m ((c : Thread nD τ).loc main_arg11) : FVec Ideal S32 .f32) (ix1 n)
  m3 k n := (m ((c : Thread nD τ).loc main_arg12) : FVec Ideal S14x32 .f32) (ix2 n k)
  b3 n := (m ((c : Thread nD τ).loc main_arg13) : FVec Ideal S14 .f32) (ix1 n)
  fWi k n := (m ((c : Thread nD τ).loc main_arg14) : FVec Ideal S192x80 .f32) (ix2 n k)
  fWh k n := (m ((c : Thread nD τ).loc main_arg15) : FVec Ideal S192x64 .f32) (ix2 n k)
  fbi n := (m ((c : Thread nD τ).loc main_arg16) : FVec Ideal S192 .f32) (ix1 n)
  fbh n := (m ((c : Thread nD τ).loc main_arg17) : FVec Ideal S192 .f32) (ix1 n)
  kWi k n := (m ((c : Thread nD τ).loc main_arg18) : FVec Ideal S192x80 .f32) (ix2 n k)
  kWh k n := (m ((c : Thread nD τ).loc main_arg19) : FVec Ideal S192x64 .f32) (ix2 n k)
  kbi n := (m ((c : Thread nD τ).loc main_arg20) : FVec Ideal S192 .f32) (ix1 n)
  kbh n := (m ((c : Thread nD τ).loc main_arg21) : FVec Ideal S192 .f32) (ix1 n)
  e1 k n := (m ((c : Thread nD τ).loc main_arg22) : FVec Ideal S64x128 .f32) (ix2 n k)
  c1 n := (m ((c : Thread nD τ).loc main_arg23) : FVec Ideal S64 .f32) (ix1 n)
  e2 k n := (m ((c : Thread nD τ).loc main_arg24) : FVec Ideal S64x64 .f32) (ix2 n k)
  c2 n := (m ((c : Thread nD τ).loc main_arg25) : FVec Ideal S64 .f32) (ix1 n)
  mW k n := (m ((c : Thread nD τ).loc main_arg26) : FVec Ideal S64x64 .f32) (ix2 n k)
  mb n := (m ((c : Thread nD τ).loc main_arg27) : FVec Ideal S64 .f32) (ix1 n)
  vW k n := (m ((c : Thread nD τ).loc main_arg28) : FVec Ideal S64x64 .f32) (ix2 n k)
  vb n := (m ((c : Thread nD τ).loc main_arg29) : FVec Ideal S64 .f32) (ix1 n)

set_option maxHeartbeats 8000000 in
theorem net_blkAt (c : Dev nD) (t : Fin cfg0.N) : (blkAt m c t).net = argNet m c := by
  have h := whole t
  refine (Row.Net.mk.injEq ..).mpr ?_
  refine ⟨?_, ?_, ?_, ?_, ?_, ?_, ?_, ?_, ?_, ?_, ?_, ?_, ?_, ?_, ?_, ?_, ?_, ?_, ?_, ?_, ?_, ?_, ?_, ?_, ?_, ?_, ?_, ?_⟩
  all_goals
    first
    | funext k n
    | funext n
    simp only [blkAt]
    blk_simp [iblk, h]
    entry_read
    pointwise
    blk_ext [h]

theorem rows : ∀ t : Fin cfg0.N, (win0_0.index t 0 = t.val ∧ win0_0.index t 1 = 0) ∧ (win0_1.index t 0 = t.val ∧ win0_1.index t 1 = 0) :=
  (by decide +kernel : ∀ t : Fin grid0.N, (win0_0.index t 0 = t.val ∧ win0_0.index t 1 = 0) ∧ (win0_1.index t 0 = t.val ∧ win0_1.index t 1 = 0))

/-- Row `R` of the two inputs. -/
def argSeq (c : Dev nD) (R : Fin 16384) : Row.Seq where
  o t j := (m ((c : Thread nD τ).loc main_arg0) : FVec Ideal S16384x22x64 .f32) (ix3 R t j)
  a t j := (m ((c : Thread nD τ).loc main_arg1) : FVec Ideal S16384x22x16 .f32) (ix3 R t j)

theorem emb_obs (t : Fin cfg0.N) (r : Fin 1024) (l : Fin 1408) (R : Fin 16384) (hR : R.val = 1024 * t.val + r.val) :
    (win0_0.blk t).view.emb (ix2 r l) = (ix2 R l : S16384x1408.Idx) := by
  have h := rows t
  blk_ext [h]

theorem emb_act (t : Fin cfg0.N) (r : Fin 1024) (l : Fin 352) (R : Fin 16384) (hR : R.val = 1024 * t.val + r.val) :
    (win0_1.blk t).view.emb (ix2 r l) = (ix2 R l : S16384x352.Idx) := by
  have h := rows t
  blk_ext [h]

theorem flat_obs (x : FVec Ideal S16384x22x64 .f32) (R : Fin 16384) (t : Fin 22) (j : Fin 64) (l : Fin 1408) (hl : l.val = 64 * t.val + j.val) :
    shapeCast S16384x1408 x shapeCasts_S16384x22x64_S16384x1408 (ix2 R l) = x (ix3 R t j) := by
  have h1 : l.val / 64 = t.val := by omega
  have h2 : l.val % 64 = j.val := by omega
  pointwise
  simp only [h1, h2]

theorem flat_act (x : FVec Ideal S16384x22x16 .f32) (R : Fin 16384) (t : Fin 22) (j : Fin 16) (l : Fin 352) (hl : l.val = 16 * t.val + j.val) :
    shapeCast S16384x352 x shapeCasts_S16384x22x16_S16384x352 (ix2 R l) = x (ix3 R t j) := by
  have h1 : l.val / 16 = t.val := by omega
  have h2 : l.val % 16 = j.val := by omega
  pointwise
  simp only [h1, h2]

theorem x0_apply (c : Dev nD) (t : Fin cfg0.N) (r : Fin 1024) (l : Fin 1408) (R : Fin 16384) (hR : R.val = 1024 * t.val + r.val) :
    (blkAt m c t).x0 (ix2 r l) = shapeCast S16384x1408 (m ((c : Thread nD τ).loc main_arg0) : FVec Ideal S16384x22x64 .f32) shapeCasts_S16384x22x64_S16384x1408 (ix2 R l) := by
  show V m c main_v0 ((win0_0.blk t).view.emb (ix2 r l)) = _
  rw [emb_obs t r l R hR]
  entry_read
  rfl

theorem x1_apply (c : Dev nD) (t : Fin cfg0.N) (r : Fin 1024) (l : Fin 352) (R : Fin 16384) (hR : R.val = 1024 * t.val + r.val) :
    (blkAt m c t).x1 (ix2 r l) = shapeCast S16384x352 (m ((c : Thread nD τ).loc main_arg1) : FVec Ideal S16384x22x16 .f32) shapeCasts_S16384x22x16_S16384x352 (ix2 R l) := by
  show V m c main_v1 ((win0_1.blk t).view.emb (ix2 r l)) = _
  rw [emb_act t r l R hR]
  entry_read
  rfl

theorem seq_blkAt (c : Dev nD) (t : Fin cfg0.N) (r : Fin 1024) (R : Fin 16384) (hR : R.val = 1024 * t.val + r.val) :
    (blkAt m c t).seq r = argSeq m c R := by
  refine (Row.Seq.mk.injEq ..).mpr ⟨?_, ?_⟩
  · funext s j
    rw [x0_apply m c t r _ R hR]
    exact flat_obs _ R s j _ rfl
  · funext s j
    rw [x1_apply m c t r _ R hR]
    exact flat_act _ R s j _ rfl

end Cert.KernelIdeal.Body

end
-- ==== Proof.Argmax.lean ====
module

public import proofs.«01_k».proof.Proof.Row

/-!
# The first place of the largest of fourteen entries

`Row.best` walks the entries in order and keeps the largest so far with its place. The same place comes out of taking the
maximum of all entries, putting every entry's index where it attains the maximum and 14 elsewhere, and taking the least of
these words.
-/

@[expose] public section

noncomputable section

namespace Cert.Row

open Idealize.ShloMosaic

variable (l : Fin 14 → EReal)

/-- What holds of the walk after entry `n`: the place is an entry of that size, nothing so far is larger, and everything
before the place is smaller. -/
theorem best_spec (n : ℕ) (hn : n < 14) : (best l n).2 ≤ n ∧ (best l n).1 = l (Fin.ofNat 14 (best l n).2) ∧
    (∀ i : Fin 14, i.val ≤ n → l i ≤ (best l n).1) ∧ ∀ i : Fin 14, i.val < (best l n).2 → l i < (best l n).1 := by
  induction n with
  | zero =>
    refine ⟨le_rfl, rfl, fun i hi => ?_, fun i hi => absurd hi (by simp [best])⟩
    have : i = 0 := Fin.ext (by simpa using hi)
    rw [this]; rfl
  | succ n ih =>
    obtain ⟨h1, h2, h3, h4⟩ := ih (by omega)
    have hv : (Fin.ofNat 14 (n + 1)).val = n + 1 := Nat.mod_eq_of_lt hn
    by_cases h : (best l n).1 < l (Fin.ofNat 14 (n + 1))
    · have e : best l (n + 1) = (l (Fin.ofNat 14 (n + 1)), n + 1) := if_pos h
      rw [e]
      refine ⟨le_rfl, rfl, fun i hi => ?_, fun i hi => (h3 i (by simpa using hi)).trans_lt h⟩
      rcases Nat.lt_or_ge i.val (n + 1) with hlt | hge
      · exact ((h3 i (by omega)).trans_lt h).le
      · have : i = Fin.ofNat 14 (n + 1) := Fin.ext (by omega)
        rw [this]
    · have e : best l (n + 1) = best l n := if_neg h
      rw [e]
      refine ⟨by omega, h2, fun i hi => ?_, h4⟩
      rcases Nat.lt_or_ge i.val (n + 1) with hlt | hge
      · exact h3 i (by omega)
      · have : i = Fin.ofNat 14 (n + 1) := Fin.ext (by omega)
        rw [this]; exact not_lt.1 h

theorem pick_lt : pick l < 14 := Nat.lt_succ_of_le (best_spec l 13 (by omega)).1

theorem ofBits_neg_inf : Ideal.ofBits .f32 0xFF800000#32 = ⊥ := by
  simp [Ideal.ofBits, Ideal.ieee]

/-- The walk ends with the maximum. -/
theorem best_max : (best l 13).1 = Finset.univ.fold max (Ideal.ofBits .f32 0xFF800000#32) l := by
  obtain ⟨-, h2, h3, -⟩ := best_spec l 13 (by omega)
  refine le_antisymm ?_ ?_
  · rw [Finset.le_fold_max, h2]
    exact .inr ⟨_, Finset.mem_univ _, le_rfl⟩
  · rw [Finset.fold_max_le, ofBits_neg_inf]
    exact ⟨bot_le, fun i _ => h3 i (by omega)⟩

theorem minsi_ofNat (a b : ℕ) (ha : a < 2 ^ 31) (hb : b < 2 ^ 31) :
    IntOp.minsi (BitVec.ofNat 32 a) (BitVec.ofNat 32 b) = BitVec.ofNat 32 (min a b) := by
  have h : ∀ c : ℕ, c < 2 ^ 31 → (BitVec.ofNat 32 c).toInt = c := fun c hc => by
    rw [BitVec.toInt_eq_toNat_of_lt (by rw [BitVec.toNat_ofNat]; omega), BitVec.toNat_ofNat]; omega
  unfold IntOp.minsi
  rw [BitVec.slt, h a ha, h b hb]
  rcases Nat.lt_or_ge a b with hlt | hge
  · simp [min_eq_left hlt.le, hlt]
  · simp [min_eq_right hge, hge]

/-- The least word among the places of the maximum is the walk's place. -/
theorem fold_pick : Finset.univ.fold IntOp.minsi 2147483647#32
    (fun x : Fin 14 => if l x = Finset.univ.fold max (Ideal.ofBits .f32 0xFF800000#32) l then BitVec.ofNat 32 x.val
      else 14#32) = BitVec.ofNat 32 (pick l) := by
  rw [← best_max]
  obtain ⟨h1, h2, h3, h4⟩ := best_spec l 13 (by omega)
  have key : ∀ s : Finset (Fin 14), ∃ k : ℕ, k < 2 ^ 31 ∧ pick l ≤ k ∧ (Fin.ofNat 14 (pick l) ∈ s → k = pick l) ∧
      s.fold IntOp.minsi 2147483647#32 (fun x : Fin 14 => if l x = (best l 13).1 then BitVec.ofNat 32 x.val else 14#32)
        = BitVec.ofNat 32 k := by
    have hp := pick_lt l
    intro s
    induction s using Finset.induction_on with
    | empty => exact ⟨2147483647, by omega, by omega, fun h => absurd h (by simp), rfl⟩
    | insert a s ha ih =>
      obtain ⟨k, hk, hj, hm, hf⟩ := ih
      rw [Finset.fold_insert ha, hf]
      by_cases h : l a = (best l 13).1
      · rw [if_pos h, minsi_ofNat _ _ (by omega) hk]
        have hge : pick l ≤ a.val := Nat.le_of_not_lt fun hlt => absurd h (h4 a hlt).ne
        refine ⟨_, by omega, by omega, fun hmem => ?_, rfl⟩
        rcases Finset.mem_insert.1 hmem with e | e
        · have : a.val = pick l := by rw [← e]; exact Nat.mod_eq_of_lt hp
          omega
        · rw [hm e]; omega
      · rw [if_neg h, minsi_ofNat 14 _ (by omega) hk]
        refine ⟨_, by omega, by omega, fun hmem => ?_, rfl⟩
        rcases Finset.mem_insert.1 hmem with e | e
        · exact absurd (by rw [← e]; exact h2.symm) h
        · rw [hm e]; omega
  obtain ⟨k, -, -, hm, hf⟩ := key Finset.univ
  rw [hf, hm (Finset.mem_univ _)]

end Cert.Row

end
-- ==== Proof.KernelWindow.lean ====
module

public import proofs.«01_k».proof.Proof.KernelHistory
public import proofs.«01_k».proof.Proof.Argmax

/-!
# The body's window

The features are normalised and put through a perceptron; the first largest of its fourteen outputs is the window's size
index, from which the body works out the two offsets in 32-bit words.
-/

@[expose] public section

set_option maxRecDepth 16384

noncomputable section

namespace Cert.KernelIdeal.Body

open Idealize.ShloMosaic Idealize.SL.Sem Cert.KernelIdeal Cert.KernelIdeal.Gen

variable {F : FTy → Type} [FloatOps F]

/-- Reading a whole weight gives the weight. -/
theorem ld_whole {N K : ℕ} {e} (X : Vec F ⟨2, ![N, K]⟩ e)
    (inb : ∀ a, (![0, 0] : Fin 2 → ℕ) a + (⟨2, ![N, K]⟩ : Shape).size a ≤ (⟨2, ![N, K]⟩ : Shape).size a) :
    View.ld X (Rect.unit (![0, 0] : Fin 2 → ℕ) (⟨2, ![N, K]⟩ : Shape).size inb) = X := by
  refine View.ld_unit_zero ?_ inb X
  funext a
  match a with
  | 0 => rfl
  | 1 => rfl

/-- A row's mean, as a column. -/
def meanOf (X : FVec F S1024x35 .f32) : FVec F S1024x1 .f32 :=
  divf (shapeCast S1024x1 (multiReduction .add [1] S1024 X 0x00000000#32 reduces_S1024x35_S1024 (.inl rfl) rfl) shapeCasts_S1024_S1024x1)
    (broadcast S1024x1 (Scalar.ofBits .f32 0x420C0000#32))

/-- A row's sum of squared deviations from `m`, as a column. -/
def squaresOf (X : FVec F S1024x35 .f32) (m : FVec F S1024x1 .f32) : FVec F S1024x1 .f32 :=
  shapeCast S1024x1 (multiReduction .add [1] S1024
    (mulf (subf X (broadcastTo S1024x35 m broadcasts_S1024x1_S1024x35)) (subf X (broadcastTo S1024x35 m broadcasts_S1024x1_S1024x35)))
    0x00000000#32 reduces_S1024x35_S1024 (.inl rfl) rfl) shapeCasts_S1024_S1024x1

theorem meanOf_apply (X : FVec Ideal S1024x35 .f32) (r : Fin 1024) :
    meanOf X (ix2 r 0) = Row.mean35 (fun k => X (ix2 r k)) := by
  pointwise [meanOf]
  rfl

theorem squaresOf_apply (X : FVec Ideal S1024x35 .f32) (m : FVec Ideal S1024x1 .f32) (r : Fin 1024) :
    squaresOf X m (ix2 r 0) = ∑ k : Fin 35, (X (ix2 r k) - m (ix2 r 0)) * (X (ix2 r k) - m (ix2 r 0)) := by
  pointwise [squaresOf]

theorem pay62_apply (X : FVec Ideal S1024x35 .f32) (m s : FVec Ideal S1024x1 .f32) (g b : Vec Ideal S1x35 .f32)
    (W1 : Vec Ideal S35x64 .bf16) (b1 : Vec Ideal S1x64 .f32) (W2 : Vec Ideal S64x32 .bf16) (b2 : Vec Ideal S1x32 .f32)
    (W3 : Vec Ideal S32x14 .bf16) (r : Fin 1024) (n : Fin 14) :
    k0_pay62 X m s k0_pay61 g b W1 b1 W2 b2 W3 (ix2 r n) =
      ∑ j : Fin 32, Row.relu (fun k n => W2 (ix2 k n)) (fun n => b2 (ix2 0 n))
        (Row.relu (fun k n => W1 (ix2 k n)) (fun n => b1 (ix2 0 n))
          (fun k => Ideal.div (X (ix2 r k) - m (ix2 r 0))
            (Ideal.sqrt (Ideal.div (s (ix2 r 0)) (Ideal.ofBits .f32 0x420C0000#32) + Ideal.ofBits .f32 0x3727C5AC#32))
              * g (ix2 0 k) + b (ix2 0 k))) j * W3 (ix2 j n) := by
  pointwise [k0_pay62, k0_pay61]
  rfl

theorem pay63_apply (x : FVec Ideal S1024x14 .f32) (b : Vec Ideal S1x14 .f32) (r : Fin 1024) :
    k0_pay63 x b (ix2 r 0) = BitVec.ofNat 32 (Row.pick (fun n => x (ix2 r n) + b (ix2 0 n))) := by
  rw [← Row.fold_pick]
  pointwise [k0_pay63]

namespace Blk

theorem v550_eq (w : Blk F) : w.v550 = meanOf w.v546 := rfl

theorem v555_eq (w : Blk F) : w.v555 = squaresOf w.v546 (meanOf w.v546) := rfl

theorem v596_apply (w : Blk Ideal) (r : Fin 1024) (n : Fin 14) :
    w.v596 (ix2 r n) + w.x13 (ix2 0 n) = Row.logits w.net (w.seq r) n := by
  unfold Row.logits Row.hidden
  rw [← funext (fun k => w.v546_apply r k), v596, v550_eq, v555_eq]
  generalize w.v546 = X
  rw [pay62_apply, squaresOf_apply, meanOf_apply]
  rw [ld_whole w.x6, ld_whole w.x7, ld_whole w.x8, ld_whole w.x9, ld_whole w.x10, ld_whole w.x11, ld_whole w.x12]
  rfl

theorem pay63_net (w : Blk Ideal) (r : Fin 1024) :
    k0_pay63 w.v596 (View.ld w.x13 (Rect.unit ![0, 0] S1x14.size inb_S1x14_S1x14_0_0)) (ix2 r 0)
      = BitVec.ofNat 32 (Row.window w.net (w.seq r)) := by
  rw [pay63_apply]
  unfold Row.window
  congr 2
  funext n
  rw [← v596_apply, ld_whole]

theorem window_lt (p : Row.Net) (q : Row.Seq) : Row.window p q < 14 := Row.pick_lt _

/-- The offset of the window's first step before the present one. -/
theorem v635_apply (w : Blk Ideal) (r : Fin 1024) :
    w.v635 (ix2 r 0) = BitVec.ofNat 32 ((Row.window w.net (w.seq r) + 1) / 2) := by
  have h := w.pay63_net r
  have hn := window_lt w.net (w.seq r)
  revert h hn
  generalize Row.window w.net (w.seq r) = n
  rw [v635]
  intro h hn
  pointwise [k0_pay64]
  rw [h]
  clear h
  interval_cases n <;> rfl

/-- The offset of the window's last step after the present one. -/
theorem v661_apply (w : Blk Ideal) (r : Fin 1024) :
    w.v661 (ix2 r 0) = BitVec.ofNat 32 ((Row.window w.net (w.seq r) + 2) / 2) := by
  have h := w.pay63_net r
  have hn := window_lt w.net (w.seq r)
  revert h hn
  generalize Row.window w.net (w.seq r) = n
  rw [v661, v637, v639]
  intro h hn
  pointwise [k0_pay68, k0_pay67, k0_pay66, k0_pay65]
  rw [h]
  clear h
  interval_cases n <;> rfl

end Blk

end Cert.KernelIdeal.Body

end
-- ==== Proof.KernelEncoder.lean ====
module

public import proofs.«01_k».proof.Proof.KernelWindow

/-!
# The body's two encoders and its results

Eight recurrent steps forward and eight backward, each kept only where the window reaches it, then the head. A row of the
results is `Row.mu` and `Row.sigma` of the row's inputs.
-/

@[expose] public section

set_option maxRecDepth 16384

noncomputable section

namespace Cert.KernelIdeal.Body

open Idealize.ShloMosaic Idealize.SL.Sem Cert.KernelIdeal Cert.KernelIdeal.Gen

variable {F : FTy → Type} [FloatOps F]

/-- A recurrent step with 64 states, kept only in the rows whose offset `s` is at least `k`. -/
def cell64 (k : BitVec 32) (s : IVec S1024x1 32) (gi : FVec F S1024x192 .f32) (W : FVec F S64x192 .bf16)
    (b : FVec F S1x192 .f32) (h : FVec F S1024x64 .f32) : FVec F S1024x64 .f32 :=
  have gh : FVec F S1024x192 .f32 := addf (matmul dot_S1024x64_S64x192_S1024x192_1_0_0_1_n_n none
    (truncf .bf16 h bitsLt_bf16_f32) W (constant S1024x192 .f32 0x00000000#32))
    (broadcastTo S1024x192 b broadcasts_S1x192_S1024x192)
  have r := logistic (addf (extractStridedSlice S1024x64 ![0, 0] gi slices_S1024x192_o0_0_S1024x64)
    (extractStridedSlice S1024x64 ![0, 0] gh slices_S1024x192_o0_0_S1024x64))
  have z := logistic (addf (extractStridedSlice S1024x64 ![0, 64] gi slices_S1024x192_o0_64_S1024x64)
    (extractStridedSlice S1024x64 ![0, 64] gh slices_S1024x192_o0_64_S1024x64))
  have n := tanh (addf (extractStridedSlice S1024x64 ![0, 128] gi slices_S1024x192_o0_128_S1024x64)
    (mulf r (extractStridedSlice S1024x64 ![0, 128] gh slices_S1024x192_o0_128_S1024x64)))
  select (broadcastTo S1024x64 (shapeCast S1024x1 (cmpi .sge s (broadcast S1024x1 k)) shapeCasts_S1024x1_S1024x1)
      broadcasts_S1024x1_S1024x64)
    (addf (mulf (subf (broadcast S1024x64 (Scalar.ofBits .f32 0x3F800000#32)) z) n) (mulf z h)) h

theorem cell64_apply (k : BitVec 32) (s : IVec S1024x1 32) (gi : FVec Ideal S1024x192 .f32) (W : FVec Ideal S64x192 .bf16)
    (b : FVec Ideal S1x192 .f32) (h : FVec Ideal S1024x64 .f32) (r : Fin 1024) (j : Fin 64) :
    cell64 k s gi W b h (ix2 r j) = Scalar.select (IntOp.cmpi .sge (s (ix2 r 0)) k)
      (Row.gru (H := 192) rfl (fun k n => W (ix2 k n)) (fun n => b (ix2 0 n)) (fun n => gi (ix2 r n)) (fun k => h (ix2 r k)) j)
      (h (ix2 r j)) := by
  pointwise [cell64]
  rfl

/-- One layer of the head on a matrix of rows. -/
def layer1 (x : FVec F S1024x128 .f32) (W1 : Vec F S128x64 .bf16) (b1 : Vec F S1x64 .f32) : FVec F S1024x64 .f32 :=
  maximumf (addf (matmul dot_S1024x128_S128x64_S1024x64_1_0_0_1_n_n none
        (truncf .bf16 x bitsLt_bf16_f32)
        (shapeCast S128x64 W1 shapeCasts_S128x64_S128x64) (constant S1024x64 .f32 0x00000000#32))
        (broadcastTo S1024x64 (shapeCast S1x64 b1 shapeCasts_S1x64_S1x64) broadcasts_S1x64_S1024x64))
        (broadcast S1024x64 (Scalar.ofBits .f32 0x00000000#32))

theorem layer1_apply (x : FVec Ideal S1024x128 .f32) (W1 : Vec Ideal S128x64 .bf16) (b1 : Vec Ideal S1x64 .f32) (r : Fin 1024)
    (n : Fin 64) : layer1 x W1 b1 (ix2 r n) = Row.relu (fun k n => W1 (ix2 k n)) (fun n => b1 (ix2 0 n)) (fun k => x (ix2 r k)) n := by
  pointwise [layer1]
  rfl

theorem pair_apply (f b : FVec Ideal S1024x64 .f32) (r : Fin 1024) (k : Fin 128) :
    concatenate S1024x128 1 [⟨S1024x64, f⟩, ⟨S1024x64, b⟩] concatenates_S1024x64_S1024x64_S1024x128_d1 (ix2 r k)
      = Row.cat2 (fun j => f (ix2 r j)) (fun j => b (ix2 r j)) k := by
  pointwise
  rfl

/-- The second layer of the head. -/
def layer2 (x : FVec F S1024x64 .f32) (W2 : Vec F S64x64 .bf16) (b2 : Vec F S1x64 .f32) : FVec F S1024x64 .f32 :=
  addf (matmul dot_S1024x64_S64x64_S1024x64_1_0_0_1_n_n none (truncf .bf16 x bitsLt_bf16_f32)
      (shapeCast S64x64 W2 shapeCasts_S64x64_S64x64) (constant S1024x64 .f32 0x00000000#32))
    (broadcastTo S1024x64 (shapeCast S1x64 b2 shapeCasts_S1x64_S1x64) broadcasts_S1x64_S1024x64)

theorem layer2_apply (x : FVec Ideal S1024x64 .f32) (W2 : Vec Ideal S64x64 .bf16) (b2 : Vec Ideal S1x64 .f32) (r : Fin 1024)
    (n : Fin 64) : layer2 x W2 b2 (ix2 r n) = Row.lin (fun k n => W2 (ix2 k n)) (fun n => b2 (ix2 0 n)) (fun k => x (ix2 r k)) n := by
  pointwise [layer2]
  rfl

/-- The head: two layers on the two end states. -/
def encodeOf (f b : FVec F S1024x64 .f32) (W1 : Vec F S128x64 .bf16) (b1 : Vec F S1x64 .f32) (W2 : Vec F S64x64 .bf16)
    (b2 : Vec F S1x64 .f32) : FVec F S1024x64 .f32 :=
  layer2 (layer1 (concatenate S1024x128 1 [⟨S1024x64, f⟩, ⟨S1024x64, b⟩] concatenates_S1024x64_S1024x64_S1024x128_d1) W1 b1) W2 b2

theorem encodeOf_apply (f b : FVec Ideal S1024x64 .f32) (W1 : Vec Ideal S128x64 .bf16) (b1 : Vec Ideal S1x64 .f32)
    (W2 : Vec Ideal S64x64 .bf16) (b2 : Vec Ideal S1x64 .f32) (r : Fin 1024) (n : Fin 64) :
    encodeOf f b W1 b1 W2 b2 (ix2 r n) = Row.lin (fun k n => W2 (ix2 k n)) (fun n => b2 (ix2 0 n))
      (Row.relu (fun k n => W1 (ix2 k n)) (fun n => b1 (ix2 0 n)) (Row.cat2 (fun j => f (ix2 r j)) (fun j => b (ix2 r j)))) n := by
  rw [← funext (fun k => pair_apply f b r k), encodeOf, layer2_apply]
  congr 1
  funext k
  exact layer1_apply _ W1 b1 r k

theorem pay121_apply (x : FVec Ideal S1024x64 .f32) (W : Vec Ideal S64x64 .bf16) (b : Vec Ideal S1x64 .f32) (r : Fin 1024)
    (n : Fin 64) : k0_pay121 x W b (ix2 r n) = Row.lin (fun k n => W (ix2 k n)) (fun n => b (ix2 0 n)) (fun k => x (ix2 r k)) n := by
  pointwise [k0_pay121]
  rfl

theorem pay122_apply (x : FVec Ideal S1024x64 .f32) (W : Vec Ideal S64x64 .bf16) (b : Vec Ideal S1x64 .f32) (r : Fin 1024)
    (n : Fin 64) : k0_pay122 x W b (ix2 r n) = Ideal.exp (Ideal.ofBits .f32 0x3F000000#32 *
      Row.lin (fun k n => W (ix2 k n)) (fun n => b (ix2 0 n)) (fun k => x (ix2 r k)) n) := by
  pointwise [k0_pay122]
  rfl

theorem pay69_apply (x : FVec Ideal S22528x80 .bf16) (W : Vec Ideal S80x192 .bf16) (b : Vec Ideal S1x192 .f32) (i : Fin 8192)
    (n : Fin 192) :
    k0_pay69 x W b (ix2 i n) = Row.lin (fun k n => W (ix2 k n)) (fun n => b (ix2 0 n)) (fun k => x (ix2 ⟨7168 + i, by omega⟩ k)) n := by
  pointwise [k0_pay69]
  rfl

theorem pay70_apply (x : FVec Ideal S22528x80 .bf16) (W : Vec Ideal S80x192 .bf16) (b : Vec Ideal S1x192 .f32) (i : Fin 8192)
    (n : Fin 192) :
    k0_pay70 x W b (ix2 i n) = Row.lin (fun k n => W (ix2 k n)) (fun n => b (ix2 0 n)) (fun k => x (ix2 ⟨14336 + i, by omega⟩ k)) n := by
  pointwise [k0_pay70]
  rfl

/-- Whether step `i` counts, in words and in numbers. -/
theorem reaches (d : ℕ) (hd : d < 8) (i : ℕ) :
    IntOp.cmpi .sge (BitVec.ofNat 32 d) (BitVec.ofNat 32 (7 - i)) = BitVec.ofBool (decide (7 - i ≤ d)) := by
  have h : 7 - i < 8 := by omega
  generalize 7 - i = k at h
  interval_cases d <;> interval_cases k <;> rfl

theorem select_ofBool (c : Bool) (a b : EReal) : Scalar.select (BitVec.ofBool c) a b = bif c then a else b := by
  cases c <;> rfl

theorem slices_eighth (t : Fin 8) : S8192x192.Slices ![1024 * t.val, 0] S1024x192 := by
  refine ⟨rfl, fun a => ?_⟩
  match a with
  | 0 => show 1024 * t.val + 1024 ≤ 8192; omega
  | 1 => show 0 + 192 ≤ 192; omega

/-- Rows `1024 t` on of the encoder's input gates. -/
def eighth (g : FVec F S8192x192 .f32) (t : Fin 8) : FVec F S1024x192 .f32 :=
  extractStridedSlice S1024x192 ![1024 * t.val, 0] g (slices_eighth t)

theorem eighth_apply (g : FVec Ideal S8192x192 .f32) (t : Fin 8) (r : Fin 1024) (n : Fin 192) :
    eighth g t (ix2 r n) = g (ix2 ⟨1024 * t.val + r, by omega⟩ n) := by
  pointwise [eighth]

namespace Blk

/-- The forward state after `n` steps. -/
def front (w : Blk F) : ℕ → FVec F S1024x64 .f32
  | 0 => broadcast S1024x64 (Scalar.ofBits .f32 0x00000000#32)
  | n + 1 => cell64 (BitVec.ofNat 32 (7 - n)) w.v635 (eighth w.v669 (Fin.ofNat 8 n)) w.v679 w.v681 (w.front n)

/-- The backward state after `n` steps. -/
def back (w : Blk F) : ℕ → FVec F S1024x64 .f32
  | 0 => broadcast S1024x64 (Scalar.ofBits .f32 0x00000000#32)
  | n + 1 => cell64 (BitVec.ofNat 32 (7 - n)) w.v661 (eighth w.v677 (Fin.ofNat 8 (7 - n))) w.v683 w.v685 (w.back n)

/-- A forward step as the body writes it. -/
def ahead (w : Blk F) (n : ℕ) (h : FVec F S1024x64 .f32) : FVec F S1024x64 .f32 :=
  cell64 (BitVec.ofNat 32 (7 - n)) w.v635 (eighth w.v669 (Fin.ofNat 8 n)) w.v679 w.v681 h

/-- A backward step as the body writes it. -/
def behind (w : Blk F) (n : ℕ) (h : FVec F S1024x64 .f32) : FVec F S1024x64 .f32 :=
  cell64 (BitVec.ofNat 32 (7 - n)) w.v661 (eighth w.v677 (Fin.ofNat 8 (7 - n))) w.v683 w.v685 h

theorem v715_eq (w : Blk F) : w.v715 = w.ahead 0 (w.front 0) := rfl
theorem v771_eq (w : Blk F) : w.v771 = w.ahead 1 w.v715 := rfl
theorem v827_eq (w : Blk F) : w.v827 = w.ahead 2 w.v771 := rfl
theorem v883_eq (w : Blk F) : w.v883 = w.ahead 3 w.v827 := rfl
theorem v939_eq (w : Blk F) : w.v939 = w.ahead 4 w.v883 := rfl
theorem v995_eq (w : Blk F) : w.v995 = w.ahead 5 w.v939 := rfl
theorem v1051_eq (w : Blk F) : w.v1051 = w.ahead 6 w.v995 := rfl
theorem v1107_eq (w : Blk F) : w.v1107 = w.ahead 7 w.v1051 := rfl

theorem v743_eq (w : Blk F) : w.v743 = w.behind 0 (w.back 0) := rfl
theorem v799_eq (w : Blk F) : w.v799 = w.behind 1 w.v743 := rfl
theorem v855_eq (w : Blk F) : w.v855 = w.behind 2 w.v799 := rfl
theorem v911_eq (w : Blk F) : w.v911 = w.behind 3 w.v855 := rfl
theorem v967_eq (w : Blk F) : w.v967 = w.behind 4 w.v911 := rfl
theorem v1023_eq (w : Blk F) : w.v1023 = w.behind 5 w.v967 := rfl
theorem v1079_eq (w : Blk F) : w.v1079 = w.behind 6 w.v1023 := rfl

theorem v1154_eq (w : Blk F) : w.v1154 = encodeOf w.v1107 (w.behind 7 w.v1079)
    (View.ld w.x22 (Rect.unit ![0, 0] S128x64.size inb_S128x64_S128x64_0_0))
    (View.ld w.x23 (Rect.unit ![0, 0] S1x64.size inb_S1x64_S1x64_0_0))
    (View.ld w.x24 (Rect.unit ![0, 0] S64x64.size inb_S64x64_S64x64_0_0))
    (View.ld w.x25 (Rect.unit ![0, 0] S1x64.size inb_S1x64_S1x64_0_0)) := rfl

theorem front8 (w : Blk F) : w.v1107 = w.front 8 := by
  rw [v1107_eq, v1051_eq, v995_eq, v939_eq, v883_eq, v827_eq, v771_eq, v715_eq]; rfl

theorem back8 (w : Blk F) : w.behind 7 w.v1079 = w.back 8 := by
  rw [v1079_eq, v1023_eq, v967_eq, v911_eq, v855_eq, v799_eq, v743_eq]; rfl

theorem forward_gates (w : Blk Ideal) (r : Fin 1024) (t : Fin 8) (n : Fin 192) :
    eighth w.v669 t (ix2 r n) = Row.lin w.net.fWi w.net.fbi ((w.seq r).x (7 + t.val)) n := by
  have hx := fun k => w.v187_apply ⟨7 + t, by omega⟩ r k ⟨7168 + (1024 * t.val + r.val), by omega⟩ (by show 7168 + (1024 * t.val + r.val) = 1024 * (7 + t.val) + r.val; omega)
  have e : (Fin.ofNat 22 (7 + t.val)) = ⟨7 + t, by omega⟩ := Fin.ext (Nat.mod_eq_of_lt (by omega))
  unfold Row.Seq.x
  rw [e, ← funext hx, eighth_apply, v669, pay69_apply]
  rw [ld_whole w.x14, ld_whole w.x16]
  rfl

theorem backward_gates (w : Blk Ideal) (r : Fin 1024) (t : Fin 8) (n : Fin 192) :
    eighth w.v677 t (ix2 r n) = Row.lin w.net.kWi w.net.kbi ((w.seq r).x (14 + t.val)) n := by
  have hx := fun k => w.v187_apply ⟨14 + t, by omega⟩ r k ⟨14336 + (1024 * t.val + r.val), by omega⟩ (by show 14336 + (1024 * t.val + r.val) = 1024 * (14 + t.val) + r.val; omega)
  have e : (Fin.ofNat 22 (14 + t.val)) = ⟨14 + t, by omega⟩ := Fin.ext (Nat.mod_eq_of_lt (by omega))
  unfold Row.Seq.x
  rw [e, ← funext hx, eighth_apply, v677, pay70_apply]
  rw [ld_whole w.x18, ld_whole w.x20]
  rfl

theorem front_apply (w : Blk Ideal) (r : Fin 1024) (n : ℕ) (hn : n ≤ 8) (j : Fin 64) :
    w.front n (ix2 r j) = Row.forward w.net (w.seq r) n j := by
  induction n generalizing j with
  | zero =>
    show (_ : EReal) = 0
    pointwise [front]
  | succ n ih =>
    have e : (Fin.ofNat 8 n).val = n := Nat.mod_eq_of_lt (by omega)
    have hw := window_lt w.net (w.seq r)
    have hW : (fun (k : Fin 64) (n : Fin 192) => w.v679 (ix2 k n)) = w.net.fWh := by
      funext k n; pointwise [v679, k0_pay71]; rfl
    have hb : (fun n : Fin 192 => w.v681 (ix2 0 n)) = w.net.fbh := by
      funext n; pointwise [v681, k0_pay72]; rfl
    show cell64 _ _ _ _ _ _ _ = _
    rw [cell64_apply, hW, hb, v635_apply, reaches _ (by omega), select_ofBool, ih (by omega), funext (fun k => ih (by omega) k),
      funext (fun k => w.forward_gates r _ k), e]
    show _ = (bif decide (7 - n ≤ (Row.window w.net (w.seq r) + 1) / 2) then Row.gru rfl _ _ _ _ else _) j
    cases decide (7 - n ≤ (Row.window w.net (w.seq r) + 1) / 2) <;> rfl

theorem back_apply (w : Blk Ideal) (r : Fin 1024) (n : ℕ) (hn : n ≤ 8) (j : Fin 64) :
    w.back n (ix2 r j) = Row.backward w.net (w.seq r) n j := by
  induction n generalizing j with
  | zero =>
    show (_ : EReal) = 0
    pointwise [back]
  | succ n ih =>
    have e : 14 + (Fin.ofNat 8 (7 - n)).val = 21 - n := by
      have : (Fin.ofNat 8 (7 - n)).val = 7 - n := Nat.mod_eq_of_lt (by omega)
      omega
    have hw := window_lt w.net (w.seq r)
    have hW : (fun (k : Fin 64) (n : Fin 192) => w.v683 (ix2 k n)) = w.net.kWh := by
      funext k n; pointwise [v683, k0_pay73]; rfl
    have hb : (fun n : Fin 192 => w.v685 (ix2 0 n)) = w.net.kbh := by
      funext n; pointwise [v685, k0_pay74]; rfl
    show cell64 _ _ _ _ _ _ _ = _
    rw [cell64_apply, hW, hb, v661_apply, reaches _ (by omega), select_ofBool, ih (by omega), funext (fun k => ih (by omega) k),
      funext (fun k => w.backward_gates r _ k), e]
    show _ = (bif decide (7 - n ≤ (Row.window w.net (w.seq r) + 2) / 2) then Row.gru rfl _ _ _ _ else _) j
    cases decide (7 - n ≤ (Row.window w.net (w.seq r) + 2) / 2) <;> rfl

theorem v1154_apply (w : Blk Ideal) (r : Fin 1024) (n : Fin 64) : w.v1154 (ix2 r n) =
    Row.encode w.net (Row.forward w.net (w.seq r) 8) (Row.backward w.net (w.seq r) 8) n := by
  rw [← funext (fun j => w.front_apply r 8 le_rfl j), ← funext (fun j => w.back_apply r 8 le_rfl j), v1154_eq, back8, front8,
    encodeOf_apply]
  rw [ld_whole w.x22, ld_whole w.x23, ld_whole w.x24, ld_whole w.x25]
  rfl

/-- A row of the block's first result. -/
theorem mu_apply (w : Blk Ideal) (r : Fin 1024) (n : Fin 64) : w.mu (ix2 r n) = Row.mu w.net (w.seq r) n := by
  unfold Row.mu
  rw [← funext (fun j => w.v1154_apply r j), mu, pay121_apply]
  rw [ld_whole w.x26, ld_whole w.x27]
  rfl

/-- A row of the block's second result. -/
theorem sigma_apply (w : Blk Ideal) (r : Fin 1024) (n : Fin 64) : w.sigma (ix2 r n) = Row.sigma w.net (w.seq r) n := by
  unfold Row.sigma
  rw [← funext (fun j => w.v1154_apply r j), sigma, pay122_apply]
  rw [ld_whole w.x28, ld_whole w.x29]
  rfl

end Blk

end Cert.KernelIdeal.Body

end
-- ==== Proof.KernelValue.lean ====
module

public import proofs.«01_k».proof.Proof.KernelArgs
public import proofs.«01_k».proof.Proof.KernelEncoder
public import Idealize.ShloMosaic.Lib.Pipeline.Value

/-!
# The two result arrays

Grid point `t` writes rows `1024 t` to `1024 t + 1023` of both results and no other point writes them, so row `R` of a result
array is row `R % 1024` of the block that point `R / 1024` stored.
-/

@[expose] public section

set_option maxRecDepth 16384

noncomputable section

namespace Cert.KernelIdeal.Body

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg)

/-- Both results' windows move one block of rows down per point. -/
theorem out_rows : ∀ t : Fin cfg0.N, (win0_30.index t 0 = t.val ∧ win0_30.index t 1 = 0) ∧ (win0_31.index t 0 = t.val ∧ win0_31.index t 1 = 0) :=
  (by decide +kernel : ∀ t : Fin grid0.N, (win0_30.index t 0 = t.val ∧ win0_30.index t 1 = 0) ∧ (win0_31.index t 0 = t.val ∧ win0_31.index t 1 = 0))

/-- Every point writes both results back. -/
theorem out_flush : ∀ t : Fin cfg0.N, (cfg0.win 30).flush t = true ∧ (cfg0.win 31).flush t = true :=
  (by decide +kernel : ∀ t : Fin grid0.N, (cfg0.win 30).flush t = true ∧ (cfg0.win 31).flush t = true)

theorem apart30 : ∀ t t' : Fin cfg0.N, (cfg0.win 30).flush t = true → (cfg0.win 30).flush t' = true → t ≠ t' →
    Disjoint ((cfg0.win 30).blk t).view.set ((cfg0.win 30).blk t').view.set :=
  fun t t' _ _ hne => (cfg0.win 30).disjoint_blk fun h => hne (by
    have e : win0_30.index t 0 = win0_30.index t' 0 := congrFun h 0
    rw [(out_rows t).1.1, (out_rows t').1.1] at e
    exact Fin.ext e)

theorem apart31 : ∀ t t' : Fin cfg0.N, (cfg0.win 31).flush t = true → (cfg0.win 31).flush t' = true → t ≠ t' →
    Disjoint ((cfg0.win 31).blk t).view.set ((cfg0.win 31).blk t').view.set :=
  fun t t' _ _ hne => (cfg0.win 31).disjoint_blk fun h => hne (by
    have e : win0_31.index t 0 = win0_31.index t' 0 := congrFun h 0
    rw [(out_rows t).2.1, (out_rows t').2.1] at e
    exact Fin.ext e)

theorem emb_mu (t : Fin cfg0.N) (r : Fin 1024) (n : Fin 64) (R : Fin 16384) (hR : R.val = 1024 * t.val + r.val) :
    (win0_30.blk t).view.emb (ix2 r n) = (ix2 R n : S16384x64.Idx) := by
  have h := out_rows t
  blk_ext [h]

theorem emb_sigma (t : Fin cfg0.N) (r : Fin 1024) (n : Fin 64) (R : Fin 16384) (hR : R.val = 1024 * t.val + r.val) :
    (win0_31.blk t).view.emb (ix2 r n) = (ix2 R n : S16384x64.Idx) := by
  have h := out_rows t
  blk_ext [h]

/-- What the launch leaves in the first result array. -/
theorem mu_row (c : Dev nD) (R : Fin 16384) (n : Fin 64) :
    ((dats m 0 c).arrAt 30 cfg0.N : FVec Ideal S16384x64 .f32) (ix2 R n) = Row.mu (argNet m c) (argSeq m c R) n := by
  have hN : cfg0.N = 16 := by decide +kernel
  let t : Fin cfg0.N := ⟨R.val / 1024, by omega⟩
  let r : Fin 1024 := ⟨R.val % 1024, by omega⟩
  have hR : R.val = 1024 * t.val + r.val := by show R.val = 1024 * (R.val / 1024) + R.val % 1024; omega
  have hb := (dats m 0 c).read_blk_arrAt_eq_flushed 30 apart30 cfg0.N t t.isLt (out_flush t).1
  have hf : (dats m 0 c).flushed 30 t = (cfg0.win 30).cut (grid0.coords t) ((outsAt0 m c t).1) := by
    show (cfg0.win 30).cut (grid0.coords t) ((dats m 0 c).after 30 t) = _
    rw [after0_30]
  rw [hf, outs_mu] at hb
  have he := congrFun hb (ix2 r n)
  have hl : ((cfg0.win 30).blk t).view.read (Elt Ideal) ((dats m 0 c).arrAt 30 cfg0.N) (ix2 r n)
      = ((dats m 0 c).arrAt 30 cfg0.N : FVec Ideal S16384x64 .f32) ((win0_30.blk t).view.emb (ix2 r n)) := rfl
  rw [hl, emb_mu t r n R hR] at he
  refine he.trans ?_
  show (blkAt m c t).mu (ix2 r n) = _
  rw [Blk.mu_apply, net_blkAt, seq_blkAt m c t r R hR]

/-- What the launch leaves in the second result array. -/
theorem sigma_row (c : Dev nD) (R : Fin 16384) (n : Fin 64) :
    ((dats m 0 c).arrAt 31 cfg0.N : FVec Ideal S16384x64 .f32) (ix2 R n) = Row.sigma (argNet m c) (argSeq m c R) n := by
  have hN : cfg0.N = 16 := by decide +kernel
  let t : Fin cfg0.N := ⟨R.val / 1024, by omega⟩
  let r : Fin 1024 := ⟨R.val % 1024, by omega⟩
  have hR : R.val = 1024 * t.val + r.val := by show R.val = 1024 * (R.val / 1024) + R.val % 1024; omega
  have hb := (dats m 0 c).read_blk_arrAt_eq_flushed 31 apart31 cfg0.N t t.isLt (out_flush t).2
  have hf : (dats m 0 c).flushed 31 t = (cfg0.win 31).cut (grid0.coords t) ((outsAt0 m c t).2) := by
    show (cfg0.win 31).cut (grid0.coords t) ((dats m 0 c).after 31 t) = _
    rw [after0_31]
  rw [hf, outs_sigma] at hb
  have he := congrFun hb (ix2 r n)
  have hl : ((cfg0.win 31).blk t).view.read (Elt Ideal) ((dats m 0 c).arrAt 31 cfg0.N) (ix2 r n)
      = ((dats m 0 c).arrAt 31 cfg0.N : FVec Ideal S16384x64 .f32) ((win0_31.blk t).view.emb (ix2 r n)) := rfl
  rw [hl, emb_sigma t r n R hR] at he
  refine he.trans ?_
  show (blkAt m c t).sigma (ix2 r n) = _
  rw [Blk.sigma_apply, net_blkAt, seq_blkAt m c t r R hR]

/-- The kernel's run leaves the two arrays described by `mu_row` and `sigma_row`. -/
theorem results : θ_run defs (onTc (τ := τ) (main (F := Ideal))) ⟨m, fun _ => 0, ρ⟩ fun r => ∀ c : Dev nD,
    r.2.mem ((c.tc : Thread nD τ).loc main_v43_0) = (dats m 0 c).arrAt 30 cfg0.N ∧
    r.2.mem ((c.tc : Thread nD τ).loc main_v43_1) = (dats m 0 c).arrAt 31 cfg0.N :=
  (θ_run defs _ _).mono (fun _ h c => ⟨(h c).1 30, (h c).1 31⟩) (run_main m ρ)

end Cert.KernelIdeal.Body

end
-- ==== Proof.ReferenceOps.lean ====
module

public import proofs.«01_k».proof.Proof.Gen.ReferenceIdeal
public import proofs.«01_k».proof.Proof.Row

/-!
# The reference's operations on the batch

The reference works on the whole batch at once. Each group of its operations is named here as a function of matrices, and
its value in a row is a function of `Row`.
-/

@[expose] public section

set_option maxRecDepth 16384

noncomputable section

namespace Cert.ReferenceIdeal.Batch

open Cert.ReferenceIdeal Cert.ReferenceIdeal.Gen Idealize.ShloMosaic Idealize.ShloMosaic.TcCoe Idealize.SL.Sem

variable {F : FTy → Type} [FloatOps F]

/-! ## The statistics -/

/-- A row's exponentials, shifted by the row's maximum. -/
def shiftedExp (x : FVec F S16384x64 .f32) : FVec F S16384x64 .f32 :=
  Host.exp (subf x (broadcastInDim S16384x64 ![0, 1] bcast_S16384x1_S16384x64_0_1 (broadcastInDim S16384x1 ![0] bcast_S16384_S16384x1_0
    (maximumf (broadcastInDim S16384 ![] bcast_S_S16384 (constant S_ .f32 0xFF800000#32))
      (Host.reduce FloatOps.maximumf x (constant S_ .f32 0xFF800000#32) reducesTo_S16384x64_S16384_d1 h_S_)))))

/-- Each row over its sum. -/
def normalised (x : FVec F S16384x64 .f32) : FVec F S16384x64 .f32 :=
  Host.divf x (broadcastInDim S16384x64 ![0, 1] bcast_S16384x1_S16384x64_0_1 (broadcastInDim S16384x1 ![0] bcast_S16384_S16384x1_0
    (Host.reduceAdd x (constant S_ .f32 0x00000000#32) reducesTo_S16384x64_S16384_d1 h_S_)))

/-- The entropy of rows of probabilities. -/
def entropyOf (p : FVec F S16384x64 .f32) : FVec F S16384x1 .f32 :=
  Host.negf (broadcastInDim S16384x1 ![0] bcast_S16384_S16384x1_0 (Host.reduceAdd
    (mulf p (Host.log (addf p (broadcastInDim S16384x64 ![] bcast_S_S16384x64 (constant S_ .f32 0x322BCC77#32)))))
    (constant S_ .f32 0x00000000#32) reducesTo_S16384x64_S16384_d1 h_S_))

/-- The lengths of rows, as a column. -/
def lengthOf (d : FVec F S16384x64 .f32) : FVec F S16384x1 .f32 :=
  broadcastInDim S16384x1 ![0] bcast_S16384_S16384x1_0
    (Host.sqrt (Host.reduceAdd (mulf d d) (constant S_ .f32 0x00000000#32) reducesTo_S16384x64_S16384_d1 h_S_))

/-- The mean of three columns. -/
def meanOfThree (a b c : FVec F S16384x1 .f32) : FVec F S16384x1 .f32 :=
  Host.divf (broadcastInDim S16384x1 ![0] bcast_S16384_S16384x1_0 (Host.reduceAdd
    (concatenate S16384x3 1 [⟨S16384x1, a⟩, ⟨S16384x1, b⟩, ⟨S16384x1, c⟩] concatenates_S16384x1_S16384x1_S16384x1_S16384x3_d1)
    (constant S_ .f32 0x00000000#32) reducesTo_S16384x3_S16384_d1 h_S_))
    (broadcastInDim S16384x1 ![] bcast_S_S16384x1 (constant S_ .f32 0x40400000#32))

/-- Rows less their means. -/
def centredOf (x : FVec F S16384x64 .f32) : FVec F S16384x64 .f32 :=
  subf x (broadcastInDim S16384x64 ![0, 1] bcast_S16384x1_S16384x64_0_1 (Host.divf (broadcastInDim S16384x1 ![0] bcast_S16384_S16384x1_0
    (Host.reduceAdd x (constant S_ .f32 0x00000000#32) reducesTo_S16384x64_S16384_d1 h_S_))
    (broadcastInDim S16384x1 ![] bcast_S_S16384x1 (constant S_ .f32 0x42800000#32))))

/-- The correlation of centred rows. -/
def corrOf (x y : FVec F S16384x64 .f32) : FVec F S16384x1 .f32 :=
  Host.divf (broadcastInDim S16384x1 ![0] bcast_S16384_S16384x1_0 (Host.reduceAdd (mulf x y) (constant S_ .f32 0x00000000#32) reducesTo_S16384x64_S16384_d1 h_S_))
    (addf (mulf
        (Host.sqrt (broadcastInDim S16384x1 ![0] bcast_S16384_S16384x1_0 (Host.reduceAdd (mulf x x) (constant S_ .f32 0x00000000#32) reducesTo_S16384x64_S16384_d1 h_S_)))
        (Host.sqrt (broadcastInDim S16384x1 ![0] bcast_S16384_S16384x1_0 (Host.reduceAdd (mulf y y) (constant S_ .f32 0x00000000#32) reducesTo_S16384x64_S16384_d1 h_S_))))
      (broadcastInDim S16384x1 ![] bcast_S_S16384x1 (constant S_ .f32 0x322BCC77#32)))

theorem shiftedExp_apply (x : FVec Ideal S16384x64 .f32) (r : Fin 16384) (k : Fin 64) :
    shiftedExp x (ix2 r k) = Ideal.exp (x (ix2 r k) - max (Ideal.ofBits .f32 0xFF800000#32) (Row.rowMax (fun k => x (ix2 r k)))) := by
  pointwise [shiftedExp]
  rfl

theorem max_rowMax {n : ℕ} (x : Fin n → EReal) : max (Ideal.ofBits .f32 0xFF800000#32) (Row.rowMax x) = Row.rowMax x :=
  max_eq_right ((Finset.le_fold_max _).2 (.inl le_rfl))

theorem normalised_apply (x : FVec Ideal S16384x64 .f32) (r : Fin 16384) (k : Fin 64) :
    normalised x (ix2 r k) = Ideal.div (x (ix2 r k)) (∑ l, x (ix2 r l)) := by
  pointwise [normalised]

theorem entropyOf_apply (p : FVec Ideal S16384x64 .f32) (r : Fin 16384) :
    entropyOf p (ix2 r 0) = 0 - ∑ k : Fin 64, p (ix2 r k) * Ideal.log (p (ix2 r k) + Ideal.ofBits .f32 0x322BCC77#32) := by
  rw [zero_sub]
  pointwise [entropyOf]

theorem lengthOf_apply (d : FVec Ideal S16384x64 .f32) (r : Fin 16384) :
    lengthOf d (ix2 r 0) = Ideal.sqrt (∑ k : Fin 64, d (ix2 r k) * d (ix2 r k)) := by
  pointwise [lengthOf]

theorem meanOfThree_apply (a b c : FVec Ideal S16384x1 .f32) (r : Fin 16384) :
    meanOfThree a b c (ix2 r 0) = Ideal.div (a (ix2 r 0) + b (ix2 r 0) + c (ix2 r 0)) (Ideal.ofBits .f32 0x40400000#32) := by
  pointwise [meanOfThree]
  rw [Fin.sum_univ_three]
  rfl

theorem centredOf_apply (x : FVec Ideal S16384x64 .f32) (r : Fin 16384) (k : Fin 64) :
    centredOf x (ix2 r k) = Row.centred (fun k => x (ix2 r k)) k := by
  pointwise [centredOf]
  rfl

theorem corrOf_apply (x y : FVec Ideal S16384x64 .f32) (r : Fin 16384) :
    corrOf x y (ix2 r 0) = Ideal.div (∑ k : Fin 64, x (ix2 r k) * y (ix2 r k))
      (Ideal.sqrt (∑ k : Fin 64, x (ix2 r k) * x (ix2 r k)) * Ideal.sqrt (∑ k : Fin 64, y (ix2 r k) * y (ix2 r k))
        + Ideal.ofBits .f32 0x322BCC77#32) := by
  pointwise [corrOf]

/-! ## The history network -/

/-- A layer with 96 outputs on the batch. -/
def layer96 (x : FVec F S16384x80 .f32) (W : FVec F S80x96 .f32) (b : FVec F S1x96 .f32) : FVec F S16384x96 .f32 :=
  addf (Host.dotGeneral dot_S16384x80_S80x96_S16384x96_1_0_0_1_n_n none x W) (broadcastInDim S16384x96 ![0, 1] bcast_S1x96_S16384x96_0_1 b)

/-- A recurrent step of the batch. -/
def cell32 (one : FVec F S16384x32 .f32) (gi : FVec F S16384x96 .f32) (W : FVec F S32x96 .f32) (b : FVec F S1x96 .f32)
    (h : FVec F S16384x32 .f32) : FVec F S16384x32 .f32 :=
  have gh := addf (Host.dotGeneral dot_S16384x32_S32x96_S16384x96_1_0_0_1_n_n none h W) (broadcastInDim S16384x96 ![0, 1] bcast_S1x96_S16384x96_0_1 b)
  have r := Host.divf one (addf one (Host.exp (Host.negf (addf (extractStridedSlice S16384x32 ![0, 0] gi slices_S16384x96_S16384x32_0_0)
    (extractStridedSlice S16384x32 ![0, 0] gh slices_S16384x96_S16384x32_0_0)))))
  have z := Host.divf one (addf one (Host.exp (Host.negf (addf (extractStridedSlice S16384x32 ![0, 32] gi slices_S16384x96_S16384x32_0_32)
    (extractStridedSlice S16384x32 ![0, 32] gh slices_S16384x96_S16384x32_0_32)))))
  addf (mulf (subf one z) (Host.tanh (addf (extractStridedSlice S16384x32 ![0, 64] gi slices_S16384x96_S16384x32_0_64)
    (mulf r (extractStridedSlice S16384x32 ![0, 64] gh slices_S16384x96_S16384x32_0_64))))) (mulf z h)

/-- The constant one. -/
def ones32 : FVec F S16384x32 .f32 := broadcastInDim S16384x32 ![] bcast_S_S16384x32 (constant S_ .f32 0x3F800000#32)

theorem layer96_apply (x : FVec Ideal S16384x80 .f32) (W : FVec Ideal S80x96 .f32) (b : FVec Ideal S1x96 .f32) (r : Fin 16384) (n : Fin 96) :
    layer96 x W b (ix2 r n) = Row.lin (fun k n => W (ix2 k n)) (fun n => b (ix2 0 n)) (fun k => x (ix2 r k)) n := by
  pointwise [layer96]
  rfl

theorem cell32_apply (gi : FVec Ideal S16384x96 .f32) (W : FVec Ideal S32x96 .f32) (b : FVec Ideal S1x96 .f32)
    (h : FVec Ideal S16384x32 .f32) (r : Fin 16384) (j : Fin 32) :
    cell32 ones32 gi W b h (ix2 r j) = Row.gru (H := 96) rfl (fun k n => W (ix2 k n)) (fun n => b (ix2 0 n))
      (fun n => gi (ix2 r n)) (fun k => h (ix2 r k)) j := by
  pointwise [cell32, ones32]
  rfl

theorem slices_time (t : Fin 15) : S16384x15x80.Slices ![0, t.val, 0] S16384x1x80 := by
  refine ⟨rfl, fun a => ?_⟩
  match a with
  | 0 => show 0 + 16384 ≤ 16384; omega
  | 1 => show t.val + 1 ≤ 15; omega
  | 2 => show 0 + 80 ≤ 80; omega

/-- Time step `t` of a stack of fifteen. -/
def timeOf (x : FVec F S16384x15x80 .f32) (t : Fin 15) : FVec F S16384x80 .f32 :=
  shapeCast _ (extractStridedSlice S16384x1x80 ![0, t.val, 0] x (slices_time t)) shapeCasts_S16384x1x80_S16384x80

theorem timeOf_apply (x : FVec Ideal S16384x15x80 .f32) (t : Fin 15) (r : Fin 16384) (k : Fin 80) :
    timeOf x t (ix2 r k) = x (ix3 r t k) := by
  pointwise [timeOf]

end Cert.ReferenceIdeal.Batch

end
-- ==== Proof.ReferenceHead.lean ====
module

public import proofs.«01_k».proof.Proof.Gen.ReferenceIdeal.Run
public import proofs.«01_k».proof.Proof.ReferenceOps

/-!
# The reference's features

The reference works on the whole batch. Row by row, its three statistics, its history network and its perceptron are the
functions of `Row`.
-/

@[expose] public section

set_option maxRecDepth 16384

noncomputable section

namespace Cert.ReferenceIdeal.Value

open Cert.ReferenceIdeal Cert.ReferenceIdeal.Batch Cert.ReferenceIdeal.Gen Idealize.ShloMosaic Idealize.ShloMosaic.TcCoe Idealize.SL.Sem

/-- The batch's observations. -/
def obs (V0 : Valuation τ sig (Elt Ideal)) : FVec Ideal S16384x22x64 .f32 := V0 (Proc.devRef .tc main_arg0)

/-- The batch's actions. -/
def act (V0 : Valuation τ sig (Elt Ideal)) : FVec Ideal S16384x22x16 .f32 := V0 (Proc.devRef .tc main_arg1)

/-- A row's inputs. -/
def seq (V0 : Valuation τ sig (Elt Ideal)) (r : Fin 16384) : Row.Seq where
  o t j := obs V0 (ix3 r t j)
  a t j := act V0 (ix3 r t j)

/-- The weights, matrices turned from `(out, in)` to `(in, out)`. -/
def net (V0 : Valuation τ sig (Elt Ideal)) : Row.Net where
  dWi k n := (V0 (Proc.devRef .tc main_arg2) : FVec Ideal S96x80 .f32) (ix2 n k)
  dWh k n := (V0 (Proc.devRef .tc main_arg3) : FVec Ideal S96x32 .f32) (ix2 n k)
  dbi n := (V0 (Proc.devRef .tc main_arg4) : FVec Ideal S96 .f32) (ix1 n)
  dbh n := (V0 (Proc.devRef .tc main_arg5) : FVec Ideal S96 .f32) (ix1 n)
  lg n := (V0 (Proc.devRef .tc main_arg6) : FVec Ideal S35 .f32) (ix1 n)
  lb n := (V0 (Proc.devRef .tc main_arg7) : FVec Ideal S35 .f32) (ix1 n)
  m1 k n := (V0 (Proc.devRef .tc main_arg8) : FVec Ideal S64x35 .f32) (ix2 n k)
  b1 n := (V0 (Proc.devRef .tc main_arg9) : FVec Ideal S64 .f32) (ix1 n)
  m2 k n := (V0 (Proc.devRef .tc main_arg10) : FVec Ideal S32x64 .f32) (ix2 n k)
  b2 n := (V0 (Proc.devRef .tc main_arg11) : FVec Ideal S32 .f32) (ix1 n)
  m3 k n := (V0 (Proc.devRef .tc main_arg12) : FVec Ideal S14x32 .f32) (ix2 n k)
  b3 n := (V0 (Proc.devRef .tc main_arg13) : FVec Ideal S14 .f32) (ix1 n)
  fWi k n := (V0 (Proc.devRef .tc main_arg14) : FVec Ideal S192x80 .f32) (ix2 n k)
  fWh k n := (V0 (Proc.devRef .tc main_arg15) : FVec Ideal S192x64 .f32) (ix2 n k)
  fbi n := (V0 (Proc.devRef .tc main_arg16) : FVec Ideal S192 .f32) (ix1 n)
  fbh n := (V0 (Proc.devRef .tc main_arg17) : FVec Ideal S192 .f32) (ix1 n)
  kWi k n := (V0 (Proc.devRef .tc main_arg18) : FVec Ideal S192x80 .f32) (ix2 n k)
  kWh k n := (V0 (Proc.devRef .tc main_arg19) : FVec Ideal S192x64 .f32) (ix2 n k)
  kbi n := (V0 (Proc.devRef .tc main_arg20) : FVec Ideal S192 .f32) (ix1 n)
  kbh n := (V0 (Proc.devRef .tc main_arg21) : FVec Ideal S192 .f32) (ix1 n)
  e1 k n := (V0 (Proc.devRef .tc main_arg22) : FVec Ideal S64x128 .f32) (ix2 n k)
  c1 n := (V0 (Proc.devRef .tc main_arg23) : FVec Ideal S64 .f32) (ix1 n)
  e2 k n := (V0 (Proc.devRef .tc main_arg24) : FVec Ideal S64x64 .f32) (ix2 n k)
  c2 n := (V0 (Proc.devRef .tc main_arg25) : FVec Ideal S64 .f32) (ix1 n)
  mW k n := (V0 (Proc.devRef .tc main_arg26) : FVec Ideal S64x64 .f32) (ix2 n k)
  mb n := (V0 (Proc.devRef .tc main_arg27) : FVec Ideal S64 .f32) (ix1 n)
  vW k n := (V0 (Proc.devRef .tc main_arg28) : FVec Ideal S64x64 .f32) (ix2 n k)
  vb n := (V0 (Proc.devRef .tc main_arg29) : FVec Ideal S64 .f32) (ix1 n)

variable {F : FTy → Type} [FloatOps F]

section Values

variable (V0 : Valuation τ sig (Elt F))

/-- One step of the history network at time `t`. -/
def next (t : Fin 15) (h : FVec F S16384x32 .f32) : FVec F S16384x32 .f32 :=
  cell32 (res_main_v78 V0) (layer96 (timeOf (res_main_v73 V0) t) (res_main_v74 V0) (res_main_v76 V0)) (res_main_v75 V0) (res_main_v77 V0) h

/-- The history state after `n` steps. -/
def state : ℕ → FVec F S16384x32 .f32
  | 0 => res_main_v79 V0
  | n + 1 => next V0 (Fin.ofNat 15 n) (state n)

theorem v110_eq : res_main_v110 V0 = next V0 0 (state V0 0) := rfl
theorem v141_eq : res_main_v141 V0 = next V0 1 (res_main_v110 V0) := rfl
theorem v172_eq : res_main_v172 V0 = next V0 2 (res_main_v141 V0) := rfl
theorem v203_eq : res_main_v203 V0 = next V0 3 (res_main_v172 V0) := rfl
theorem v234_eq : res_main_v234 V0 = next V0 4 (res_main_v203 V0) := rfl
theorem v265_eq : res_main_v265 V0 = next V0 5 (res_main_v234 V0) := rfl
theorem v296_eq : res_main_v296 V0 = next V0 6 (res_main_v265 V0) := rfl
theorem v327_eq : res_main_v327 V0 = next V0 7 (res_main_v296 V0) := rfl
theorem v358_eq : res_main_v358 V0 = next V0 8 (res_main_v327 V0) := rfl
theorem v389_eq : res_main_v389 V0 = next V0 9 (res_main_v358 V0) := rfl
theorem v420_eq : res_main_v420 V0 = next V0 10 (res_main_v389 V0) := rfl
theorem v451_eq : res_main_v451 V0 = next V0 11 (res_main_v420 V0) := rfl
theorem v482_eq : res_main_v482 V0 = next V0 12 (res_main_v451 V0) := rfl
theorem v513_eq : res_main_v513 V0 = next V0 13 (res_main_v482 V0) := rfl

theorem state15 : next V0 14 (res_main_v513 V0) = state V0 15 := by
  rw [v513_eq, v482_eq, v451_eq, v420_eq, v389_eq, v358_eq, v327_eq, v296_eq, v265_eq, v234_eq, v203_eq, v172_eq, v141_eq, v110_eq]
  rfl

/-- The feature matrix: the three statistics and the last history state. -/
theorem v545_eq : res_main_v545 V0 = concatenate S16384x35 1
    [⟨S16384x1, entropyOf (normalised (shiftedExp (res_main_v3 V0)))⟩,
     ⟨S16384x1, meanOfThree (lengthOf (res_main_v26 V0)) (lengthOf (res_main_v32 V0)) (lengthOf (res_main_v38 V0))⟩,
     ⟨S16384x1, corrOf (centredOf (res_main_v50 V0)) (centredOf (res_main_v51 V0))⟩,
     ⟨S16384x32, next V0 14 (res_main_v513 V0)⟩] concatenates_S16384x1_S16384x1_S16384x1_S16384x32_S16384x35_d1 := rfl

end Values

end Cert.ReferenceIdeal.Value

end
-- ==== Proof.ReferenceWindowOps.lean ====
module

public import proofs.«01_k».proof.Proof.Gen.ReferenceIdeal
public import proofs.«01_k».proof.Proof.Row
public import proofs.«01_k».proof.Proof.Argmax

/-!
# The reference's window operations on the batch

The matrices that enter the features, the perceptron on the features, the walk along its fourteen outputs and the two
offsets in 32-bit words, each read row by row.
-/

@[expose] public section

set_option maxRecDepth 16384

noncomputable section

namespace Cert.ReferenceIdeal.Batch

open Cert.ReferenceIdeal Cert.ReferenceIdeal.Gen Idealize.ShloMosaic Idealize.ShloMosaic.TcCoe Idealize.SL.Sem

variable {F : FTy → Type} [FloatOps F]

theorem slices_obs (t : Fin 15) : S16384x15x64.Slices ![0, t.val, 0] S16384x1x64 := by
  refine ⟨rfl, fun a => ?_⟩
  match a with
  | 0 => show 0 + 16384 ≤ 16384; omega
  | 1 => show t.val + 1 ≤ 15; omega
  | 2 => show 0 + 64 ≤ 64; omega

/-- The observations of time step `t`, one of the first fifteen. -/
def obsAt (x : FVec F S16384x22x64 .f32) (t : Fin 15) : FVec F S16384x64 .f32 :=
  shapeCast _ (extractStridedSlice S16384x1x64 ![0, t.val, 0]
    (extractStridedSlice S16384x15x64 ![0, 0, 0] x slices_S16384x22x64_S16384x15x64_0_0_0) (slices_obs t)) shapeCasts_S16384x1x64_S16384x64

/-- The actions of time step 13, padded with zeros to 64 columns. -/
def paddedAct (x : FVec F S16384x22x16 .f32) : FVec F S16384x64 .f32 :=
  pad S16384x64 ![0, 0] ![0, 48] ![0, 0] (shapeCast _ (extractStridedSlice S16384x1x16 ![0, 13, 0]
      (extractStridedSlice S16384x15x16 ![0, 0, 0] x slices_S16384x22x16_S16384x15x16_0_0_0) slices_S16384x15x16_S16384x1x16_0_13_0)
    shapeCasts_S16384x1x16_S16384x16) (sitofp .f32 (constantI S_ 32 0#32)) pads_S16384x16_S16384x64_000_0480 h_S_

/-- A padding by nothing. -/
def paddedObs (x : FVec F S16384x64 .f32) : FVec F S16384x64 .f32 :=
  pad S16384x64 ![0, 0] ![0, 0] ![0, 0] x (sitofp .f32 (constantI S_ 32 0#32)) pads_S16384x64_S16384x64_000_000 h_S_

/-- The first fifteen time steps, observations and actions side by side. -/
def early (x : FVec F S16384x22x64 .f32) (y : FVec F S16384x22x16 .f32) : FVec F S16384x15x80 .f32 :=
  concatenate S16384x15x80 2 [⟨S16384x15x64, extractStridedSlice S16384x15x64 ![0, 0, 0] x slices_S16384x22x64_S16384x15x64_0_0_0⟩,
    ⟨S16384x15x16, extractStridedSlice S16384x15x16 ![0, 0, 0] y slices_S16384x22x16_S16384x15x16_0_0_0⟩]
    concatenates_S16384x15x64_S16384x15x16_S16384x15x80_d2

/-- The feature matrix. -/
def featsOf (e r c : FVec F S16384x1 .f32) (h : FVec F S16384x32 .f32) : FVec F S16384x35 .f32 :=
  concatenate S16384x35 1 [⟨S16384x1, e⟩, ⟨S16384x1, r⟩, ⟨S16384x1, c⟩, ⟨S16384x32, h⟩]
    concatenates_S16384x1_S16384x1_S16384x1_S16384x32_S16384x35_d1

/-- Rows' means, as a column. -/
def meanOf (x : FVec F S16384x35 .f32) : FVec F S16384x1 .f32 :=
  Host.divf (broadcastInDim S16384x1 ![0] bcast_S16384_S16384x1_0 (Host.reduceAdd x (constant S_ .f32 0x00000000#32) reducesTo_S16384x35_S16384_d1 h_S_))
    (broadcastInDim S16384x1 ![] bcast_S_S16384x1 (constant S_ .f32 0x420C0000#32))

/-- Rows less the column `m`. -/
def lessColumn (x : FVec F S16384x35 .f32) (m : FVec F S16384x1 .f32) : FVec F S16384x35 .f32 :=
  subf x (broadcastInDim S16384x35 ![0, 1] bcast_S16384x1_S16384x35_0_1 m)

/-- The perceptron on the features, after normalising them. -/
def logitsOf (x : FVec F S16384x35 .f32) (m : FVec F S16384x1 .f32) (d : FVec F S16384x35 .f32)
    (g b : FVec F S35 .f32) (W1 : FVec F S64x35 .f32) (b1 : FVec F S64 .f32) (W2 : FVec F S32x64 .f32) (b2 : FVec F S32 .f32)
    (W3 : FVec F S14x32 .f32) (b3 : FVec F S14 .f32) : FVec F S16384x14 .f32 :=
  addf (Host.dotGeneral dot_S16384x32_S32x14_S16384x14_1_0_0_1_n_n none (maximumf (addf (Host.dotGeneral dot_S16384x64_S64x32_S16384x32_1_0_0_1_n_n none (maximumf (addf (Host.dotGeneral dot_S16384x35_S35x64_S16384x64_1_0_0_1_n_n none (addf (mulf (Host.divf (subf x (broadcastInDim S16384x35 ![0, 1] bcast_S16384x1_S16384x35_0_1 m)) (broadcastInDim S16384x35 ![0, 1] bcast_S16384x1_S16384x35_0_1 (Host.sqrt (addf (Host.divf (broadcastInDim S16384x1 ![0] bcast_S16384_S16384x1_0 (Host.reduceAdd (mulf d d) (constant S_ .f32 0x00000000#32) reducesTo_S16384x35_S16384_d1 h_S_)) (broadcastInDim S16384x1 ![] bcast_S_S16384x1 (constant S_ .f32 0x420C0000#32))) (broadcastInDim S16384x1 ![] bcast_S_S16384x1 (constant S_ .f32 0x3727C5AC#32)))))) (broadcastInDim S16384x35 ![0, 1] bcast_S1x35_S16384x35_0_1 (broadcastInDim S1x35 ![1] bcast_S35_S1x35_1 g))) (broadcastInDim S16384x35 ![0, 1] bcast_S1x35_S16384x35_0_1 (broadcastInDim S1x35 ![1] bcast_S35_S1x35_1 b))) (transpose S35x64 [1, 0] W1 transposes_S64x35_S35x64_1_0)) (broadcastInDim S16384x64 ![0, 1] bcast_S1x64_S16384x64_0_1 (broadcastInDim S1x64 ![1] bcast_S64_S1x64_1 b1))) (broadcastInDim S16384x64 ![] bcast_S_S16384x64 (constant S_ .f32 0x00000000#32))) (transpose S64x32 [1, 0] W2 transposes_S32x64_S64x32_1_0)) (broadcastInDim S16384x32 ![0, 1] bcast_S1x32_S16384x32_0_1 (broadcastInDim S1x32 ![1] bcast_S32_S1x32_1 b2))) (broadcastInDim S16384x32 ![] bcast_S_S16384x32 (constant S_ .f32 0x00000000#32))) (transpose S32x14 [1, 0] W3 transposes_S14x32_S32x14_1_0)) (broadcastInDim S16384x14 ![0, 1] bcast_S1x14_S16384x14_0_1 (broadcastInDim S1x14 ![1] bcast_S14_S1x14_1 b3))

theorem slices_column (n : Fin 14) : S16384x14.Slices ![0, n.val] S16384x1 := by
  refine ⟨rfl, fun a => ?_⟩
  match a with
  | 0 => show 0 + 16384 ≤ 16384; omega
  | 1 => show n.val + 1 ≤ 14; omega

/-- Column `n` of the outputs. -/
def columnOf (x : FVec F S16384x14 .f32) (n : Fin 14) : FVec F S16384 .f32 :=
  shapeCast _ (extractStridedSlice S16384x1 ![0, n.val] x (slices_column n)) shapeCasts_S16384x1_S16384

/-- The walk's largest entry after entry `n`. -/
def topOf (x : FVec F S16384x14 .f32) : ℕ → FVec F S16384 .f32
  | 0 => columnOf x 0
  | n + 1 => select (cmpf .ogt (columnOf x (Fin.ofNat 14 (n + 1))) (topOf x n)) (columnOf x (Fin.ofNat 14 (n + 1))) (topOf x n)

/-- The walk's place after entry `n`. -/
def placeOf (x : FVec F S16384x14 .f32) : ℕ → IVec S16384 32
  | 0 => broadcastInDim S16384 ![] bcast_S_S16384 (constantI S_ 32 0#32)
  | n + 1 => select (cmpf .ogt (columnOf x (Fin.ofNat 14 (n + 1))) (topOf x n))
      (broadcastInDim S16384 ![] bcast_S_S16384 (id (constantI S_ 32 (BitVec.ofNat 32 (n + 1))))) (placeOf x n)

/-- Half of a word, rounded down. -/
def halfOf (x : IVec S16384 32) : IVec S16384 32 :=
  select (andi (cmpi .ne (signi x) (broadcastInDim S16384 ![] bcast_S_S16384 (signi (id (constantI S_ 32 2#32)))))
      (cmpi .ne (Host.remsi x (broadcastInDim S16384 ![] bcast_S_S16384 (id (constantI S_ 32 2#32))))
        (broadcastInDim S16384 ![] bcast_S_S16384 (constantI S_ 32 0#32))))
    (subi (Host.divsi x (broadcastInDim S16384 ![] bcast_S_S16384 (id (constantI S_ 32 2#32))))
      (broadcastInDim S16384 ![] bcast_S_S16384 (constantI S_ 32 1#32)))
    (Host.divsi x (broadcastInDim S16384 ![] bcast_S_S16384 (id (constantI S_ 32 2#32))))

/-! ## Row by row -/

theorem obsAt_apply (x : FVec Ideal S16384x22x64 .f32) (t : Fin 15) (r : Fin 16384) (k : Fin 64) :
    obsAt x t (ix2 r k) = x (ix3 r ⟨t, by omega⟩ k) := by
  pointwise [obsAt]

theorem paddedAct_apply (x : FVec Ideal S16384x22x16 .f32) (r : Fin 16384) (k : Fin 64) :
    paddedAct x (ix2 r k) = Row.padded (fun k => x (ix3 r 13 k)) k := by
  have e : FloatOps.sitofp (F := Ideal) FTy.f32 0#32 = 0 := by
    show (((0#32 : BitVec 32).toInt : ℝ) : EReal) = 0
    simp
  pointwise [paddedAct]
  rw [e]
  rfl

theorem paddedObs_apply (x : FVec Ideal S16384x64 .f32) (r : Fin 16384) (k : Fin 64) :
    paddedObs x (ix2 r k) = x (ix2 r k) := by
  pointwise [paddedObs]

theorem early_apply (x : FVec Ideal S16384x22x64 .f32) (y : FVec Ideal S16384x22x16 .f32) (r : Fin 16384) (t : Fin 15) (k : Fin 80) :
    early x y (ix3 r t k) = Row.cat (fun k => x (ix3 r ⟨t, by omega⟩ k)) (fun k => y (ix3 r ⟨t, by omega⟩ k)) k := by
  pointwise [early]
  rfl

theorem featsOf_apply (a b c : FVec Ideal S16384x1 .f32) (h : FVec Ideal S16384x32 .f32) (r : Fin 16384) (k : Fin 35) :
    featsOf a b c h (ix2 r k) = Row.feats (a (ix2 r 0)) (b (ix2 r 0)) (c (ix2 r 0)) (fun j => h (ix2 r j)) k := by
  pointwise [featsOf]
  unfold Row.feats
  split_ifs <;> first
    | rfl
    | exact congrArg (fun i : Fin 1 => a (ix2 r i)) (Subsingleton.elim _ _)
    | exact congrArg (fun i : Fin 1 => b (ix2 r i)) (Subsingleton.elim _ _)
    | exact congrArg (fun i : Fin 1 => c (ix2 r i)) (Subsingleton.elim _ _)

theorem meanOf_apply (x : FVec Ideal S16384x35 .f32) (r : Fin 16384) :
    meanOf x (ix2 r 0) = Row.mean35 (fun k => x (ix2 r k)) := by
  pointwise [meanOf]
  rfl

theorem lessColumn_apply (x : FVec Ideal S16384x35 .f32) (m : FVec Ideal S16384x1 .f32) (r : Fin 16384) (k : Fin 35) :
    lessColumn x m (ix2 r k) = x (ix2 r k) - m (ix2 r 0) := by
  pointwise [lessColumn]

theorem logitsOf_apply (x : FVec Ideal S16384x35 .f32) (m : FVec Ideal S16384x1 .f32) (d : FVec Ideal S16384x35 .f32)
    (g b : FVec Ideal S35 .f32) (W1 : FVec Ideal S64x35 .f32) (b1 : FVec Ideal S64 .f32) (W2 : FVec Ideal S32x64 .f32) (b2 : FVec Ideal S32 .f32)
    (W3 : FVec Ideal S14x32 .f32) (b3 : FVec Ideal S14 .f32) (r : Fin 16384) (n : Fin 14) :
    logitsOf x m d g b W1 b1 W2 b2 W3 b3 (ix2 r n) =
      Row.lin (fun k n => W3 (ix2 n k)) (fun n => b3 (ix1 n)) (Row.relu (fun k n => W2 (ix2 n k)) (fun n => b2 (ix1 n))
        (Row.relu (fun k n => W1 (ix2 n k)) (fun n => b1 (ix1 n))
          (fun k => Ideal.div (x (ix2 r k) - m (ix2 r 0))
            (Ideal.sqrt (Row.mean35 (fun l => d (ix2 r l) * d (ix2 r l)) + Ideal.ofBits .f32 0x3727C5AC#32))
              * g (ix1 k) + b (ix1 k)))) n := by
  pointwise [logitsOf]
  rfl

theorem columnOf_apply (x : FVec Ideal S16384x14 .f32) (n : Fin 14) (r : Fin 16384) : columnOf x n (ix1 r) = x (ix2 r n) := by
  pointwise [columnOf]

theorem topOf_step (a b : FVec Ideal S16384 .f32) (r : Fin 16384) :
    select (cmpf .ogt a b) a b (ix1 r) = if b (ix1 r) < a (ix1 r) then a (ix1 r) else b (ix1 r) := by
  pointwise

theorem placeOf_step (a b : FVec Ideal S16384 .f32) (n : BitVec 32) (p : IVec S16384 32) (r : Fin 16384) :
    select (cmpf .ogt a b) (broadcastInDim S16384 ![] bcast_S_S16384 (id (constantI S_ 32 n))) p (ix1 r)
      = if b (ix1 r) < a (ix1 r) then n else p (ix1 r) := by
  pointwise
  rfl

theorem walk_apply (x : FVec Ideal S16384x14 .f32) (r : Fin 16384) (n : ℕ) :
    topOf x n (ix1 r) = (Row.best (fun k => x (ix2 r k)) n).1 ∧
      placeOf x n (ix1 r) = BitVec.ofNat 32 (Row.best (fun k => x (ix2 r k)) n).2 := by
  induction n with
  | zero => exact ⟨columnOf_apply x 0 r, rfl⟩
  | succ n ih =>
    obtain ⟨h1, h2⟩ := ih
    constructor
    · refine (topOf_step _ _ r).trans ?_
      rw [columnOf_apply, h1, Row.best]
      split <;> rfl
    · refine (placeOf_step _ _ _ _ r).trans ?_
      rw [columnOf_apply, h1, h2, Row.best]
      split <;> rfl

theorem halfOf_apply (x : IVec S16384 32) (r : Fin 16384) (n : ℕ) (hn : n < 16) (h : x (ix1 r) = BitVec.ofNat 32 n) :
    halfOf x (ix1 r) = BitVec.ofNat 32 (n / 2) := by
  pointwise [halfOf]
  rw [h]
  clear h
  interval_cases n <;> rfl

end Cert.ReferenceIdeal.Batch

end
-- ==== Proof.ReferenceHistory.lean ====
module

public import proofs.«01_k».proof.Proof.ReferenceHead
public import proofs.«01_k».proof.Proof.ReferenceWindowOps

/-!
# The reference's window

Row by row: the history state, the features, the window's logits, its size and the two offsets.
-/

@[expose] public section

set_option maxRecDepth 16384

noncomputable section

namespace Cert.ReferenceIdeal.Value

open Cert.ReferenceIdeal Cert.ReferenceIdeal.Batch Cert.ReferenceIdeal.Gen Idealize.ShloMosaic Idealize.ShloMosaic.TcCoe Idealize.SL.Sem

/-! ## Weights -/

theorem turned_dWi (W : FVec Ideal S96x80 .f32) (k : Fin 80) (n : Fin 96) :
    transpose S80x96 [1, 0] W transposes_S96x80_S80x96_1_0 (ix2 k n) = W (ix2 n k) := by
  pointwise

theorem turned_dWh (W : FVec Ideal S96x32 .f32) (k : Fin 32) (n : Fin 96) :
    transpose S32x96 [1, 0] W transposes_S96x32_S32x96_1_0 (ix2 k n) = W (ix2 n k) := by
  pointwise

theorem row96 (b : FVec Ideal S96 .f32) (n : Fin 96) :
    broadcastInDim S1x96 ![1] bcast_S96_S1x96_1 b (ix2 0 n) = b (ix1 n) := by
  pointwise

theorem zeros32 (r : Fin 16384) (j : Fin 32) :
    (broadcastInDim S16384x32 ![] bcast_S_S16384x32 (constant S_ .f32 0x00000000#32) : FVec Ideal S16384x32 .f32) (ix2 r j) = (0 : EReal) := by
  pointwise

section Values

variable (V0 : Valuation τ sig (Elt Ideal))

/-! ## The statistics -/

theorem v3_eq : res_main_v3 V0 = obsAt (obs V0) 14 := rfl
theorem v26_eq : res_main_v26 V0 = subf (obsAt (obs V0) 14) (obsAt (obs V0) 13) := rfl
theorem v32_eq : res_main_v32 V0 = subf (obsAt (obs V0) 13) (obsAt (obs V0) 12) := rfl
theorem v38_eq : res_main_v38 V0 = subf (obsAt (obs V0) 12) (obsAt (obs V0) 11) := rfl
theorem v50_eq : res_main_v50 V0 = paddedObs (obsAt (obs V0) 14) := rfl
theorem v51_eq : res_main_v51 V0 = paddedAct (act V0) := rfl
theorem v73_eq : res_main_v73 V0 = early (obs V0) (act V0) := rfl

theorem entropy_apply (r : Fin 16384) :
    entropyOf (normalised (shiftedExp (res_main_v3 V0))) (ix2 r 0) = Row.entropy ((seq V0 r).o 14) := by
  rw [v3_eq, entropyOf_apply]
  simp only [normalised_apply, shiftedExp_apply, max_rowMax, obsAt_apply]
  rfl

theorem dist_apply (x y : FVec Ideal S16384x64 .f32) (r : Fin 16384) :
    lengthOf (subf x y) (ix2 r 0) = Row.dist (fun k => x (ix2 r k)) (fun k => y (ix2 r k)) := by
  rw [lengthOf_apply]
  rfl

theorem rate_apply (r : Fin 16384) :
    meanOfThree (lengthOf (res_main_v26 V0)) (lengthOf (res_main_v32 V0)) (lengthOf (res_main_v38 V0)) (ix2 r 0)
      = Row.rate ((seq V0 r).o 14) ((seq V0 r).o 13) ((seq V0 r).o 12) ((seq V0 r).o 11) := by
  rw [v26_eq, v32_eq, v38_eq, meanOfThree_apply, dist_apply, dist_apply, dist_apply]
  simp only [obsAt_apply]
  rfl

theorem corr_apply (r : Fin 16384) :
    corrOf (centredOf (res_main_v50 V0)) (centredOf (res_main_v51 V0)) (ix2 r 0)
      = Row.corr ((seq V0 r).o 14) (Row.padded ((seq V0 r).a 13)) := by
  rw [v50_eq, v51_eq, corrOf_apply]
  simp only [centredOf_apply, paddedObs_apply, paddedAct_apply, obsAt_apply]
  rfl

/-! ## The history -/

theorem v78_eq : res_main_v78 V0 = ones32 (F := Ideal) := rfl

theorem next_apply (t : Fin 15) (h : FVec Ideal S16384x32 .f32) (r : Fin 16384) (j : Fin 32) :
    next V0 t h (ix2 r j) = Row.gru (H := 96) rfl (net V0).dWh (net V0).dbh (Row.lin (net V0).dWi (net V0).dbi ((seq V0 r).x t))
      (fun k => h (ix2 r k)) j := by
  have hWi : (fun (k : Fin 80) (n : Fin 96) => (res_main_v74 V0 : FVec Ideal S80x96 .f32) (ix2 k n)) = (net V0).dWi := by
    funext k n; exact turned_dWi _ k n
  have hbi : (fun n : Fin 96 => (res_main_v76 V0 : FVec Ideal S1x96 .f32) (ix2 0 n)) = (net V0).dbi := by
    funext n; exact row96 _ n
  have hWh : (fun (k : Fin 32) (n : Fin 96) => (res_main_v75 V0 : FVec Ideal S32x96 .f32) (ix2 k n)) = (net V0).dWh := by
    funext k n; exact turned_dWh _ k n
  have hbh : (fun n : Fin 96 => (res_main_v77 V0 : FVec Ideal S1x96 .f32) (ix2 0 n)) = (net V0).dbh := by
    funext n; exact row96 _ n
  have hx : (fun k => timeOf (early (obs V0) (act V0)) t (ix2 r k)) = (seq V0 r).x t := by
    have e : (Fin.ofNat 22 t.val) = ⟨t, by omega⟩ := Fin.ext (Nat.mod_eq_of_lt (by omega))
    funext k
    rw [timeOf_apply, early_apply, Row.Seq.x, e]
    rfl
  rw [next, v78_eq, v73_eq, cell32_apply, hWh, hbh]
  congr 1
  funext n
  rw [layer96_apply, hWi, hbi, hx]

theorem state_apply (r : Fin 16384) (n : ℕ) (hn : n ≤ 15) (j : Fin 32) :
    state V0 n (ix2 r j) = Row.history (net V0) (seq V0 r) n j := by
  induction n generalizing j with
  | zero => exact zeros32 r j
  | succ n ih =>
    have e : (Fin.ofNat 15 n).val = n := Nat.mod_eq_of_lt (by omega)
    show next V0 _ _ _ = _
    rw [next_apply, funext (fun k => ih (by omega) k), e]
    rfl

/-! ## The features and the window's logits -/

theorem v545_apply (r : Fin 16384) (k : Fin 35) :
    (res_main_v545 V0 : FVec Ideal S16384x35 .f32) (ix2 r k) = Row.features (net V0) (seq V0 r) k := by
  have e : res_main_v545 V0 = featsOf (entropyOf (normalised (shiftedExp (res_main_v3 V0))))
    (meanOfThree (lengthOf (res_main_v26 V0)) (lengthOf (res_main_v32 V0)) (lengthOf (res_main_v38 V0)))
    (corrOf (centredOf (res_main_v50 V0)) (centredOf (res_main_v51 V0))) (next V0 14 (res_main_v513 V0)) := v545_eq V0
  rw [e, featsOf_apply, entropy_apply, rate_apply, corr_apply, state15, funext (fun j => state_apply V0 r 15 le_rfl j)]
  rfl

theorem v549_eq : res_main_v549 V0 = meanOf (res_main_v545 V0) := rfl
theorem v551_eq : res_main_v551 V0 = lessColumn (res_main_v545 V0) (res_main_v549 V0) := rfl
theorem v586_eq : res_main_v586 V0 = logitsOf (res_main_v545 V0) (res_main_v549 V0) (res_main_v551 V0)
    (V0 (Proc.devRef .tc main_arg6)) (V0 (Proc.devRef .tc main_arg7)) (V0 (Proc.devRef .tc main_arg8)) (V0 (Proc.devRef .tc main_arg9))
    (V0 (Proc.devRef .tc main_arg10)) (V0 (Proc.devRef .tc main_arg11)) (V0 (Proc.devRef .tc main_arg12)) (V0 (Proc.devRef .tc main_arg13)) := rfl

theorem v586_apply (r : Fin 16384) (n : Fin 14) :
    (res_main_v586 V0 : FVec Ideal S16384x14 .f32) (ix2 r n) = Row.logits (net V0) (seq V0 r) n := by
  have h1 : ∀ k, (res_main_v551 V0 : FVec Ideal S16384x35 .f32) (ix2 r k)
      = Row.features (net V0) (seq V0 r) k - Row.mean35 (Row.features (net V0) (seq V0 r)) := by
    intro k
    rw [v551_eq, lessColumn_apply, v549_eq, meanOf_apply, v545_apply, funext (fun k => v545_apply V0 r k)]
  have h2 : (res_main_v549 V0 : FVec Ideal S16384x1 .f32) (ix2 r 0) = Row.mean35 (Row.features (net V0) (seq V0 r)) := by
    rw [v549_eq, meanOf_apply, funext (fun k => v545_apply V0 r k)]
  rw [v586_eq, logitsOf_apply, h2]
  simp only [h1, v545_apply]
  rfl

/-! ## The walk along the logits -/

theorem top_step {x : FVec Ideal S16384x14 .f32} {t : FVec Ideal S16384 .f32} (n : ℕ) (h : t = topOf x n) :
    select (cmpf .ogt (columnOf x (Fin.ofNat 14 (n + 1))) t) (columnOf x (Fin.ofNat 14 (n + 1))) t = topOf x (n + 1) := by
  rw [h]; rfl

theorem top_mask {x : FVec Ideal S16384x14 .f32} {t : FVec Ideal S16384 .f32} (n : ℕ) (h : t = topOf x n) :
    cmpf .ogt (columnOf x (Fin.ofNat 14 (n + 1))) t = cmpf .ogt (columnOf x (Fin.ofNat 14 (n + 1))) (topOf x n) := by
  rw [h]

theorem v588_eq : res_main_v588 V0 = topOf (res_main_v586 V0) 0 := rfl
theorem v595_eq : res_main_v595 V0 = topOf (res_main_v586 V0) 1 := top_step 0 (v588_eq V0)
theorem v602_eq : res_main_v602 V0 = topOf (res_main_v586 V0) 2 := top_step 1 (v595_eq V0)
theorem v609_eq : res_main_v609 V0 = topOf (res_main_v586 V0) 3 := top_step 2 (v602_eq V0)
theorem v616_eq : res_main_v616 V0 = topOf (res_main_v586 V0) 4 := top_step 3 (v609_eq V0)
theorem v623_eq : res_main_v623 V0 = topOf (res_main_v586 V0) 5 := top_step 4 (v616_eq V0)
theorem v630_eq : res_main_v630 V0 = topOf (res_main_v586 V0) 6 := top_step 5 (v623_eq V0)
theorem v637_eq : res_main_v637 V0 = topOf (res_main_v586 V0) 7 := top_step 6 (v630_eq V0)
theorem v644_eq : res_main_v644 V0 = topOf (res_main_v586 V0) 8 := top_step 7 (v637_eq V0)
theorem v651_eq : res_main_v651 V0 = topOf (res_main_v586 V0) 9 := top_step 8 (v644_eq V0)
theorem v658_eq : res_main_v658 V0 = topOf (res_main_v586 V0) 10 := top_step 9 (v651_eq V0)
theorem v665_eq : res_main_v665 V0 = topOf (res_main_v586 V0) 11 := top_step 10 (v658_eq V0)
theorem v672_eq : res_main_v672 V0 = topOf (res_main_v586 V0) 12 := top_step 11 (v665_eq V0)

/-- The walk's comparisons. -/
def cmpAt : ℕ → IVec S16384 1
  | 0 => res_main_v592 V0
  | 1 => res_main_v599 V0
  | 2 => res_main_v606 V0
  | 3 => res_main_v613 V0
  | 4 => res_main_v620 V0
  | 5 => res_main_v627 V0
  | 6 => res_main_v634 V0
  | 7 => res_main_v641 V0
  | 8 => res_main_v648 V0
  | 9 => res_main_v655 V0
  | 10 => res_main_v662 V0
  | 11 => res_main_v669 V0
  | _ => res_main_v676 V0

/-- The walk's place, from the comparisons `m`. -/
def placeFrom (m : ℕ → IVec S16384 1) : ℕ → IVec S16384 32
  | 0 => broadcastInDim S16384 ![] bcast_S_S16384 (constantI S_ 32 0#32)
  | n + 1 => select (m n) (broadcastInDim S16384 ![] bcast_S_S16384 (id (constantI S_ 32 (BitVec.ofNat 32 (n + 1))))) (placeFrom m n)

theorem placeFrom_eq (x : FVec Ideal S16384x14 .f32) (m : ℕ → IVec S16384 1) (n : ℕ)
    (h : ∀ i < n, m i = cmpf .ogt (columnOf x (Fin.ofNat 14 (i + 1))) (topOf x i)) : placeFrom m n = placeOf x n := by
  induction n with
  | zero => rfl
  | succ n ih => rw [placeFrom, placeOf, ih fun i hi => h i (by omega), h n (by omega)]

theorem cmpAt_eq (i : ℕ) (hi : i < 13) :
    cmpAt V0 i = cmpf .ogt (columnOf (res_main_v586 V0) (Fin.ofNat 14 (i + 1))) (topOf (res_main_v586 V0) i) := by
  match i with
  | 0 => exact top_mask 0 (v588_eq V0)
  | 1 => exact top_mask 1 (v595_eq V0)
  | 2 => exact top_mask 2 (v602_eq V0)
  | 3 => exact top_mask 3 (v609_eq V0)
  | 4 => exact top_mask 4 (v616_eq V0)
  | 5 => exact top_mask 5 (v623_eq V0)
  | 6 => exact top_mask 6 (v630_eq V0)
  | 7 => exact top_mask 7 (v637_eq V0)
  | 8 => exact top_mask 8 (v644_eq V0)
  | 9 => exact top_mask 9 (v651_eq V0)
  | 10 => exact top_mask 10 (v658_eq V0)
  | 11 => exact top_mask 11 (v665_eq V0)
  | 12 => exact top_mask 12 (v672_eq V0)

theorem v682_eq : res_main_v682 V0 = addi (placeFrom (cmpAt V0) 13) (broadcastInDim S16384 ![] bcast_S_S16384 (constantI S_ 32 2#32)) := rfl

/-! ## The window's size and offsets -/

theorem v682_apply (r : Fin 16384) :
    (res_main_v682 V0 : IVec S16384 32) (ix1 r) = BitVec.ofNat 32 (Row.window (net V0) (seq V0 r) + 2) := by
  have h := (walk_apply (res_main_v586 V0) r 13).2
  rw [funext (fun k => v586_apply V0 r k)] at h
  rw [v682_eq, placeFrom_eq _ _ 13 (cmpAt_eq V0)]
  show placeOf (res_main_v586 V0) 13 (ix1 r) + 2#32 = _
  rw [h, BitVec.ofNat_add]
  rfl

theorem window_lt (r : Fin 16384) : Row.window (net V0) (seq V0 r) < 14 := Row.pick_lt _

theorem v684_apply (r : Fin 16384) :
    (res_main_v684 V0 : IVec S16384 32) (ix1 r) = BitVec.ofNat 32 (Row.window (net V0) (seq V0 r) + 1) := by
  show IntOp.subi ((res_main_v682 V0 : IVec S16384 32) (ix1 r)) 1#32 = _
  rw [v682_apply]
  have h := window_lt V0 r
  generalize Row.window (net V0) (seq V0 r) = n at h
  interval_cases n <;> rfl

theorem v685_eq : res_main_v685 V0 = halfOf (res_main_v684 V0) := rfl
theorem v686_eq : res_main_v686 V0 = halfOf (res_main_v682 V0) := rfl

/-- How far the window reaches back. -/
theorem v685_apply (r : Fin 16384) :
    (res_main_v685 V0 : IVec S16384 32) (ix1 r) = BitVec.ofNat 32 ((Row.window (net V0) (seq V0 r) + 1) / 2) :=
  (congrFun (v685_eq V0) (ix1 r)).trans (halfOf_apply _ r _ (by have := window_lt V0 r; omega) (v684_apply V0 r))

/-- How far the window reaches ahead. -/
theorem v686_apply (r : Fin 16384) :
    (res_main_v686 V0 : IVec S16384 32) (ix1 r) = BitVec.ofNat 32 ((Row.window (net V0) (seq V0 r) + 2) / 2) :=
  (congrFun (v686_eq V0) (ix1 r)).trans (halfOf_apply _ r _ (by have := window_lt V0 r; omega) (v682_apply V0 r))

end Values

end Cert.ReferenceIdeal.Value

end
-- ==== Proof.ReferenceEncoderOps.lean ====
module

public import proofs.«01_k».proof.Proof.Gen.ReferenceIdeal
public import proofs.«01_k».proof.Proof.Row
public import Idealize.ShloMosaic.Lib.ReduceAll

/-!
# The reference's encoder operations on the batch

The fifteen time steps around the present, zeroed outside the window; the eight steps taken from them by computed indices;
the recurrent step that counts only while the window lasts; the layers on the two end states.
-/

@[expose] public section

set_option maxRecDepth 16384

noncomputable section

namespace Cert.ReferenceIdeal.Batch

open Cert.ReferenceIdeal Cert.ReferenceIdeal.Gen Idealize.ShloMosaic Idealize.ShloMosaic.TcCoe Idealize.SL.Sem

variable {F : FTy → Type} [FloatOps F]

/-! ## The window -/

/-- Time steps 7 to 21, zeroed where they lie more than `s` before or `e` after step 14. -/
def windowOf (x : FVec F S16384x22x64 .f32) (y : FVec F S16384x22x16 .f32) (s e : IVec S16384 32) (i : IVec S15 32) : FVec F S16384x15x80 .f32 :=
  mulf (concatenate S16384x15x80 2 [⟨S16384x15x64, (extractStridedSlice S16384x15x64 ![0, 7, 0] x slices_S16384x22x64_S16384x15x64_0_7_0)⟩,
      ⟨S16384x15x16, (extractStridedSlice S16384x15x16 ![0, 7, 0] y slices_S16384x22x16_S16384x15x16_0_7_0)⟩] concatenates_S16384x15x64_S16384x15x16_S16384x15x80_d2)
    (broadcastInDim S16384x15x80 ![0, 1, 2] bcast_S16384x15x1_S16384x15x80_0_1_2 (broadcastInDim S16384x15x1 ![0, 1] bcast_S16384x15_S16384x15x1_0_1
      (uitofp .f32 (andi
        (cmpi .sge (broadcastInDim S16384x15 ![0, 1] bcast_S1x15_S16384x15_0_1 (broadcastInDim S1x15 ![1] bcast_S15_S1x15_1 i))
          (broadcastInDim S16384x15 ![0, 1] bcast_S16384x1_S16384x15_0_1 (broadcastInDim S16384x1 ![0] bcast_S16384_S16384x1_0
            (subi (broadcastInDim S16384 ![] bcast_S_S16384 (constantI S_ 32 7#32)) s))))
        (cmpi .sle (broadcastInDim S16384x15 ![0, 1] bcast_S1x15_S16384x15_0_1 (broadcastInDim S1x15 ![1] bcast_S15_S1x15_1 i))
          (broadcastInDim S16384x15 ![0, 1] bcast_S16384x1_S16384x15_0_1 (broadcastInDim S16384x1 ![0] bcast_S16384_S16384x1_0
            (addi (broadcastInDim S16384 ![] bcast_S_S16384 (constantI S_ 32 7#32)) e))))))))

/-- Whether step `t` lies in the window, as a word. -/
def inside (s e t : BitVec 32) : BitVec 1 :=
  IntOp.andi (IntOp.cmpi .sge t (IntOp.subi 7#32 s)) (IntOp.cmpi .sle t (IntOp.addi 7#32 e))

theorem windowOf_word (x : FVec Ideal S16384x22x64 .f32) (y : FVec Ideal S16384x22x16 .f32) (s e : IVec S16384 32)
    (r : Fin 16384) (t : Fin 15) (k : Fin 80) :
    windowOf x y s e (iotaInDim S15 32 0) (ix3 r t k) =
      Row.cat (fun k => x (ix3 r ⟨7 + t, by omega⟩ k)) (fun k => y (ix3 r ⟨7 + t, by omega⟩ k)) k
        * FloatOps.uitofp (F := Ideal) FTy.f32 (inside (s (ix1 r)) (e (ix1 r)) (BitVec.ofNat 32 t)) := by
  pointwise [windowOf]
  rfl

theorem from_inside : ∀ s : Fin 8, ∀ t : Fin 15, 7 - s.val ≤ t.val →
    IntOp.cmpi .sge (BitVec.ofNat 32 t) (IntOp.subi 7#32 (BitVec.ofNat 32 s)) = 1#1 := by decide

theorem to_inside : ∀ e : Fin 8, ∀ t : Fin 15, t.val ≤ 7 + e.val →
    IntOp.cmpi .sle (BitVec.ofNat 32 t) (IntOp.addi 7#32 (BitVec.ofNat 32 e)) = 1#1 := by decide

theorem windowOf_apply (x : FVec Ideal S16384x22x64 .f32) (y : FVec Ideal S16384x22x16 .f32) (s e : IVec S16384 32)
    (r : Fin 16384) (a b : ℕ) (ha : a < 8) (hb : b < 8) (hs : s (ix1 r) = BitVec.ofNat 32 a) (he : e (ix1 r) = BitVec.ofNat 32 b)
    (t : Fin 15) (h1 : 7 - a ≤ t.val) (h2 : t.val ≤ 7 + b) (k : Fin 80) :
    windowOf x y s e (iotaInDim S15 32 0) (ix3 r t k) =
      Row.cat (fun k => x (ix3 r ⟨7 + t, by omega⟩ k)) (fun k => y (ix3 r ⟨7 + t, by omega⟩ k)) k := by
  have one : FloatOps.uitofp (F := Ideal) FTy.f32 1#1 = 1 := by
    show (((1#1 : BitVec 1).toNat : ℝ) : EReal) = 1
    simp
  rw [windowOf_word, hs, he, inside, from_inside ⟨a, ha⟩ t h1, to_inside ⟨b, hb⟩ t h2]
  show _ * FloatOps.uitofp (F := Ideal) FTy.f32 1#1 = _
  rw [one, mul_one]

/-! ## The eight steps -/

/-- The forward steps' places, `7 - s + i`, cut to 0 to 14. -/
def aheadOf (s : IVec S16384 32) (i : IVec S8 32) : IVec S16384x8x1 32 :=
  broadcastInDim S16384x8x1 ![0, 1] bcast_S16384x8_S16384x8x1_0_1 (minsi (broadcastInDim S16384x8 ![] bcast_S_S16384x8 (id (constantI S_ 32 14#32)))
    (maxsi (broadcastInDim S16384x8 ![] bcast_S_S16384x8 (id (constantI S_ 32 0#32)))
      (addi (broadcastInDim S16384x8 ![0, 1] bcast_S16384x1_S16384x8_0_1 (broadcastInDim S16384x1 ![0] bcast_S16384_S16384x1_0
          (subi (broadcastInDim S16384 ![] bcast_S_S16384 (constantI S_ 32 7#32)) s)))
        (broadcastInDim S16384x8 ![0, 1] bcast_S1x8_S16384x8_0_1 (broadcastInDim S1x8 ![1] bcast_S8_S1x8_1 i)))))

/-- The backward steps' places, `7 + e - i`, cut to 0 to 14. -/
def backOf (e : IVec S16384 32) (i : IVec S8 32) : IVec S16384x8x1 32 :=
  broadcastInDim S16384x8x1 ![0, 1] bcast_S16384x8_S16384x8x1_0_1 (minsi (broadcastInDim S16384x8 ![] bcast_S_S16384x8 (id (constantI S_ 32 14#32)))
    (maxsi (broadcastInDim S16384x8 ![] bcast_S_S16384x8 (id (constantI S_ 32 0#32)))
      (subi (broadcastInDim S16384x8 ![0, 1] bcast_S16384x1_S16384x8_0_1 (broadcastInDim S16384x1 ![0] bcast_S16384_S16384x1_0
          (addi (broadcastInDim S16384 ![] bcast_S_S16384 (constantI S_ 32 7#32)) e)))
        (broadcastInDim S16384x8 ![0, 1] bcast_S1x8_S16384x8_0_1 (broadcastInDim S1x8 ![1] bcast_S8_S1x8_1 i)))))

/-- Negative places counted from the end. -/
def wrapOf (i : IVec S16384x8x1 32) : IVec S16384x8x1 32 :=
  select (cmpi .slt i (broadcastInDim S16384x8x1 ![] bcast_S_S16384x8x1 (constantI S_ 32 0#32)))
    (addi i (broadcastInDim S16384x8x1 ![] bcast_S_S16384x8x1 (constantI S_ 32 15#32))) i

theorem aheadOf_word (s : IVec S16384 32) (r : Fin 16384) (i : Fin 8) :
    wrapOf (aheadOf s (iotaInDim S8 32 0)) (ix3 r i 0) =
      (fun j => Scalar.select (IntOp.cmpi .slt j 0#32) (IntOp.addi j 15#32) j)
        (IntOp.minsi 14#32 (IntOp.maxsi 0#32 (IntOp.addi (IntOp.subi 7#32 (s (ix1 r))) (BitVec.ofNat 32 i)))) := by
  pointwise [aheadOf, wrapOf]
  rfl

theorem backOf_word (e : IVec S16384 32) (r : Fin 16384) (i : Fin 8) :
    wrapOf (backOf e (iotaInDim S8 32 0)) (ix3 r i 0) =
      (fun j => Scalar.select (IntOp.cmpi .slt j 0#32) (IntOp.addi j 15#32) j)
        (IntOp.minsi 14#32 (IntOp.maxsi 0#32 (IntOp.subi (IntOp.addi 7#32 (e (ix1 r))) (BitVec.ofNat 32 i)))) := by
  pointwise [backOf, wrapOf]
  rfl

theorem ahead_word : ∀ s i : Fin 8, (fun j => Scalar.select (IntOp.cmpi .slt j 0#32) (IntOp.addi j 15#32) j)
    (IntOp.minsi 14#32 (IntOp.maxsi 0#32 (IntOp.addi (IntOp.subi 7#32 (BitVec.ofNat 32 s)) (BitVec.ofNat 32 i))))
      = BitVec.ofNat 32 (7 - s + i) := by decide

theorem back_word : ∀ e i : Fin 8, (fun j => Scalar.select (IntOp.cmpi .slt j 0#32) (IntOp.addi j 15#32) j)
    (IntOp.minsi 14#32 (IntOp.maxsi 0#32 (IntOp.subi (IntOp.addi 7#32 (BitVec.ofNat 32 e)) (BitVec.ofNat 32 i))))
      = BitVec.ofNat 32 (7 + e - i) := by decide

theorem aheadOf_apply (s : IVec S16384 32) (r : Fin 16384) (a : ℕ) (ha : a < 8) (hs : s (ix1 r) = BitVec.ofNat 32 a) (i : Fin 8) :
    wrapOf (aheadOf s (iotaInDim S8 32 0)) (ix3 r i 0) = BitVec.ofNat 32 (7 - a + i) := by
  rw [aheadOf_word, hs]
  exact ahead_word ⟨a, ha⟩ i

theorem backOf_apply (e : IVec S16384 32) (r : Fin 16384) (b : ℕ) (hb : b < 8) (he : e (ix1 r) = BitVec.ofNat 32 b) (i : Fin 8) :
    wrapOf (backOf e (iotaInDim S8 32 0)) (ix3 r i 0) = BitVec.ofNat 32 (7 + b - i) := by
  rw [backOf_word, he]
  exact back_word ⟨b, hb⟩ i

/-- Whether each place is one of the fifteen. -/
def validOf (i : IVec S16384x8x1 32) : IVec S16384x8x1 1 :=
  andi (cmpi .sge i (broadcastInDim S16384x8x1 ![] bcast_S_S16384x8x1 (constantI S_ 32 0#32)))
    (cmpi .sle i (broadcastInDim S16384x8x1 ![0, 1, 2] bcast_S1x1x1_S16384x8x1_0_1_2 (broadcastInDim S1x1x1 ![2] bcast_S1_S1x1x1_2 (constantI S1 32 14#32))))

/-- The steps of `x` at the places `i`, a fixed value where a place is none of the fifteen. -/
def takeOf (x : FVec F S16384x15x80 .f32) (i : IVec S16384x8x1 32) : FVec F S16384x8x80 .f32 :=
  select (broadcastInDim S16384x8x80 ![0, 1] bcast_S16384x8_S16384x8x80_0_1 (Host.reduce IntOp.andi (validOf i) (constantI S_ 1 1#1) reducesTo_S16384x8x1_S16384x8_d2 h_S_))
    (Host.gather gather_S16384x15x80_S16384x8x1_S16384x8x80_2_1_0_0_1_2_1180 x i) (broadcastInDim S16384x8x80 ![] bcast_S_S16384x8x80 (constant S_ .f32 0x7FC00000#32))

theorem validOf_word (i : IVec S16384x8x1 32) (r : Fin 16384) (j : Fin 8) :
    validOf i (ix3 r j 0) = IntOp.andi (IntOp.cmpi .sge (i (ix3 r j 0)) 0#32) (IntOp.cmpi .sle (i (ix3 r j 0)) 14#32) := by
  pointwise [validOf]

theorem valid_word : ∀ n : Fin 15, IntOp.andi (IntOp.cmpi .sge (BitVec.ofNat 32 n) 0#32) (IntOp.cmpi .sle (BitVec.ofNat 32 n) 14#32) = 1#1 := by decide

theorem valid_all (i : IVec S16384x8x1 32) (h : ∀ r j, ∃ n : Fin 15, i (ix3 r j 0) = BitVec.ofNat 32 n) (a : S16384x8x1.Idx) :
    validOf i a = 1#1 := by
  have e : ∃ (r : Fin 16384) (j : Fin 8), a = ix3 r j (0 : Fin 1) := by
    refine ⟨a 0, a 1, funext fun b => ?_⟩
    match b with
    | 0 => rfl
    | 1 => rfl
    | 2 => exact Subsingleton.elim (α := Fin 1) _ _
  obtain ⟨r, j, rfl⟩ := e
  obtain ⟨n, hn⟩ := h r j
  rw [validOf_word, hn, valid_word]

/-- The gather's value: the step at the place. -/
theorem gather_apply (x : FVec Ideal S16384x15x80 .f32) (i : IVec S16384x8x1 32) (r : Fin 16384) (j : Fin 8) (k : Fin 80)
    (n : Fin 15) (h : i (ix3 r j 0) = BitVec.ofNat 32 n) :
    Host.gather gather_S16384x15x80_S16384x8x1_S16384x8x80_2_1_0_0_1_2_1180 x i (ix3 r j k) = x (ix3 r n k) := by
  unfold Host.gather
  refine congrArg x (funext fun a => Fin.ext ?_)
  show GatherDims.start _ (ix3 r j k) i a + GatherDims.batchCoord _ (ix3 r j k) a + GatherDims.offCoord _ (ix3 r j k) a = _
  match a with
  | 0 =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    exact (dif_pos (show (0 : Fin 3) ∈ [(0 : Fin 3)] from List.mem_singleton.mpr rfl)).trans rfl
  | 1 =>
    rw [GatherDims.batchCoord_eq_zero _ _ _ (show (1 : Fin 3) ∉ [(0 : Fin 3)] by decide),
      GatherDims.offCoord_eq_zero _ _ _ (fun h => ((GatherDims.mem_sKept _ _).mp h).1 (List.mem_singleton.mpr rfl))]
    simp only [Nat.add_zero]
    unfold GatherDims.start
    refine (dif_pos (show (1 : Fin 3) ∈ [(1 : Fin 3)] from List.mem_singleton.mpr rfl)).trans ?_
    have hsi : ∀ q, gather_S16384x15x80_S16384x8x1_S16384x8x80_2_1_0_0_1_2_1180.siIdx (ix3 r j k) q = ix3 r j 0 := by
      intro q
      funext b; refine Fin.ext ?_
      match b with
      | 0 => rfl
      | 1 => rfl
      | 2 => show q.val = 0; exact Nat.lt_one_iff.mp q.isLt
    rw [hsi, h]
    show min (BitVec.ofNat 32 n.val).toInt.toNat 14 = n.val
    clear h
    revert n
    decide
  | 2 =>
    have hs : (2 : Fin 3) ∉ gather_S16384x15x80_S16384x8x1_S16384x8x80_2_1_0_0_1_2_1180.startIndexMap :=
      show (2 : Fin 3) ∉ [(1 : Fin 3)] by decide
    rw [GatherDims.batchCoord_eq_zero _ _ _ (show (2 : Fin 3) ∉ [(0 : Fin 3)] by decide)]
    unfold GatherDims.start
    rw [dif_neg hs]
    simp only [Nat.zero_add]
    unfold GatherDims.offCoord
    rw [dif_pos ((GatherDims.mem_sKept _ _).mpr ⟨show (2 : Fin 3) ∉ [(1 : Fin 3)] by decide, show (2 : Fin 3) ∉ [(0 : Fin 3)] by decide⟩)]
    rfl

theorem takeOf_select (m : IVec S16384x8 1) (x y : FVec Ideal S16384x8x80 .f32) (r : Fin 16384) (j : Fin 8) (k : Fin 80) :
    select (broadcastInDim S16384x8x80 ![0, 1] bcast_S16384x8_S16384x8x80_0_1 m) x y (ix3 r j k)
      = Scalar.select (m (ix2 r j)) (x (ix3 r j k)) (y (ix3 r j k)) := by
  pointwise

theorem takeOf_apply (x : FVec Ideal S16384x15x80 .f32) (i : IVec S16384x8x1 32)
    (hi : ∀ r j, ∃ n : Fin 15, i (ix3 r j 0) = BitVec.ofNat 32 n) (r : Fin 16384) (j : Fin 8) (k : Fin 80)
    (n : Fin 15) (h : i (ix3 r j 0) = BitVec.ofNat 32 n) : takeOf x i (ix3 r j k) = x (ix3 r n k) := by
  rw [takeOf, takeOf_select, Host.reduce_andi_one _ _ _ _ _ rfl (valid_all i hi), gather_apply x i r j k n h]
  rfl

/-! ## The recurrent steps -/

theorem slices_eighth (t : Fin 8) : S16384x8x80.Slices ![0, t.val, 0] S16384x1x80 := by
  refine ⟨rfl, fun a => ?_⟩
  match a with
  | 0 => show 0 + 16384 ≤ 16384; omega
  | 1 => show t.val + 1 ≤ 8; omega
  | 2 => show 0 + 80 ≤ 80; omega

/-- Step `t` of a stack of eight. -/
def eighthOf (x : FVec F S16384x8x80 .f32) (t : Fin 8) : FVec F S16384x80 .f32 :=
  shapeCast _ (extractStridedSlice S16384x1x80 ![0, t.val, 0] x (slices_eighth t)) shapeCasts_S16384x1x80_S16384x80

theorem eighthOf_apply (x : FVec Ideal S16384x8x80 .f32) (t : Fin 8) (r : Fin 16384) (k : Fin 80) :
    eighthOf x t (ix2 r k) = x (ix3 r t k) := by
  pointwise [eighthOf]

/-- A layer with 192 outputs on the batch. -/
def layer192 (x : FVec F S16384x80 .f32) (W : FVec F S80x192 .f32) (b : FVec F S1x192 .f32) : FVec F S16384x192 .f32 :=
  addf (Host.dotGeneral dot_S16384x80_S80x192_S16384x192_1_0_0_1_n_n none x W) (broadcastInDim S16384x192 ![0, 1] bcast_S1x192_S16384x192_0_1 b)

/-- A recurrent step of the batch. -/
def cell64 (one : FVec F S16384x64 .f32) (gi : FVec F S16384x192 .f32) (W : FVec F S64x192 .f32) (b : FVec F S1x192 .f32)
    (h : FVec F S16384x64 .f32) : FVec F S16384x64 .f32 :=
  have gh := addf (Host.dotGeneral dot_S16384x64_S64x192_S16384x192_1_0_0_1_n_n none h W) (broadcastInDim S16384x192 ![0, 1] bcast_S1x192_S16384x192_0_1 b)
  have r := Host.divf one (addf one (Host.exp (Host.negf (addf (extractStridedSlice S16384x64 ![0, 0] gi slices_S16384x192_S16384x64_0_0)
    (extractStridedSlice S16384x64 ![0, 0] gh slices_S16384x192_S16384x64_0_0)))))
  have z := Host.divf one (addf one (Host.exp (Host.negf (addf (extractStridedSlice S16384x64 ![0, 64] gi slices_S16384x192_S16384x64_0_64)
    (extractStridedSlice S16384x64 ![0, 64] gh slices_S16384x192_S16384x64_0_64)))))
  addf (mulf (subf one z) (Host.tanh (addf (extractStridedSlice S16384x64 ![0, 128] gi slices_S16384x192_S16384x64_0_128)
    (mulf r (extractStridedSlice S16384x64 ![0, 128] gh slices_S16384x192_S16384x64_0_128))))) (mulf z h)

/-- A state that is new where the length exceeds `k`, and old elsewhere. -/
def keepOf (len : IVec S16384 32) (k : BitVec 32) (new old : FVec F S16384x64 .f32) : FVec F S16384x64 .f32 :=
  select (broadcastInDim S16384x64 ![0, 1] bcast_S16384x1_S16384x64_0_1 (broadcastInDim S16384x1 ![0] bcast_S16384_S16384x1_0
    (cmpi .sgt len (broadcastInDim S16384 ![] bcast_S_S16384 (constantI S_ 32 k))))) new old

/-- The constant one. -/
def ones64 : FVec F S16384x64 .f32 := broadcastInDim S16384x64 ![] bcast_S_S16384x64 (constant S_ .f32 0x3F800000#32)

/-- The constant zero. -/
def zeros64 : FVec F S16384x64 .f32 := broadcastInDim S16384x64 ![] bcast_S_S16384x64 (constant S_ .f32 0x00000000#32)

theorem zeros64_apply (r : Fin 16384) (j : Fin 64) : (zeros64 : FVec Ideal S16384x64 .f32) (ix2 r j) = (0 : EReal) := by
  pointwise [zeros64]

theorem layer192_apply (x : FVec Ideal S16384x80 .f32) (W : FVec Ideal S80x192 .f32) (b : FVec Ideal S1x192 .f32) (r : Fin 16384) (n : Fin 192) :
    layer192 x W b (ix2 r n) = Row.lin (fun k n => W (ix2 k n)) (fun n => b (ix2 0 n)) (fun k => x (ix2 r k)) n := by
  pointwise [layer192]
  rfl

theorem cell64_apply (gi : FVec Ideal S16384x192 .f32) (W : FVec Ideal S64x192 .f32) (b : FVec Ideal S1x192 .f32)
    (h : FVec Ideal S16384x64 .f32) (r : Fin 16384) (j : Fin 64) :
    cell64 ones64 gi W b h (ix2 r j) = Row.gru (H := 192) rfl (fun k n => W (ix2 k n)) (fun n => b (ix2 0 n))
      (fun n => gi (ix2 r n)) (fun k => h (ix2 r k)) j := by
  pointwise [cell64, ones64]
  rfl

theorem keepOf_word (len : IVec S16384 32) (k : BitVec 32) (new old : FVec Ideal S16384x64 .f32) (r : Fin 16384) (j : Fin 64) :
    keepOf len k new old (ix2 r j) = Scalar.select (IntOp.cmpi .sgt (len (ix1 r)) k) (new (ix2 r j)) (old (ix2 r j)) := by
  pointwise [keepOf]

theorem longer : ∀ n : Fin 9, ∀ k : Fin 8, IntOp.cmpi .sgt (BitVec.ofNat 32 n) (BitVec.ofNat 32 k) = if k.val < n.val then 1#1 else 0#1 := by decide

theorem keepOf_apply (len : IVec S16384 32) (k n : ℕ) (hk : k < 8) (hn : n < 9) (new old : FVec Ideal S16384x64 .f32) (r : Fin 16384) (j : Fin 64)
    (h : len (ix1 r) = BitVec.ofNat 32 n) :
    keepOf len (BitVec.ofNat 32 k) new old (ix2 r j) = if k < n then new (ix2 r j) else old (ix2 r j) := by
  rw [keepOf_word, h, longer ⟨n, hn⟩ ⟨k, hk⟩]
  show Scalar.select (if k < n then 1#1 else 0#1) _ _ = _
  split <;> rfl

/-! ## The layers on the end states -/

/-- The encoding of two end states. -/
def encodeOf (f b : FVec F S16384x64 .f32) (W1 : FVec F S64x128 .f32) (b1 : FVec F S64 .f32) (W2 : FVec F S64x64 .f32) (b2 : FVec F S64 .f32) :
    FVec F S16384x64 .f32 :=
  addf (Host.dotGeneral dot_S16384x64_S64x64_S16384x64_1_0_0_1_n_n none
      (maximumf (addf (Host.dotGeneral dot_S16384x128_S128x64_S16384x64_1_0_0_1_n_n none
            (concatenate S16384x128 1 [⟨S16384x64, f⟩, ⟨S16384x64, b⟩] concatenates_S16384x64_S16384x64_S16384x128_d1)
            (transpose S128x64 [1, 0] W1 transposes_S64x128_S128x64_1_0))
          (broadcastInDim S16384x64 ![0, 1] bcast_S1x64_S16384x64_0_1 (broadcastInDim S1x64 ![1] bcast_S64_S1x64_1 b1)))
        (broadcastInDim S16384x64 ![] bcast_S_S16384x64 (constant S_ .f32 0x00000000#32)))
      (transpose S64x64 [1, 0] W2 transposes_S64x64_S64x64_1_0))
    (broadcastInDim S16384x64 ![0, 1] bcast_S1x64_S16384x64_0_1 (broadcastInDim S1x64 ![1] bcast_S64_S1x64_1 b2))

/-- A layer on the encoding. -/
def lastOf (x : FVec F S16384x64 .f32) (W : FVec F S64x64 .f32) (b : FVec F S64 .f32) : FVec F S16384x64 .f32 :=
  addf (Host.dotGeneral dot_S16384x64_S64x64_S16384x64_1_0_0_1_n_n none x (transpose S64x64 [1, 0] W transposes_S64x64_S64x64_1_0))
    (broadcastInDim S16384x64 ![0, 1] bcast_S1x64_S16384x64_0_1 (broadcastInDim S1x64 ![1] bcast_S64_S1x64_1 b))

/-- The exponential of half a matrix. -/
def scaledExp (x : FVec F S16384x64 .f32) : FVec F S16384x64 .f32 :=
  Host.exp (mulf (broadcastInDim S16384x64 ![] bcast_S_S16384x64 (constant S_ .f32 0x3F000000#32)) x)

/-- A sum over two states side by side. -/
theorem sum_cat2 (f b : Fin 64 → EReal) (w : Fin 128 → EReal) :
    ∑ k, Row.cat2 f b k * w k = (∑ k : Fin 64, f k * w ⟨k, by omega⟩) + ∑ k : Fin 64, b k * w ⟨64 + k, by omega⟩ := by
  refine (Fin.sum_univ_add (a := 64) (b := 64) fun k => Row.cat2 f b k * w k).trans ?_
  congr 1

theorem encodeOf_apply (f b : FVec Ideal S16384x64 .f32) (W1 : FVec Ideal S64x128 .f32) (b1 : FVec Ideal S64 .f32) (W2 : FVec Ideal S64x64 .f32)
    (b2 : FVec Ideal S64 .f32) (r : Fin 16384) (n : Fin 64) :
    encodeOf f b W1 b1 W2 b2 (ix2 r n) = Row.lin (fun k n => W2 (ix2 n k)) (fun n => b2 (ix1 n))
      (Row.relu (fun k n => W1 (ix2 n k)) (fun n => b1 (ix1 n)) (Row.cat2 (fun k => f (ix2 r k)) (fun k => b (ix2 r k)))) n := by
  have h : ∀ p, Row.lin (fun k n => W1 (ix2 n k)) (fun n => b1 (ix1 n)) (Row.cat2 (fun k => f (ix2 r k)) (fun k => b (ix2 r k))) p
    = (∑ k : Fin 64, f (ix2 r k) * W1 (ix2 p ⟨k, by omega⟩)) + (∑ k : Fin 64, b (ix2 r k) * W1 (ix2 p ⟨64 + k, by omega⟩)) + b1 (ix1 p) :=
    fun p => congrArg (· + b1 (ix1 p)) (sum_cat2 _ _ _)
  unfold Row.relu
  simp only [h]
  pointwise [encodeOf]
  rfl

theorem lastOf_apply (x : FVec Ideal S16384x64 .f32) (W : FVec Ideal S64x64 .f32) (b : FVec Ideal S64 .f32) (r : Fin 16384) (n : Fin 64) :
    lastOf x W b (ix2 r n) = Row.lin (fun k n => W (ix2 n k)) (fun n => b (ix1 n)) (fun k => x (ix2 r k)) n := by
  pointwise [lastOf]
  rfl

theorem scaledExp_apply (x : FVec Ideal S16384x64 .f32) (r : Fin 16384) (n : Fin 64) :
    scaledExp x (ix2 r n) = Ideal.exp (Ideal.ofBits .f32 0x3F000000#32 * x (ix2 r n)) := by
  pointwise [scaledExp]

end Cert.ReferenceIdeal.Batch

end
-- ==== Proof.Shift.lean ====
module

public import proofs.«01_k».proof.Proof.Row

/-!
# Left- and right-aligned chains

A window of `a + 1` steps can be run at the start of eight steps, the rest leaving the state alone, or at their end, the
first leaving it alone. Both end in the same state.
-/

@[expose] public section

noncomputable section

namespace Cert.Row

variable {G H : ℕ} (hH : H = 3 * G) (W : Fin G → Fin H → EReal) (b : Fin H → EReal) (gi : ℕ → Fin H → EReal) (a : ℕ)

/-- Before the window the right-aligned state is zero. -/
theorem masked_zero (n : ℕ) (hn : n + a ≤ 7) :
    masked hH W b (fun i => decide (7 - i ≤ a)) gi n = fun _ => 0 := by
  induction n with
  | zero => rfl
  | succ n ih =>
    rw [masked, decide_eq_false (by omega), ih (by omega)]
    rfl

/-- The left-aligned chain `st` ends in the right-aligned chain's state. -/
theorem masked_shift (ha : a ≤ 7) (g : ℕ → Fin H → EReal) (st : ℕ → Fin G → EReal) (h0 : st 0 = fun _ => 0)
    (hs : ∀ n < 8, st (n + 1) = if n < a + 1 then gru hH W b (g n) (st n) else st n)
    (hg : ∀ n ≤ a, g n = gi (7 - a + n)) :
    st 8 = masked hH W b (fun i => decide (7 - i ≤ a)) gi 8 := by
  have key : ∀ n ≤ 8, st n = masked hH W b (fun i => decide (7 - i ≤ a)) gi (7 - a + min n (a + 1)) := by
    intro n
    induction n with
    | zero =>
      intro _
      rw [h0, masked_zero hH W b gi a _ (by omega)]
    | succ n ih =>
      intro hn
      rw [hs n (by omega)]
      by_cases h : n < a + 1
      · rw [if_pos h, ih (by omega), hg n (by omega), show 7 - a + min (n + 1) (a + 1) = 7 - a + n + 1 by omega,
          show 7 - a + min n (a + 1) = 7 - a + n by omega, masked, decide_eq_true (by omega : 7 - (7 - a + n) ≤ a)]
        rfl
      · rw [if_neg h, ih (by omega), show min (n + 1) (a + 1) = min n (a + 1) by omega]
  rw [key 8 le_rfl, show 7 - a + min 8 (a + 1) = 8 by omega]

end Cert.Row

end
-- ==== Proof.ReferenceEncoder.lean ====
module

public import proofs.«01_k».proof.Proof.ReferenceHistory
public import proofs.«01_k».proof.Proof.ReferenceEncoderOps
public import proofs.«01_k».proof.Proof.Shift

/-!
# The reference's encoders and results

Each encoder takes eight steps from the window, left-aligned; its end state is the right-aligned chain's. The two results
are layers on the encoding of the two end states.
-/

@[expose] public section

set_option maxRecDepth 16384

noncomputable section

namespace Cert.ReferenceIdeal.Value

open Cert.ReferenceIdeal Cert.ReferenceIdeal.Batch Cert.ReferenceIdeal.Gen Idealize.ShloMosaic Idealize.ShloMosaic.TcCoe Idealize.SL.Sem

/-! ## The eight steps of each encoder -/

section Chains

variable {F : FTy → Type} [FloatOps F] (V0 : Valuation τ sig (Elt F))

/-- One step of the forward encoder. -/
def ahead (t : Fin 8) (h : FVec F S16384x64 .f32) : FVec F S16384x64 .f32 :=
  keepOf (res_main_v711 V0) (BitVec.ofNat 32 t.val)
    (cell64 (res_main_v739 V0) (layer192 (eighthOf (res_main_v724 V0) t) (res_main_v735 V0) (res_main_v737 V0)) (res_main_v736 V0) (res_main_v738 V0) h) h

/-- The forward encoder's state after `n` steps. -/
def aheadState : ℕ → FVec F S16384x64 .f32
  | 0 => res_main_v740 V0
  | n + 1 => ahead V0 (Fin.ofNat 8 n) (aheadState n)

/-- One step of the backward encoder. -/
def back (t : Fin 8) (h : FVec F S16384x64 .f32) : FVec F S16384x64 .f32 :=
  keepOf (res_main_v713 V0) (BitVec.ofNat 32 t.val)
    (cell64 (res_main_v1025 V0) (layer192 (eighthOf (res_main_v734 V0) t) (res_main_v1021 V0) (res_main_v1023 V0)) (res_main_v1022 V0) (res_main_v1024 V0) h) h

/-- The backward encoder's state after `n` steps. -/
def backState : ℕ → FVec F S16384x64 .f32
  | 0 => res_main_v1026 V0
  | n + 1 => back V0 (Fin.ofNat 8 n) (backState n)

theorem v775_eq : res_main_v775 V0 = ahead V0 0 (aheadState V0 0) := rfl
theorem v810_eq : res_main_v810 V0 = ahead V0 1 (res_main_v775 V0) := rfl
theorem v845_eq : res_main_v845 V0 = ahead V0 2 (res_main_v810 V0) := rfl
theorem v880_eq : res_main_v880 V0 = ahead V0 3 (res_main_v845 V0) := rfl
theorem v915_eq : res_main_v915 V0 = ahead V0 4 (res_main_v880 V0) := rfl
theorem v950_eq : res_main_v950 V0 = ahead V0 5 (res_main_v915 V0) := rfl
theorem v985_eq : res_main_v985 V0 = ahead V0 6 (res_main_v950 V0) := rfl
theorem v1061_eq : res_main_v1061 V0 = back V0 0 (backState V0 0) := rfl
theorem v1096_eq : res_main_v1096 V0 = back V0 1 (res_main_v1061 V0) := rfl
theorem v1131_eq : res_main_v1131 V0 = back V0 2 (res_main_v1096 V0) := rfl
theorem v1166_eq : res_main_v1166 V0 = back V0 3 (res_main_v1131 V0) := rfl
theorem v1201_eq : res_main_v1201 V0 = back V0 4 (res_main_v1166 V0) := rfl
theorem v1236_eq : res_main_v1236 V0 = back V0 5 (res_main_v1201 V0) := rfl
theorem v1271_eq : res_main_v1271 V0 = back V0 6 (res_main_v1236 V0) := rfl

theorem ahead8 : ahead V0 7 (res_main_v985 V0) = aheadState V0 8 := by
  rw [v985_eq, v950_eq, v915_eq, v880_eq, v845_eq, v810_eq, v775_eq]
  rfl

theorem back8 : back V0 7 (res_main_v1271 V0) = backState V0 8 := by
  rw [v1271_eq, v1236_eq, v1201_eq, v1166_eq, v1131_eq, v1096_eq, v1061_eq]
  rfl

theorem v1318_eq : res_main_v1318 V0 = encodeOf (ahead V0 7 (res_main_v985 V0)) (back V0 7 (res_main_v1271 V0))
    (V0 (Proc.devRef .tc main_arg22)) (V0 (Proc.devRef .tc main_arg23)) (V0 (Proc.devRef .tc main_arg24)) (V0 (Proc.devRef .tc main_arg25)) := rfl

end Chains

/-! ## Weights -/

theorem turned_Wi (W : FVec Ideal S192x80 .f32) (k : Fin 80) (n : Fin 192) :
    transpose S80x192 [1, 0] W transposes_S192x80_S80x192_1_0 (ix2 k n) = W (ix2 n k) := by
  pointwise

theorem turned_Wh (W : FVec Ideal S192x64 .f32) (k : Fin 64) (n : Fin 192) :
    transpose S64x192 [1, 0] W transposes_S192x64_S64x192_1_0 (ix2 k n) = W (ix2 n k) := by
  pointwise

theorem row192 (b : FVec Ideal S192 .f32) (n : Fin 192) :
    broadcastInDim S1x192 ![1] bcast_S192_S1x192_1 b (ix2 0 n) = b (ix1 n) := by
  pointwise

section Values

variable (V0 : Valuation τ sig (Elt Ideal))

/-- How far a row's window reaches back. -/
abbrev before (r : Fin 16384) : ℕ := (Row.window (net V0) (seq V0 r) + 1) / 2
/-- How far a row's window reaches ahead. -/
abbrev after (r : Fin 16384) : ℕ := (Row.window (net V0) (seq V0 r) + 2) / 2

theorem before_lt (r : Fin 16384) : before V0 r < 8 := by have := window_lt V0 r; show (_ + 1) / 2 < 8; omega
theorem after_lt (r : Fin 16384) : after V0 r < 8 := by have := window_lt V0 r; show (_ + 2) / 2 < 8; omega

/-! ## What the steps read -/

theorem v709_eq : res_main_v709 V0 = windowOf (obs V0) (act V0) (res_main_v685 V0) (res_main_v686 V0) (iotaInDim S15 32 0) := rfl
theorem v724_eq : res_main_v724 V0 = takeOf (res_main_v709 V0) (wrapOf (aheadOf (res_main_v685 V0) (iotaInDim S8 32 0))) := rfl
theorem v734_eq : res_main_v734 V0 = takeOf (res_main_v709 V0) (wrapOf (backOf (res_main_v686 V0) (iotaInDim S8 32 0))) := rfl

theorem v709_apply (r : Fin 16384) (t : Fin 15) (h1 : 7 - before V0 r ≤ t.val) (h2 : t.val ≤ 7 + after V0 r) (k : Fin 80) :
    (res_main_v709 V0 : FVec Ideal S16384x15x80 .f32) (ix3 r t k) = (seq V0 r).x (7 + t.val) k := by
  have e : Fin.ofNat 22 (7 + t.val) = ⟨7 + t.val, by omega⟩ := Fin.ext (Nat.mod_eq_of_lt (by omega))
  rw [v709_eq, windowOf_apply _ _ _ _ r _ _ (before_lt V0 r) (after_lt V0 r) (v685_apply V0 r) (v686_apply V0 r) t h1 h2,
    Row.Seq.x, e]
  rfl

theorem ahead_place (r : Fin 16384) (i : Fin 8) :
    wrapOf (aheadOf (res_main_v685 V0) (iotaInDim S8 32 0)) (ix3 r i 0) = BitVec.ofNat 32 (7 - before V0 r + i) :=
  aheadOf_apply _ r _ (before_lt V0 r) (v685_apply V0 r) i

theorem back_place (r : Fin 16384) (i : Fin 8) :
    wrapOf (backOf (res_main_v686 V0) (iotaInDim S8 32 0)) (ix3 r i 0) = BitVec.ofNat 32 (7 + after V0 r - i) :=
  backOf_apply _ r _ (after_lt V0 r) (v686_apply V0 r) i

theorem v724_apply (r : Fin 16384) (i : Fin 8) (hi : i.val ≤ before V0 r) (k : Fin 80) :
    (res_main_v724 V0 : FVec Ideal S16384x8x80 .f32) (ix3 r i k) = (seq V0 r).x (7 + (7 - before V0 r + i)) k := by
  have h1 := before_lt V0 r
  rw [v724_eq, takeOf_apply _ _ (fun r i => ⟨⟨7 - before V0 r + i, by omega⟩, ahead_place V0 r i⟩) r i k
    ⟨7 - before V0 r + i, by omega⟩ (ahead_place V0 r i)]
  exact v709_apply V0 r _ (by show _ ≤ 7 - before V0 r + i.val; omega) (by show 7 - before V0 r + i.val ≤ _; omega) k

theorem v734_apply (r : Fin 16384) (i : Fin 8) (hi : i.val ≤ after V0 r) (k : Fin 80) :
    (res_main_v734 V0 : FVec Ideal S16384x8x80 .f32) (ix3 r i k) = (seq V0 r).x (7 + (7 + after V0 r - i)) k := by
  have h1 := after_lt V0 r
  rw [v734_eq, takeOf_apply _ _ (fun r i => ⟨⟨7 + after V0 r - i, by have := after_lt V0 r; omega⟩, back_place V0 r i⟩) r i k
    ⟨7 + after V0 r - i, by omega⟩ (back_place V0 r i)]
  exact v709_apply V0 r _ (by show _ ≤ 7 + after V0 r - i.val; omega) (by show 7 + after V0 r - i.val ≤ _; omega) k

theorem v711_apply (r : Fin 16384) : (res_main_v711 V0 : IVec S16384 32) (ix1 r) = BitVec.ofNat 32 (before V0 r + 1) := by
  show IntOp.addi ((res_main_v685 V0 : IVec S16384 32) (ix1 r)) 1#32 = _
  rw [v685_apply, BitVec.ofNat_add]
  rfl

theorem v713_apply (r : Fin 16384) : (res_main_v713 V0 : IVec S16384 32) (ix1 r) = BitVec.ofNat 32 (after V0 r + 1) := by
  show IntOp.addi ((res_main_v686 V0 : IVec S16384 32) (ix1 r)) 1#32 = _
  rw [v686_apply, BitVec.ofNat_add]
  rfl

/-! ## The end states -/

theorem v739_eq : res_main_v739 V0 = ones64 (F := Ideal) := rfl
theorem v1025_eq : res_main_v1025 V0 = ones64 (F := Ideal) := rfl
theorem v740_eq : res_main_v740 V0 = zeros64 (F := Ideal) := rfl
theorem v1026_eq : res_main_v1026 V0 = zeros64 (F := Ideal) := rfl

/-- The input gates of a forward step. -/
def aheadGates (r : Fin 16384) (n : ℕ) (k : Fin 192) : EReal :=
  Row.lin (net V0).fWi (net V0).fbi (fun k => eighthOf (F := Ideal) (res_main_v724 V0) (Fin.ofNat 8 n) (ix2 r k)) k

/-- The input gates of a backward step. -/
def backGates (r : Fin 16384) (n : ℕ) (k : Fin 192) : EReal :=
  Row.lin (net V0).kWi (net V0).kbi (fun k => eighthOf (F := Ideal) (res_main_v734 V0) (Fin.ofNat 8 n) (ix2 r k)) k

theorem ahead_step (r : Fin 16384) (n : ℕ) (hn : n < 8) :
    (fun j => aheadState V0 (n + 1) (ix2 r j)) = if n < before V0 r + 1
      then Row.gru (H := 192) rfl (net V0).fWh (net V0).fbh (aheadGates V0 r n) (fun j => aheadState V0 n (ix2 r j))
      else fun j => aheadState V0 n (ix2 r j) := by
  have hWi : (fun (k : Fin 80) (n : Fin 192) => (res_main_v735 V0 : FVec Ideal S80x192 .f32) (ix2 k n)) = (net V0).fWi := by
    funext k n; exact turned_Wi _ k n
  have hbi : (fun n : Fin 192 => (res_main_v737 V0 : FVec Ideal S1x192 .f32) (ix2 0 n)) = (net V0).fbi := by
    funext n; exact row192 _ n
  have hWh : (fun (k : Fin 64) (n : Fin 192) => (res_main_v736 V0 : FVec Ideal S64x192 .f32) (ix2 k n)) = (net V0).fWh := by
    funext k n; exact turned_Wh _ k n
  have hbh : (fun n : Fin 192 => (res_main_v738 V0 : FVec Ideal S1x192 .f32) (ix2 0 n)) = (net V0).fbh := by
    funext n; exact row192 _ n
  have e : (Fin.ofNat 8 n).val = n := Nat.mod_eq_of_lt hn
  funext j
  show ahead V0 _ _ _ = _
  rw [ahead, e, keepOf_apply _ n (before V0 r + 1) hn (by have := before_lt V0 r; omega) _ _ r j (v711_apply V0 r), v739_eq, cell64_apply, hWh, hbh]
  simp only [layer192_apply, hWi, hbi]
  split <;> rfl

theorem back_step (r : Fin 16384) (n : ℕ) (hn : n < 8) :
    (fun j => backState V0 (n + 1) (ix2 r j)) = if n < after V0 r + 1
      then Row.gru (H := 192) rfl (net V0).kWh (net V0).kbh (backGates V0 r n) (fun j => backState V0 n (ix2 r j))
      else fun j => backState V0 n (ix2 r j) := by
  have hWi : (fun (k : Fin 80) (n : Fin 192) => (res_main_v1021 V0 : FVec Ideal S80x192 .f32) (ix2 k n)) = (net V0).kWi := by
    funext k n; exact turned_Wi _ k n
  have hbi : (fun n : Fin 192 => (res_main_v1023 V0 : FVec Ideal S1x192 .f32) (ix2 0 n)) = (net V0).kbi := by
    funext n; exact row192 _ n
  have hWh : (fun (k : Fin 64) (n : Fin 192) => (res_main_v1022 V0 : FVec Ideal S64x192 .f32) (ix2 k n)) = (net V0).kWh := by
    funext k n; exact turned_Wh _ k n
  have hbh : (fun n : Fin 192 => (res_main_v1024 V0 : FVec Ideal S1x192 .f32) (ix2 0 n)) = (net V0).kbh := by
    funext n; exact row192 _ n
  have e : (Fin.ofNat 8 n).val = n := Nat.mod_eq_of_lt hn
  funext j
  show back V0 _ _ _ = _
  rw [back, e, keepOf_apply _ n (after V0 r + 1) hn (by have := after_lt V0 r; omega) _ _ r j (v713_apply V0 r), v1025_eq, cell64_apply, hWh, hbh]
  simp only [layer192_apply, hWi, hbi]
  split <;> rfl

theorem aheadState_apply (r : Fin 16384) : (fun j => aheadState V0 8 (ix2 r j)) = Row.forward (net V0) (seq V0 r) 8 := by
  have hb := before_lt V0 r
  have h0 : (fun j => aheadState V0 0 (ix2 r j)) = fun _ => 0 := by
    funext j
    exact zeros64_apply r j
  have hs := ahead_step V0 r
  refine Row.masked_shift rfl (net V0).fWh (net V0).fbh _ (before V0 r) (by omega) (aheadGates V0 r)
    (fun n j => aheadState V0 n (ix2 r j)) h0 hs fun n hn => ?_
  have e : (Fin.ofNat 8 n).val = n := Nat.mod_eq_of_lt (by omega)
  funext k
  refine congrArg (fun x => Row.lin (net V0).fWi (net V0).fbi x k) (funext fun k => ?_)
  show eighthOf (F := Ideal) _ _ _ = _
  rw [eighthOf_apply, v724_apply V0 r _ (by rw [e]; exact hn), e]

theorem backState_apply (r : Fin 16384) : (fun j => backState V0 8 (ix2 r j)) = Row.backward (net V0) (seq V0 r) 8 := by
  have hb := after_lt V0 r
  have h0 : (fun j => backState V0 0 (ix2 r j)) = fun _ => 0 := by
    funext j
    exact zeros64_apply r j
  have hs := back_step V0 r
  refine Row.masked_shift rfl (net V0).kWh (net V0).kbh _ (after V0 r) (by omega) (backGates V0 r)
    (fun n j => backState V0 n (ix2 r j)) h0 hs fun n hn => ?_
  have e : (Fin.ofNat 8 n).val = n := Nat.mod_eq_of_lt (by omega)
  funext k
  refine congrArg (fun x => Row.lin (net V0).kWi (net V0).kbi x k) (funext fun k => ?_)
  show eighthOf (F := Ideal) _ _ _ = _
  rw [eighthOf_apply, v734_apply V0 r _ (by rw [e]; exact hn), e, show 7 + (7 + after V0 r - n) = 21 - (7 - after V0 r + n) by omega]

/-! ## The results -/

theorem v1318_apply (r : Fin 16384) (n : Fin 64) : (res_main_v1318 V0 : FVec Ideal S16384x64 .f32) (ix2 r n) =
    Row.encode (net V0) (Row.forward (net V0) (seq V0 r) 8) (Row.backward (net V0) (seq V0 r) 8) n := by
  rw [v1318_eq, ahead8, back8, encodeOf_apply, aheadState_apply, backState_apply]
  rfl

/-- The first result. -/
def mu : FVec Ideal S16384x64 .f32 :=
  lastOf (res_main_v1318 V0) (V0 (Proc.devRef .tc main_arg26)) (V0 (Proc.devRef .tc main_arg27))

/-- The second result. -/
def sigma : FVec Ideal S16384x64 .f32 :=
  scaledExp (lastOf (res_main_v1318 V0) (V0 (Proc.devRef .tc main_arg28)) (V0 (Proc.devRef .tc main_arg29)))

theorem mu_apply (r : Fin 16384) (n : Fin 64) : mu V0 (ix2 r n) = Row.mu (net V0) (seq V0 r) n := by
  rw [mu, lastOf_apply, funext (fun k => v1318_apply V0 r k)]
  rfl

theorem sigma_apply (r : Fin 16384) (n : Fin 64) : sigma V0 (ix2 r n) = Row.sigma (net V0) (seq V0 r) n := by
  rw [sigma, scaledExp_apply, lastOf_apply, funext (fun k => v1318_apply V0 r k)]
  rfl

end Values

end Cert.ReferenceIdeal.Value

end
-- ==== Proof.Algebraic.lean ====
module

public import proofs.«01_k».proof.Defs
public import proofs.«01_k».proof.Proof.KernelValue
public import proofs.«01_k».proof.Proof.ReferenceEncoder

/-!
# The two programs agree

Both programs compute, at every batch row, the two functions `Row.mu` and `Row.sigma` of the weights and of the row's sequence. On
memories that agree on the arguments the weights and the sequences are the same, and so are the results.
-/

@[expose] public section

set_option maxRecDepth 16384

noncomputable section

namespace Cert.Agree

open Idealize.ShloMosaic Idealize.ShloMosaic.TcCoe Idealize.SL.Sem

section Arguments

variable (m : (ℓ : Loc Cert.KernelIdeal.nD Cert.KernelIdeal.τ Cert.KernelIdeal.sig) → Buf (Elt Ideal) ℓ)
variable (V0 : Valuation Cert.ReferenceIdeal.τ Cert.ReferenceIdeal.sig (Elt Ideal))
variable (c : Dev Cert.KernelIdeal.nD)

/-- The reference's launch contents hold the kernel's arguments. -/
structure Same : Prop where
  h0 : V0 (Proc.devRef .tc Cert.ReferenceIdeal.main_arg0) = m ((c.tc : Thread Cert.KernelIdeal.nD Cert.KernelIdeal.τ).loc Cert.KernelIdeal.main_arg0)
  h1 : V0 (Proc.devRef .tc Cert.ReferenceIdeal.main_arg1) = m ((c.tc : Thread Cert.KernelIdeal.nD Cert.KernelIdeal.τ).loc Cert.KernelIdeal.main_arg1)
  h2 : V0 (Proc.devRef .tc Cert.ReferenceIdeal.main_arg2) = m ((c.tc : Thread Cert.KernelIdeal.nD Cert.KernelIdeal.τ).loc Cert.KernelIdeal.main_arg2)
  h3 : V0 (Proc.devRef .tc Cert.ReferenceIdeal.main_arg3) = m ((c.tc : Thread Cert.KernelIdeal.nD Cert.KernelIdeal.τ).loc Cert.KernelIdeal.main_arg3)
  h4 : V0 (Proc.devRef .tc Cert.ReferenceIdeal.main_arg4) = m ((c.tc : Thread Cert.KernelIdeal.nD Cert.KernelIdeal.τ).loc Cert.KernelIdeal.main_arg4)
  h5 : V0 (Proc.devRef .tc Cert.ReferenceIdeal.main_arg5) = m ((c.tc : Thread Cert.KernelIdeal.nD Cert.KernelIdeal.τ).loc Cert.KernelIdeal.main_arg5)
  h6 : V0 (Proc.devRef .tc Cert.ReferenceIdeal.main_arg6) = m ((c.tc : Thread Cert.KernelIdeal.nD Cert.KernelIdeal.τ).loc Cert.KernelIdeal.main_arg6)
  h7 : V0 (Proc.devRef .tc Cert.ReferenceIdeal.main_arg7) = m ((c.tc : Thread Cert.KernelIdeal.nD Cert.KernelIdeal.τ).loc Cert.KernelIdeal.main_arg7)
  h8 : V0 (Proc.devRef .tc Cert.ReferenceIdeal.main_arg8) = m ((c.tc : Thread Cert.KernelIdeal.nD Cert.KernelIdeal.τ).loc Cert.KernelIdeal.main_arg8)
  h9 : V0 (Proc.devRef .tc Cert.ReferenceIdeal.main_arg9) = m ((c.tc : Thread Cert.KernelIdeal.nD Cert.KernelIdeal.τ).loc Cert.KernelIdeal.main_arg9)
  h10 : V0 (Proc.devRef .tc Cert.ReferenceIdeal.main_arg10) = m ((c.tc : Thread Cert.KernelIdeal.nD Cert.KernelIdeal.τ).loc Cert.KernelIdeal.main_arg10)
  h11 : V0 (Proc.devRef .tc Cert.ReferenceIdeal.main_arg11) = m ((c.tc : Thread Cert.KernelIdeal.nD Cert.KernelIdeal.τ).loc Cert.KernelIdeal.main_arg11)
  h12 : V0 (Proc.devRef .tc Cert.ReferenceIdeal.main_arg12) = m ((c.tc : Thread Cert.KernelIdeal.nD Cert.KernelIdeal.τ).loc Cert.KernelIdeal.main_arg12)
  h13 : V0 (Proc.devRef .tc Cert.ReferenceIdeal.main_arg13) = m ((c.tc : Thread Cert.KernelIdeal.nD Cert.KernelIdeal.τ).loc Cert.KernelIdeal.main_arg13)
  h14 : V0 (Proc.devRef .tc Cert.ReferenceIdeal.main_arg14) = m ((c.tc : Thread Cert.KernelIdeal.nD Cert.KernelIdeal.τ).loc Cert.KernelIdeal.main_arg14)
  h15 : V0 (Proc.devRef .tc Cert.ReferenceIdeal.main_arg15) = m ((c.tc : Thread Cert.KernelIdeal.nD Cert.KernelIdeal.τ).loc Cert.KernelIdeal.main_arg15)
  h16 : V0 (Proc.devRef .tc Cert.ReferenceIdeal.main_arg16) = m ((c.tc : Thread Cert.KernelIdeal.nD Cert.KernelIdeal.τ).loc Cert.KernelIdeal.main_arg16)
  h17 : V0 (Proc.devRef .tc Cert.ReferenceIdeal.main_arg17) = m ((c.tc : Thread Cert.KernelIdeal.nD Cert.KernelIdeal.τ).loc Cert.KernelIdeal.main_arg17)
  h18 : V0 (Proc.devRef .tc Cert.ReferenceIdeal.main_arg18) = m ((c.tc : Thread Cert.KernelIdeal.nD Cert.KernelIdeal.τ).loc Cert.KernelIdeal.main_arg18)
  h19 : V0 (Proc.devRef .tc Cert.ReferenceIdeal.main_arg19) = m ((c.tc : Thread Cert.KernelIdeal.nD Cert.KernelIdeal.τ).loc Cert.KernelIdeal.main_arg19)
  h20 : V0 (Proc.devRef .tc Cert.ReferenceIdeal.main_arg20) = m ((c.tc : Thread Cert.KernelIdeal.nD Cert.KernelIdeal.τ).loc Cert.KernelIdeal.main_arg20)
  h21 : V0 (Proc.devRef .tc Cert.ReferenceIdeal.main_arg21) = m ((c.tc : Thread Cert.KernelIdeal.nD Cert.KernelIdeal.τ).loc Cert.KernelIdeal.main_arg21)
  h22 : V0 (Proc.devRef .tc Cert.ReferenceIdeal.main_arg22) = m ((c.tc : Thread Cert.KernelIdeal.nD Cert.KernelIdeal.τ).loc Cert.KernelIdeal.main_arg22)
  h23 : V0 (Proc.devRef .tc Cert.ReferenceIdeal.main_arg23) = m ((c.tc : Thread Cert.KernelIdeal.nD Cert.KernelIdeal.τ).loc Cert.KernelIdeal.main_arg23)
  h24 : V0 (Proc.devRef .tc Cert.ReferenceIdeal.main_arg24) = m ((c.tc : Thread Cert.KernelIdeal.nD Cert.KernelIdeal.τ).loc Cert.KernelIdeal.main_arg24)
  h25 : V0 (Proc.devRef .tc Cert.ReferenceIdeal.main_arg25) = m ((c.tc : Thread Cert.KernelIdeal.nD Cert.KernelIdeal.τ).loc Cert.KernelIdeal.main_arg25)
  h26 : V0 (Proc.devRef .tc Cert.ReferenceIdeal.main_arg26) = m ((c.tc : Thread Cert.KernelIdeal.nD Cert.KernelIdeal.τ).loc Cert.KernelIdeal.main_arg26)
  h27 : V0 (Proc.devRef .tc Cert.ReferenceIdeal.main_arg27) = m ((c.tc : Thread Cert.KernelIdeal.nD Cert.KernelIdeal.τ).loc Cert.KernelIdeal.main_arg27)
  h28 : V0 (Proc.devRef .tc Cert.ReferenceIdeal.main_arg28) = m ((c.tc : Thread Cert.KernelIdeal.nD Cert.KernelIdeal.τ).loc Cert.KernelIdeal.main_arg28)
  h29 : V0 (Proc.devRef .tc Cert.ReferenceIdeal.main_arg29) = m ((c.tc : Thread Cert.KernelIdeal.nD Cert.KernelIdeal.τ).loc Cert.KernelIdeal.main_arg29)

variable {m V0 c} (h : Same m V0 c)

include h

theorem net_eq : Cert.ReferenceIdeal.Value.net V0 = Cert.KernelIdeal.Body.argNet m c := by
  obtain ⟨h0, h1, h2, h3, h4, h5, h6, h7, h8, h9, h10, h11, h12, h13, h14, h15, h16, h17, h18, h19, h20, h21, h22, h23, h24, h25, h26, h27, h28, h29⟩ := h
  exact (Row.Net.mk.injEq ..).mpr ⟨
    funext fun k => funext fun n => congrFun h2 (ix2 n k),
    funext fun k => funext fun n => congrFun h3 (ix2 n k),
    funext fun n => congrFun h4 (ix1 n),
    funext fun n => congrFun h5 (ix1 n),
    funext fun n => congrFun h6 (ix1 n),
    funext fun n => congrFun h7 (ix1 n),
    funext fun k => funext fun n => congrFun h8 (ix2 n k),
    funext fun n => congrFun h9 (ix1 n),
    funext fun k => funext fun n => congrFun h10 (ix2 n k),
    funext fun n => congrFun h11 (ix1 n),
    funext fun k => funext fun n => congrFun h12 (ix2 n k),
    funext fun n => congrFun h13 (ix1 n),
    funext fun k => funext fun n => congrFun h14 (ix2 n k),
    funext fun k => funext fun n => congrFun h15 (ix2 n k),
    funext fun n => congrFun h16 (ix1 n),
    funext fun n => congrFun h17 (ix1 n),
    funext fun k => funext fun n => congrFun h18 (ix2 n k),
    funext fun k => funext fun n => congrFun h19 (ix2 n k),
    funext fun n => congrFun h20 (ix1 n),
    funext fun n => congrFun h21 (ix1 n),
    funext fun k => funext fun n => congrFun h22 (ix2 n k),
    funext fun n => congrFun h23 (ix1 n),
    funext fun k => funext fun n => congrFun h24 (ix2 n k),
    funext fun n => congrFun h25 (ix1 n),
    funext fun k => funext fun n => congrFun h26 (ix2 n k),
    funext fun n => congrFun h27 (ix1 n),
    funext fun k => funext fun n => congrFun h28 (ix2 n k),
    funext fun n => congrFun h29 (ix1 n)⟩

theorem seq_eq (R : Fin 16384) : Cert.ReferenceIdeal.Value.seq V0 R = Cert.KernelIdeal.Body.argSeq m c R :=
  (Row.Seq.mk.injEq ..).mpr ⟨funext fun t => funext fun j => congrFun h.h0 (ix3 R t j), funext fun t => funext fun j => congrFun h.h1 (ix3 R t j)⟩

theorem mu_eq : Cert.ReferenceIdeal.Value.mu V0 = (Cert.KernelIdeal.Body.dats m 0 c).arrAt 30 Cert.KernelIdeal.cfg0.N := by
  funext i
  obtain ⟨R, n, rfl⟩ : ∃ (R : Fin 16384) (n : Fin 64), i = ix2 R n := ⟨i 0, i 1, by funext a; match a with | 0 => rfl | 1 => rfl⟩
  exact (Cert.ReferenceIdeal.Value.mu_apply V0 R n).trans (by rw [net_eq h, seq_eq h]; exact (Cert.KernelIdeal.Body.mu_row m c R n).symm)

theorem sigma_eq : Cert.ReferenceIdeal.Value.sigma V0 = (Cert.KernelIdeal.Body.dats m 0 c).arrAt 31 Cert.KernelIdeal.cfg0.N := by
  funext i
  obtain ⟨R, n, rfl⟩ : ∃ (R : Fin 16384) (n : Fin 64), i = ix2 R n := ⟨i 0, i 1, by funext a; match a with | 0 => rfl | 1 => rfl⟩
  exact (Cert.ReferenceIdeal.Value.sigma_apply V0 R n).trans (by rw [net_eq h, seq_eq h]; exact (Cert.KernelIdeal.Body.sigma_row m c R n).symm)

end Arguments

/-- From memories that agree on the arguments both programs run, and end with equal results and unchanged arguments. -/
theorem algebraic : Cert.algebraic_KernelIdeal_ReferenceIdeal := by
  intro m g m' g' _ hagree
  have same : ∀ c, Same m (StableHlo.launchContents m' c) c := fun c => by
    obtain ⟨h0, h1, h2, h3, h4, h5, h6, h7, h8, h9, h10, h11, h12, h13, h14, h15, h16, h17, h18, h19, h20, h21, h22, h23, h24, h25, h26, h27, h28, h29, h30⟩ := hagree c
    exact ⟨h0, h1, h2, h3, h4, h5, h6, h7, h8, h9, h10, h11, h12, h13, h14, h15, h16, h17, h18, h19, h20, h21, h22, h23, h24, h25, h26, h27, h28, h29⟩
  refine ⟨fun c => (Cert.KernelIdeal.Body.dats m 0 c).arrAt 30 Cert.KernelIdeal.cfg0.N, fun c => (Cert.KernelIdeal.Body.dats m 0 c).arrAt 30 Cert.KernelIdeal.cfg0.N,
    fun c => (Cert.KernelIdeal.Body.dats m 0 c).arrAt 31 Cert.KernelIdeal.cfg0.N, ?_, ?_⟩
  · exact (θ_run Cert.KernelIdeal.defs _ _).mono (fun r h c => ⟨(h.1 c).1, (h.1 c).1, (h.1 c).2, h.2 c⟩)
      (θ_run_and (Cert.KernelIdeal.Body.results m g) (Cert.KernelIdeal.Body.unchanged m g))
  · exact (θ_run Cert.ReferenceIdeal.defs _ _).mono
      (fun r h c => ⟨(h c).1.trans (mu_eq (same c)), (h c).2.1.trans (mu_eq (same c)), (h c).2.2.1.trans (sigma_eq (same c)), (h c).2.2.2⟩)
      (Cert.ReferenceIdeal.Value.run m' g')

end Cert.Agree

end
-- ==== Proof.lean ====
/- The five claims about the kernel, put together: the three frames, the identity of the kernel and the program read over the
   extended reals, and the equality of that program's results with the reference's. -/
module

public import proofs.«01_k».proof.Defs
public import proofs.«01_k».proof.Proof.KernelFrame
public import proofs.«01_k».proof.Proof.KernelIdealFrame
public import proofs.«01_k».proof.Proof.Algebraic
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The reference runs, leaves its arguments alone, and has no semaphore to leave raised. -/
theorem reference_frame : Cert.quiescent_ReferenceIdeal := by
  intro m g _
  exact (θ_run Cert.ReferenceIdeal.defs _ _).mono (fun r h => ⟨fun c => (h c).2.2.2, sem_eq_zero_of_no_sems (by decide) r.2⟩)
    (Cert.ReferenceIdeal.Value.run m g)

theorem claim : Cert.Claim :=
  ⟨Cert.Kernel.Gen.facts, Cert.KernelIdeal.Gen.facts, Cert.ReferenceIdeal.Gen.facts,
    fun m g _ => Cert.Kernel.Body.frame m g, fun m g _ => Cert.KernelIdeal.Body.frame m g, reference_frame, trivial, Cert.Agree.algebraic⟩

end Cert.Proof

end
